-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_all_finite [hPre_all_finite : Cert.Pre_all_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_all_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_all_finite [hPre_all_finite : Cert.Pre_all_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_all_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ r.2.sem = fun _ => 0)

def quiescent_Kernel2Ideal_pre_all_finite [hKernel2Ideal : Cert.Kernel2Ideal.Facts] [hPre_all_finite : Cert.Pre_all_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_all_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12))
      ∧ r.2.sem = fun _ => 0)

def quiescent_Reference2Ideal_pre_all_finite [hReference2Ideal : Cert.Reference2Ideal.Facts] [hPre_all_finite : Cert.Pre_all_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_all_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v386) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Kernel2_Kernel2Ideal : Prop :=
  True

def algebraic_Kernel2Ideal_Reference2Ideal_pre_all_finite [hKernel2Ideal : Cert.Kernel2Ideal.Facts] [hReference2Ideal : Cert.Reference2Ideal.Facts] [hPre_all_finite : Cert.Pre_all_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_all_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)) →
    ∃ (v0 : (c : Dev Cert.Kernel2Ideal.nD) → Buf (Elt Ideal) ((c.tc : Thread Cert.Kernel2Ideal.nD Cert.Kernel2Ideal.τ).loc Cert.Kernel2Ideal.main_v27_0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v27_0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v85) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_all_finite : Cert.Pre_all_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_all_finite (hKernel2Ideal := hKernel2Ideal) (hPre_all_finite := hPre_all_finite)
    ∧ quiescent_Reference2Ideal (hReference2Ideal := hReference2Ideal)
    ∧ quiescent_Reference2Ideal_pre_all_finite (hReference2Ideal := hReference2Ideal) (hPre_all_finite := hPre_all_finite)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_all_finite (hKernel2Ideal := hKernel2Ideal) (hReference2Ideal := hReference2Ideal) (hPre_all_finite := hPre_all_finite)
-- ==== Pre_all_finite.lean ====
abbrev S2x8192x1024 : Shape := ⟨3, ![2, 8192, 1024]⟩
abbrev S1024 : Shape := ⟨1, ![1024]⟩
abbrev S1024x3088 : Shape := ⟨2, ![1024, 3088]⟩
abbrev S16x256 : Shape := ⟨2, ![16, 256]⟩
abbrev S256 : Shape := ⟨1, ![256]⟩
abbrev S128 : Shape := ⟨1, ![128]⟩
abbrev S3x512 : Shape := ⟨2, ![3, 512]⟩
abbrev S1024x1024 : Shape := ⟨2, ![1024, 1024]⟩
abbrev S1024x4 : Shape := ⟨2, ![1024, 4]⟩
abbrev S4 : Shape := ⟨1, ![4]⟩
abbrev S1024x16 : Shape := ⟨2, ![1024, 16]⟩
abbrev S16 : Shape := ⟨1, ![16]⟩
abbrev S_ : Shape := ⟨0, ![]⟩

class Facts : Prop where
  bcast_S_S2x8192x1024 : S_.BroadcastsInDim S2x8192x1024 (![] : Fin 0 → Fin S2x8192x1024.rank)
  reducesTo_S2x8192x1024_S_d0_1_2 : S2x8192x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x3088 : S_.BroadcastsInDim S1024x3088 (![] : Fin 0 → Fin S1024x3088.rank)
  reducesTo_S1024x3088_S_d0_1 : S1024x3088.ReducesTo [0, 1] S_
  bcast_S_S16x256 : S_.BroadcastsInDim S16x256 (![] : Fin 0 → Fin S16x256.rank)
  reducesTo_S16x256_S_d0_1 : S16x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v3 : IVec S_ 1) (main_v7 : IVec S_ 1) (main_v11 : IVec S_ 1) (main_v15 : IVec S_ 1) : IVec S_ 1 :=
  let main_v16 : FVec F S256 .f32 := Host.absf main_arg4
  let main_cst_6 : FVec F S_ .f32 := constant S_ .f32 0x7F800000#32
  let main_v17 : FVec F S256 .f32 := broadcastInDim S256 ![] bcast_S_S256 main_cst_6
  let main_v18 : IVec S256 1 := cmpf .olt main_v16 main_v17
  let main_c_7 : IVec S_ 1 := constantI S_ 1 1#1
  let main_v19 : IVec S_ 1 := (fun x v => Host.reduce IntOp.andi x v reducesTo_S256_S_d0 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S2x8192x1024 .f32) (main_arg1 : FVec F S1024 .f32) (main_arg2 : FVec F S1024x3088 .f32) (main_arg3 : FVec F S16x256 .f32) (main_arg4 : FVec F S256 .f32) (main_arg5 : FVec F S128 .f32) (main_arg6 : FVec F S3x512 .f32) (main_arg7 : FVec F S1024x1024 .f32) (main_arg8 : FVec F S1024 .f32) (main_arg9 : FVec F S1024x4 .f32) (main_arg10 : FVec F S4 .f32) (main_arg11 : FVec F S1024x16 .f32) (main_arg12 : FVec F S16 .f32) : IVec S_ 1 :=
  let main_v0 : FVec F S2x8192x1024 .f32 := Host.absf main_arg0
  let main_cst : FVec F S_ .f32 := constant S_ .f32 0x7F800000#32
  let main_v1 : FVec F S2x8192x1024 .f32 := broadcastInDim S2x8192x1024 ![] bcast_S_S2x8192x1024 main_cst
  let main_v2 : IVec S2x8192x1024 1 := cmpf .olt main_v0 main_v1
  let main_c : IVec S_ 1 := constantI S_ 1 1#1
  let main_v3 : IVec S_ 1 := (fun x v => Host.reduce IntOp.andi x v reducesTo_S2x8192x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : FVec F S1024x3088 .f32 := Host.absf main_arg2
  let main_cst_2 : FVec F S_ .f32 := constant S_ .f32 0x7F800000#32
  let main_v9 : FVec F S1024x3088 .f32 := broadcastInDim S1024x3088 ![] bcast_S_S1024x3088 main_cst_2
  let main_v10 : IVec S1024x3088 1 := cmpf .olt main_v8 main_v9
  let main_c_3 : IVec S_ 1 := constantI S_ 1 1#1
  let main_v11 : IVec S_ 1 := (fun x v => Host.reduce IntOp.andi x v reducesTo_S1024x3088_S_d0_1 h_S_) main_v10 main_c_3
  let main_v12 : FVec F S16x256 .f32 := Host.absf main_arg3
  let main_cst_4 : FVec F S_ .f32 := constant S_ .f32 0x7F800000#32
  let main_v13 : FVec F S16x256 .f32 := broadcastInDim S16x256 ![] bcast_S_S16x256 main_cst_4
  let main_v14 : IVec S16x256 1 := cmpf .olt main_v12 main_v13
  let main_c_5 : IVec S_ 1 := constantI S_ 1 1#1
  let main_v15 : IVec S_ 1 := (fun x v => Host.reduce IntOp.andi x v reducesTo_S16x256_S_d0_1 h_S_) main_v14 main_c_5
  fn_part1 (F := F) main_arg4 main_v3 main_v7 main_v11 main_v15
-- ==== Kernel.lean ====
abbrev S16384x1024 : Shape := ⟨2, ![16384, 1024]⟩
abbrev S16384x128 : Shape := ⟨2, ![16384, 128]⟩
abbrev S16384x256 : Shape := ⟨2, ![16384, 256]⟩
abbrev S1024 : Shape := ⟨1, ![1024]⟩
abbrev S16x1024x512 : Shape := ⟨3, ![16, 1024, 512]⟩
abbrev S16x512x1024 : Shape := ⟨3, ![16, 512, 1024]⟩
abbrev S1024x1024 : Shape := ⟨2, ![1024, 1024]⟩
abbrev S256x1024 : Shape := ⟨2, ![256, 1024]⟩
abbrev S1x1024 : Shape := ⟨2, ![1, 1024]⟩
abbrev S1024x128 : Shape := ⟨2, ![1024, 128]⟩
abbrev S1024x256 : Shape := ⟨2, ![1024, 256]⟩
abbrev S1x1024x512 : Shape := ⟨3, ![1, 1024, 512]⟩
abbrev S1x512x1024 : Shape := ⟨3, ![1, 512, 1024]⟩
abbrev S1024x1 : Shape := ⟨2, ![1024, 1]⟩
abbrev S1024x512 : Shape := ⟨2, ![1024, 512]⟩
abbrev S512x1024 : Shape := ⟨2, ![512, 1024]⟩

abbrev nBuf : Space → Nat
  | .hbm => 20
  | .vmem => 21
  | .smem => 0
  | _ => 0

abbrev bufTy : (tb : Table) → Fin (tcTables nBuf tb) → BufTy
  | .hbm, ⟨0, _⟩ => ⟨S16384x1024, .f32⟩
  | .hbm, ⟨1, _⟩ => ⟨S16384x128, .f32⟩
  | .hbm, ⟨2, _⟩ => ⟨S16384x256, .f32⟩
  | .hbm, ⟨3, _⟩ => ⟨S1024, .f32⟩
  | .hbm, ⟨4, _⟩ => ⟨S16x1024x512, .f32⟩
  | .hbm, ⟨5, _⟩ => ⟨S16x1024x512, .f32⟩
  | .hbm, ⟨6, _⟩ => ⟨S16x512x1024, .f32⟩
  | .hbm, ⟨7, _⟩ => ⟨S1024, .f32⟩
  | .hbm, ⟨8, _⟩ => ⟨S1024x1024, .f32⟩
  | .hbm, ⟨9, _⟩ => ⟨S256x1024, .f32⟩
  | .hbm, ⟨10, _⟩ => ⟨S1024, .f32⟩
  | .hbm, ⟨11, _⟩ => ⟨S1x1024, .f32⟩
  | .hbm, ⟨12, _⟩ => ⟨S16x1024x512, .bf16⟩
  | .hbm, ⟨13, _⟩ => ⟨S16x1024x512, .bf16⟩
  | .hbm, ⟨14, _⟩ => ⟨S16x512x1024, .bf16⟩
  | .hbm, ⟨15, _⟩ => ⟨S1x1024, .f32⟩
  | .hbm, ⟨16, _⟩ => ⟨S1024x1024, .bf16⟩
  | .hbm, ⟨17, _⟩ => ⟨S256x1024, .bf16⟩
  | .hbm, ⟨18, _⟩ => ⟨S1x1024, .f32⟩
  | .hbm, ⟨19, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x128, .f32⟩
  | .local _ .vmem, ⟨3, _⟩ => ⟨S1024x128, .f32⟩
  | .local _ .vmem, ⟨4, _⟩ => ⟨S1024x256, .f32⟩
  | .local _ .vmem, ⟨5, _⟩ => ⟨S1024x256, .f32⟩
  | .local _ .vmem, ⟨6, _⟩ => ⟨S1x1024, .f32⟩
  | .local _ .vmem, ⟨7, _⟩ => ⟨S1x1024x512, .bf16⟩
  | .local _ .vmem, ⟨8, _⟩ => ⟨S1x1024x512, .bf16⟩
  | .local _ .vmem, ⟨9, _⟩ => ⟨S1x1024x512, .bf16⟩
  | .local _ .vmem, ⟨10, _⟩ => ⟨S1x1024x512, .bf16⟩
  | .local _ .vmem, ⟨11, _⟩ => ⟨S1x512x1024, .bf16⟩
  | .local _ .vmem, ⟨12, _⟩ => ⟨S1x512x1024, .bf16⟩
  | .local _ .vmem, ⟨13, _⟩ => ⟨S1x1024, .f32⟩
  | .local _ .vmem, ⟨14, _⟩ => ⟨S1024x1024, .bf16⟩
  | .local _ .vmem, ⟨15, _⟩ => ⟨S256x1024, .bf16⟩
  | .local _ .vmem, ⟨16, _⟩ => ⟨S1x1024, .f32⟩
  | .local _ .vmem, ⟨17, _⟩ => ⟨S1024x1024, .f32⟩
  | .local _ .vmem, ⟨18, _⟩ => ⟨S1024x1024, .f32⟩
  | .local _ .vmem, ⟨19, _⟩ => ⟨S1024x1024, .bf16⟩
  | .local _ .vmem, ⟨20, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c15_i32 : BitVec 32 := 15#32
  let v32 : BitVec 1 := Scalar.cmpi .eq arg1 c15_i32
  let v33 : BitVec 32 := Scalar.extui v32
  let c0_i32_21 : BitVec 32 := 0#32
  let v34 : BitVec 1 := Scalar.cmpi .ne v33 c0_i32_21
  v34

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1024x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== ReferenceIdeal.lean ====
abbrev S16384x1024 : Shape := ⟨2, ![16384, 1024]⟩
abbrev S16384x128 : Shape := ⟨2, ![16384, 128]⟩
abbrev S16384x256 : Shape := ⟨2, ![16384, 256]⟩
abbrev S1024 : Shape := ⟨1, ![1024]⟩
abbrev S16x1024x512 : Shape := ⟨3, ![16, 1024, 512]⟩
abbrev S16x512x1024 : Shape := ⟨3, ![16, 512, 1024]⟩
abbrev S1024x1024 : Shape := ⟨2, ![1024, 1024]⟩
abbrev S256x1024 : Shape := ⟨2, ![256, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1x1024x512 : Shape := ⟨3, ![1, 1024, 512]⟩
abbrev S1024x512 : Shape := ⟨2, ![1024, 512]⟩
abbrev S16384x512 : Shape := ⟨2, ![16384, 512]⟩
abbrev S1x512x1024 : Shape := ⟨3, ![1, 512, 1024]⟩
abbrev S512x1024 : Shape := ⟨2, ![512, 1024]⟩

abbrev nBuf : Space → Nat
  | .hbm => 442
  | .vmem => 0
  | .smem => 0
  | _ => 0

abbrev hbmTy0_0 (i : Nat) : BufTy := match i % 128 with
  | 0 => ⟨S16384x1024, .f32⟩
  | 1 => ⟨S16384x128, .f32⟩
  | 2 => ⟨S16384x256, .f32⟩
  | 3 => ⟨S1024, .f32⟩
  | 4 => ⟨S16x1024x512, .f32⟩
  | 5 => ⟨S16x1024x512, .f32⟩
  | 6 => ⟨S16x512x1024, .f32⟩
  | 7 => ⟨S1024, .f32⟩
  | 8 => ⟨S1024x1024, .f32⟩
  | 9 => ⟨S256x1024, .f32⟩
  | 10 => ⟨S1024, .f32⟩
  | 11 => ⟨S16384x1024, .f32⟩
  | 12 => ⟨S_, .f32⟩
  | 13 => ⟨S16384, .f32⟩
  | 14 => ⟨S16384x1, .f32⟩
  | 15 => ⟨S_, .f32⟩
  | 16 => ⟨S16384x1, .f32⟩
  | 17 => ⟨S16384x1, .f32⟩
  | 18 => ⟨S_, .f32⟩
  | 19 => ⟨S16384x1, .f32⟩
  | 20 => ⟨S16384x1, .f32⟩
  | 21 => ⟨S16384x1, .f32⟩
  | 22 => ⟨S16384x1024, .f32⟩
  | 23 => ⟨S16384x1024, .f32⟩
  | 24 => ⟨S1x1024, .f32⟩
  | 25 => ⟨S16384x1024, .f32⟩
  | 26 => ⟨S16384x1024, .f32⟩
  | 27 => ⟨S_, .f32⟩
  | 28 => ⟨S16384x1024, .f32⟩
  | 29 => ⟨S1x1024x512, .f32⟩
  | 30 => ⟨S1024x512, .f32⟩
  | 31 => ⟨S16384x512, .f32⟩
  | 32 => ⟨S16384x512, .f32⟩
  | 33 => ⟨S16384x512, .f32⟩
  | 34 => ⟨S_, .f32⟩
  | 35 => ⟨S16384x512, .f32⟩
  | 36 => ⟨S16384x512, .f32⟩
  | 37 => ⟨S_, .f32⟩
  | 38 => ⟨S16384x512, .f32⟩
  | 39 => ⟨S16384x512, .f32⟩
  | 40 => ⟨S16384x512, .f32⟩
  | 41 => ⟨S1x1024x512, .f32⟩
  | 42 => ⟨S1024x512, .f32⟩
  | 43 => ⟨S16384x512, .f32⟩
  | 44 => ⟨S16384x512, .f32⟩
  | 45 => ⟨S16384x1, .f32⟩
  | 46 => ⟨S1x512x1024, .f32⟩
  | 47 => ⟨S512x1024, .f32⟩
  | 48 => ⟨S16384x1024, .f32⟩
  | 49 => ⟨S16384x1024, .f32⟩
  | 50 => ⟨S16384x1024, .f32⟩
  | 51 => ⟨S16384x1024, .f32⟩
  | 52 => ⟨S1x1024x512, .f32⟩
  | 53 => ⟨S1024x512, .f32⟩
  | 54 => ⟨S16384x512, .f32⟩
  | 55 => ⟨S16384x512, .f32⟩
  | 56 => ⟨S16384x512, .f32⟩
  | 57 => ⟨S_, .f32⟩
  | 58 => ⟨S16384x512, .f32⟩
  | 59 => ⟨S16384x512, .f32⟩
  | 60 => ⟨S_, .f32⟩
  | 61 => ⟨S16384x512, .f32⟩
  | 62 => ⟨S16384x512, .f32⟩
  | 63 => ⟨S16384x512, .f32⟩
  | 64 => ⟨S1x1024x512, .f32⟩
  | 65 => ⟨S1024x512, .f32⟩
  | 66 => ⟨S16384x512, .f32⟩
  | 67 => ⟨S16384x512, .f32⟩
  | 68 => ⟨S16384x1, .f32⟩
  | 69 => ⟨S1x512x1024, .f32⟩
  | 70 => ⟨S512x1024, .f32⟩
  | 71 => ⟨S16384x1024, .f32⟩
  | 72 => ⟨S16384x1024, .f32⟩
  | 73 => ⟨S16384x1024, .f32⟩
  | 74 => ⟨S16384x1024, .f32⟩
  | 75 => ⟨S1x1024x512, .f32⟩
  | 76 => ⟨S1024x512, .f32⟩
  | 77 => ⟨S16384x512, .f32⟩
  | 78 => ⟨S16384x512, .f32⟩
  | 79 => ⟨S16384x512, .f32⟩
  | 80 => ⟨S_, .f32⟩
  | 81 => ⟨S16384x512, .f32⟩
  | 82 => ⟨S16384x512, .f32⟩
  | 83 => ⟨S_, .f32⟩
  | 84 => ⟨S16384x512, .f32⟩
  | 85 => ⟨S16384x512, .f32⟩
  | 86 => ⟨S16384x512, .f32⟩
  | 87 => ⟨S1x1024x512, .f32⟩
  | 88 => ⟨S1024x512, .f32⟩
  | 89 => ⟨S16384x512, .f32⟩
  | 90 => ⟨S16384x512, .f32⟩
  | 91 => ⟨S16384x1, .f32⟩
  | 92 => ⟨S1x512x1024, .f32⟩
  | 93 => ⟨S512x1024, .f32⟩
  | 94 => ⟨S16384x1024, .f32⟩
  | 95 => ⟨S16384x1024, .f32⟩
  | 96 => ⟨S16384x1024, .f32⟩
  | 97 => ⟨S16384x1024, .f32⟩
  | 98 => ⟨S1x1024x512, .f32⟩
  | 99 => ⟨S1024x512, .f32⟩
  | 100 => ⟨S16384x512, .f32⟩
  | 101 => ⟨S16384x512, .f32⟩
  | 102 => ⟨S16384x512, .f32⟩
  | 103 => ⟨S_, .f32⟩
  | 104 => ⟨S16384x512, .f32⟩
  | 105 => ⟨S16384x512, .f32⟩
  | 106 => ⟨S_, .f32⟩
  | 107 => ⟨S16384x512, .f32⟩
  | 108 => ⟨S16384x512, .f32⟩
  | 109 => ⟨S16384x512, .f32⟩
  | 110 => ⟨S1x1024x512, .f32⟩
  | 111 => ⟨S1024x512, .f32⟩
  | 112 => ⟨S16384x512, .f32⟩
  | 113 => ⟨S16384x512, .f32⟩
  | 114 => ⟨S16384x1, .f32⟩
  | 115 => ⟨S1x512x1024, .f32⟩
  | 116 => ⟨S512x1024, .f32⟩
  | 117 => ⟨S16384x1024, .f32⟩
  | 118 => ⟨S16384x1024, .f32⟩
  | 119 => ⟨S16384x1024, .f32⟩
  | 120 => ⟨S16384x1024, .f32⟩
  | 121 => ⟨S1x1024x512, .f32⟩
  | 122 => ⟨S1024x512, .f32⟩
  | 123 => ⟨S16384x512, .f32⟩
  | 124 => ⟨S16384x512, .f32⟩
  | 125 => ⟨S16384x512, .f32⟩
  | 126 => ⟨S_, .f32⟩
  | 127 => ⟨S16384x512, .f32⟩
  | _ => ⟨S16384x1024, .f32⟩

abbrev hbmTy0_1 (i : Nat) : BufTy := match i % 128 with
  | 0 => ⟨S16384x512, .f32⟩
  | 1 => ⟨S_, .f32⟩
  | 2 => ⟨S16384x512, .f32⟩
  | 3 => ⟨S16384x512, .f32⟩
  | 4 => ⟨S16384x512, .f32⟩
  | 5 => ⟨S1x1024x512, .f32⟩
  | 6 => ⟨S1024x512, .f32⟩
  | 7 => ⟨S16384x512, .f32⟩
  | 8 => ⟨S16384x512, .f32⟩
  | 9 => ⟨S16384x1, .f32⟩
  | 10 => ⟨S1x512x1024, .f32⟩
  | 11 => ⟨S512x1024, .f32⟩
  | 12 => ⟨S16384x1024, .f32⟩
  | 13 => ⟨S16384x1024, .f32⟩
  | 14 => ⟨S16384x1024, .f32⟩
  | 15 => ⟨S16384x1024, .f32⟩
  | 16 => ⟨S1x1024x512, .f32⟩
  | 17 => ⟨S1024x512, .f32⟩
  | 18 => ⟨S16384x512, .f32⟩
  | 19 => ⟨S16384x512, .f32⟩
  | 20 => ⟨S16384x512, .f32⟩
  | 21 => ⟨S_, .f32⟩
  | 22 => ⟨S16384x512, .f32⟩
  | 23 => ⟨S16384x512, .f32⟩
  | 24 => ⟨S_, .f32⟩
  | 25 => ⟨S16384x512, .f32⟩
  | 26 => ⟨S16384x512, .f32⟩
  | 27 => ⟨S16384x512, .f32⟩
  | 28 => ⟨S1x1024x512, .f32⟩
  | 29 => ⟨S1024x512, .f32⟩
  | 30 => ⟨S16384x512, .f32⟩
  | 31 => ⟨S16384x512, .f32⟩
  | 32 => ⟨S16384x1, .f32⟩
  | 33 => ⟨S1x512x1024, .f32⟩
  | 34 => ⟨S512x1024, .f32⟩
  | 35 => ⟨S16384x1024, .f32⟩
  | 36 => ⟨S16384x1024, .f32⟩
  | 37 => ⟨S16384x1024, .f32⟩
  | 38 => ⟨S16384x1024, .f32⟩
  | 39 => ⟨S1x1024x512, .f32⟩
  | 40 => ⟨S1024x512, .f32⟩
  | 41 => ⟨S16384x512, .f32⟩
  | 42 => ⟨S16384x512, .f32⟩
  | 43 => ⟨S16384x512, .f32⟩
  | 44 => ⟨S_, .f32⟩
  | 45 => ⟨S16384x512, .f32⟩
  | 46 => ⟨S16384x512, .f32⟩
  | 47 => ⟨S_, .f32⟩
  | 48 => ⟨S16384x512, .f32⟩
  | 49 => ⟨S16384x512, .f32⟩
  | 50 => ⟨S16384x512, .f32⟩
  | 51 => ⟨S1x1024x512, .f32⟩
  | 52 => ⟨S1024x512, .f32⟩
  | 53 => ⟨S16384x512, .f32⟩
  | 54 => ⟨S16384x512, .f32⟩
  | 55 => ⟨S16384x1, .f32⟩
  | 56 => ⟨S1x512x1024, .f32⟩
  | 57 => ⟨S512x1024, .f32⟩
  | 58 => ⟨S16384x1024, .f32⟩
  | 59 => ⟨S16384x1024, .f32⟩
  | 60 => ⟨S16384x1024, .f32⟩
  | 61 => ⟨S16384x1024, .f32⟩
  | 62 => ⟨S1x1024x512, .f32⟩
  | 63 => ⟨S1024x512, .f32⟩
  | 64 => ⟨S16384x512, .f32⟩
  | 65 => ⟨S16384x512, .f32⟩
  | 66 => ⟨S16384x512, .f32⟩
  | 67 => ⟨S_, .f32⟩
  | 68 => ⟨S16384x512, .f32⟩
  | 69 => ⟨S16384x512, .f32⟩
  | 70 => ⟨S_, .f32⟩
  | 71 => ⟨S16384x512, .f32⟩
  | 72 => ⟨S16384x512, .f32⟩
  | 73 => ⟨S16384x512, .f32⟩
  | 74 => ⟨S1x1024x512, .f32⟩
  | 75 => ⟨S1024x512, .f32⟩
  | 76 => ⟨S16384x512, .f32⟩
  | 77 => ⟨S16384x512, .f32⟩
  | 78 => ⟨S16384x1, .f32⟩
  | 79 => ⟨S1x512x1024, .f32⟩
  | 80 => ⟨S512x1024, .f32⟩
  | 81 => ⟨S16384x1024, .f32⟩
  | 82 => ⟨S16384x1024, .f32⟩
  | 83 => ⟨S16384x1024, .f32⟩
  | 84 => ⟨S16384x1024, .f32⟩
  | 85 => ⟨S1x1024x512, .f32⟩
  | 86 => ⟨S1024x512, .f32⟩
  | 87 => ⟨S16384x512, .f32⟩
  | 88 => ⟨S16384x512, .f32⟩
  | 89 => ⟨S16384x512, .f32⟩
  | 90 => ⟨S_, .f32⟩
  | 91 => ⟨S16384x512, .f32⟩
  | 92 => ⟨S16384x512, .f32⟩
  | 93 => ⟨S_, .f32⟩
  | 94 => ⟨S16384x512, .f32⟩
  | 95 => ⟨S16384x512, .f32⟩
  | 96 => ⟨S16384x512, .f32⟩
  | 97 => ⟨S1x1024x512, .f32⟩
  | 98 => ⟨S1024x512, .f32⟩
  | 99 => ⟨S16384x512, .f32⟩
  | 100 => ⟨S16384x512, .f32⟩
  | 101 => ⟨S16384x1, .f32⟩
  | 102 => ⟨S1x512x1024, .f32⟩
  | 103 => ⟨S512x1024, .f32⟩
  | 104 => ⟨S16384x1024, .f32⟩
  | 105 => ⟨S16384x1024, .f32⟩
  | 106 => ⟨S16384x1024, .f32⟩
  | 107 => ⟨S16384x1024, .f32⟩
  | 108 => ⟨S1x1024x512, .f32⟩
  | 109 => ⟨S1024x512, .f32⟩
  | 110 => ⟨S16384x512, .f32⟩
  | 111 => ⟨S16384x512, .f32⟩
  | 112 => ⟨S16384x512, .f32⟩
  | 113 => ⟨S_, .f32⟩
  | 114 => ⟨S16384x512, .f32⟩
  | 115 => ⟨S16384x512, .f32⟩
  | 116 => ⟨S_, .f32⟩
  | 117 => ⟨S16384x512, .f32⟩
  | 118 => ⟨S16384x512, .f32⟩
  | 119 => ⟨S16384x512, .f32⟩
  | 120 => ⟨S1x1024x512, .f32⟩
  | 121 => ⟨S1024x512, .f32⟩
  | 122 => ⟨S16384x512, .f32⟩
  | 123 => ⟨S16384x512, .f32⟩
  | 124 => ⟨S16384x1, .f32⟩
  | 125 => ⟨S1x512x1024, .f32⟩
  | 126 => ⟨S512x1024, .f32⟩
  | 127 => ⟨S16384x1024, .f32⟩
  | _ => ⟨S16384x1024, .f32⟩

abbrev hbmTy0_2 (i : Nat) : BufTy := match i % 128 with
  | 0 => ⟨S16384x1024, .f32⟩
  | 1 => ⟨S16384x1024, .f32⟩
  | 2 => ⟨S16384x1024, .f32⟩
  | 3 => ⟨S1x1024x512, .f32⟩
  | 4 => ⟨S1024x512, .f32⟩
  | 5 => ⟨S16384x512, .f32⟩
  | 6 => ⟨S16384x512, .f32⟩
  | 7 => ⟨S16384x512, .f32⟩
  | 8 => ⟨S_, .f32⟩
  | 9 => ⟨S16384x512, .f32⟩
  | 10 => ⟨S16384x512, .f32⟩
  | 11 => ⟨S_, .f32⟩
  | 12 => ⟨S16384x512, .f32⟩
  | 13 => ⟨S16384x512, .f32⟩
  | 14 => ⟨S16384x512, .f32⟩
  | 15 => ⟨S1x1024x512, .f32⟩
  | 16 => ⟨S1024x512, .f32⟩
  | 17 => ⟨S16384x512, .f32⟩
  | 18 => ⟨S16384x512, .f32⟩
  | 19 => ⟨S16384x1, .f32⟩
  | 20 => ⟨S1x512x1024, .f32⟩
  | 21 => ⟨S512x1024, .f32⟩
  | 22 => ⟨S16384x1024, .f32⟩
  | 23 => ⟨S16384x1024, .f32⟩
  | 24 => ⟨S16384x1024, .f32⟩
  | 25 => ⟨S16384x1024, .f32⟩
  | 26 => ⟨S1x1024x512, .f32⟩
  | 27 => ⟨S1024x512, .f32⟩
  | 28 => ⟨S16384x512, .f32⟩
  | 29 => ⟨S16384x512, .f32⟩
  | 30 => ⟨S16384x512, .f32⟩
  | 31 => ⟨S_, .f32⟩
  | 32 => ⟨S16384x512, .f32⟩
  | 33 => ⟨S16384x512, .f32⟩
  | 34 => ⟨S_, .f32⟩
  | 35 => ⟨S16384x512, .f32⟩
  | 36 => ⟨S16384x512, .f32⟩
  | 37 => ⟨S16384x512, .f32⟩
  | 38 => ⟨S1x1024x512, .f32⟩
  | 39 => ⟨S1024x512, .f32⟩
  | 40 => ⟨S16384x512, .f32⟩
  | 41 => ⟨S16384x512, .f32⟩
  | 42 => ⟨S16384x1, .f32⟩
  | 43 => ⟨S1x512x1024, .f32⟩
  | 44 => ⟨S512x1024, .f32⟩
  | 45 => ⟨S16384x1024, .f32⟩
  | 46 => ⟨S16384x1024, .f32⟩
  | 47 => ⟨S16384x1024, .f32⟩
  | 48 => ⟨S16384x1024, .f32⟩
  | 49 => ⟨S1x1024x512, .f32⟩
  | 50 => ⟨S1024x512, .f32⟩
  | 51 => ⟨S16384x512, .f32⟩
  | 52 => ⟨S16384x512, .f32⟩
  | 53 => ⟨S16384x512, .f32⟩
  | 54 => ⟨S_, .f32⟩
  | 55 => ⟨S16384x512, .f32⟩
  | 56 => ⟨S16384x512, .f32⟩
  | 57 => ⟨S_, .f32⟩
  | 58 => ⟨S16384x512, .f32⟩
  | 59 => ⟨S16384x512, .f32⟩
  | 60 => ⟨S16384x512, .f32⟩
  | 61 => ⟨S1x1024x512, .f32⟩
  | 62 => ⟨S1024x512, .f32⟩
  | 63 => ⟨S16384x512, .f32⟩
  | 64 => ⟨S16384x512, .f32⟩
  | 65 => ⟨S16384x1, .f32⟩
  | 66 => ⟨S1x512x1024, .f32⟩
  | 67 => ⟨S512x1024, .f32⟩
  | 68 => ⟨S16384x1024, .f32⟩
  | 69 => ⟨S16384x1024, .f32⟩
  | 70 => ⟨S16384x1024, .f32⟩
  | 71 => ⟨S16384x1024, .f32⟩
  | 72 => ⟨S1x1024x512, .f32⟩
  | 73 => ⟨S1024x512, .f32⟩
  | 74 => ⟨S16384x512, .f32⟩
  | 75 => ⟨S16384x512, .f32⟩
  | 76 => ⟨S16384x512, .f32⟩
  | 77 => ⟨S_, .f32⟩
  | 78 => ⟨S16384x512, .f32⟩
  | 79 => ⟨S16384x512, .f32⟩
  | 80 => ⟨S_, .f32⟩
  | 81 => ⟨S16384x512, .f32⟩
  | 82 => ⟨S16384x512, .f32⟩
  | 83 => ⟨S16384x512, .f32⟩
  | 84 => ⟨S1x1024x512, .f32⟩
  | 85 => ⟨S1024x512, .f32⟩
  | 86 => ⟨S16384x512, .f32⟩
  | 87 => ⟨S16384x512, .f32⟩
  | 88 => ⟨S16384x1, .f32⟩
  | 89 => ⟨S1x512x1024, .f32⟩
  | 90 => ⟨S512x1024, .f32⟩
  | 91 => ⟨S16384x1024, .f32⟩
  | 92 => ⟨S16384x1024, .f32⟩
  | 93 => ⟨S16384x1024, .f32⟩
  | 94 => ⟨S16384x1024, .f32⟩
  | 95 => ⟨S1x1024x512, .f32⟩
  | 96 => ⟨S1024x512, .f32⟩
  | 97 => ⟨S16384x512, .f32⟩
  | 98 => ⟨S16384x512, .f32⟩
  | 99 => ⟨S16384x512, .f32⟩
  | 100 => ⟨S_, .f32⟩
  | 101 => ⟨S16384x512, .f32⟩
  | 102 => ⟨S16384x512, .f32⟩
  | 103 => ⟨S_, .f32⟩
  | 104 => ⟨S16384x512, .f32⟩
  | 105 => ⟨S16384x512, .f32⟩
  | 106 => ⟨S16384x512, .f32⟩
  | 107 => ⟨S1x1024x512, .f32⟩
  | 108 => ⟨S1024x512, .f32⟩
  | 109 => ⟨S16384x512, .f32⟩
  | 110 => ⟨S16384x512, .f32⟩
  | 111 => ⟨S16384x1, .f32⟩
  | 112 => ⟨S1x512x1024, .f32⟩
  | 113 => ⟨S512x1024, .f32⟩
  | 114 => ⟨S16384x1024, .f32⟩
  | 115 => ⟨S16384x1024, .f32⟩
  | 116 => ⟨S16384x1024, .f32⟩
  | 117 => ⟨S16384x1024, .f32⟩
  | 118 => ⟨S1x1024x512, .f32⟩
  | 119 => ⟨S1024x512, .f32⟩
  | 120 => ⟨S16384x512, .f32⟩
  | 121 => ⟨S16384x512, .f32⟩
  | 122 => ⟨S16384x512, .f32⟩
  | 123 => ⟨S_, .f32⟩
  | 124 => ⟨S16384x512, .f32⟩
  | 125 => ⟨S16384x512, .f32⟩
  | 126 => ⟨S_, .f32⟩
  | 127 => ⟨S16384x512, .f32⟩
  | _ => ⟨S16384x1024, .f32⟩

abbrev hbmTy0_3 (i : Nat) : BufTy := match i % 128 with
  | 0 => ⟨S16384x512, .f32⟩
  | 1 => ⟨S16384x512, .f32⟩
  | 2 => ⟨S1x1024x512, .f32⟩
  | 3 => ⟨S1024x512, .f32⟩
  | 4 => ⟨S16384x512, .f32⟩
  | 5 => ⟨S16384x512, .f32⟩
  | 6 => ⟨S16384x1, .f32⟩
  | 7 => ⟨S1x512x1024, .f32⟩
  | 8 => ⟨S512x1024, .f32⟩
  | 9 => ⟨S16384x1024, .f32⟩
  | 10 => ⟨S16384x1024, .f32⟩
  | 11 => ⟨S16384x1024, .f32⟩
  | 12 => ⟨S16384x1024, .f32⟩
  | 13 => ⟨S16384x1024, .f32⟩
  | 14 => ⟨S16384x1024, .f32⟩
  | 15 => ⟨S_, .f32⟩
  | 16 => ⟨S16384, .f32⟩
  | 17 => ⟨S16384x1, .f32⟩
  | 18 => ⟨S_, .f32⟩
  | 19 => ⟨S16384x1, .f32⟩
  | 20 => ⟨S16384x1, .f32⟩
  | 21 => ⟨S_, .f32⟩
  | 22 => ⟨S16384x1, .f32⟩
  | 23 => ⟨S16384x1, .f32⟩
  | 24 => ⟨S16384x1, .f32⟩
  | 25 => ⟨S16384x1024, .f32⟩
  | 26 => ⟨S16384x1024, .f32⟩
  | 27 => ⟨S1x1024, .f32⟩
  | 28 => ⟨S16384x1024, .f32⟩
  | 29 => ⟨S16384x1024, .f32⟩
  | 30 => ⟨S16384x1024, .f32⟩
  | 31 => ⟨S16384x1024, .f32⟩
  | 32 => ⟨S16384x1024, .f32⟩
  | 33 => ⟨S_, .f32⟩
  | 34 => ⟨S16384x1024, .f32⟩
  | 35 => ⟨S16384x1024, .f32⟩
  | 36 => ⟨S_, .f32⟩
  | 37 => ⟨S16384x1024, .f32⟩
  | 38 => ⟨S16384x1024, .f32⟩
  | 39 => ⟨S16384x1024, .f32⟩
  | 40 => ⟨S16384x1024, .f32⟩
  | 41 => ⟨S16384x1024, .f32⟩
  | 42 => ⟨S16384x1024, .f32⟩
  | 43 => ⟨S_, .f32⟩
  | 44 => ⟨S16384, .f32⟩
  | 45 => ⟨S16384x1, .f32⟩
  | 46 => ⟨S_, .f32⟩
  | 47 => ⟨S16384x1, .f32⟩
  | 48 => ⟨S16384x1, .f32⟩
  | 49 => ⟨S_, .f32⟩
  | 50 => ⟨S16384x1, .f32⟩
  | 51 => ⟨S16384x1, .f32⟩
  | 52 => ⟨S16384x1, .f32⟩
  | 53 => ⟨S16384x1024, .f32⟩
  | 54 => ⟨S16384x1024, .f32⟩
  | 55 => ⟨S1x1024, .f32⟩
  | 56 => ⟨S16384x1024, .f32⟩
  | 57 => ⟨S16384x1024, .f32⟩
  | _ => ⟨S16384x1024, .f32⟩

abbrev hbmTy (i : Nat) : BufTy := match i / 128 with
  | 0 => hbmTy0_0 i
  | 1 => hbmTy0_1 i
  | 2 => hbmTy0_2 i
  | 3 => hbmTy0_3 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_3 : Ref sig .tc := ⟨.hbm, 34, rfl⟩
abbrev main_v19 : Ref sig .tc := ⟨.hbm, 35, rfl⟩
abbrev main_v20 : Ref sig .tc := ⟨.hbm, 36, rfl⟩
abbrev main_cst_4 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_5 : Ref sig .tc := ⟨.hbm, 57, rfl⟩
abbrev main_v40 : Ref sig .tc := ⟨.hbm, 58, rfl⟩
abbrev main_v41 : Ref sig .tc := ⟨.hbm, 59, rfl⟩
abbrev main_cst_6 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_7 : Ref sig .tc := ⟨.hbm, 80, rfl⟩
abbrev main_v61 : Ref sig .tc := ⟨.hbm, 81, rfl⟩
abbrev main_v62 : Ref sig .tc := ⟨.hbm, 82, rfl⟩
abbrev main_cst_8 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_cst_9 : Ref sig .tc := ⟨.hbm, 103, rfl⟩
abbrev main_v82 : Ref sig .tc := ⟨.hbm, 104, rfl⟩
abbrev main_v83 : Ref sig .tc := ⟨.hbm, 105, rfl⟩
abbrev main_cst_10 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_cst_11 : Ref sig .tc := ⟨.hbm, 126, rfl⟩
abbrev main_v103 : Ref sig .tc := ⟨.hbm, 127, rfl⟩
abbrev main_v104 : Ref sig .tc := ⟨.hbm, 128, rfl⟩
abbrev main_cst_12 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_cst_13 : Ref sig .tc := ⟨.hbm, 149, rfl⟩
abbrev main_v124 : Ref sig .tc := ⟨.hbm, 150, rfl⟩
abbrev main_v125 : Ref sig .tc := ⟨.hbm, 151, rfl⟩
abbrev main_cst_14 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩
abbrev main_v135 : Ref sig .tc := ⟨.hbm, 162, rfl⟩
abbrev main_v136 : Ref sig .tc := ⟨.hbm, 163, rfl⟩
abbrev main_v137 : Ref sig .tc := ⟨.hbm, 164, rfl⟩
abbrev main_v138 : Ref sig .tc := ⟨.hbm, 165, rfl⟩
abbrev main_v139 : Ref sig .tc := ⟨.hbm, 166, rfl⟩
abbrev main_v140 : Ref sig .tc := ⟨.hbm, 167, rfl⟩
abbrev main_v141 : Ref sig .tc := ⟨.hbm, 168, rfl⟩
abbrev main_v142 : Ref sig .tc := ⟨.hbm, 169, rfl⟩
abbrev main_v143 : Ref sig .tc := ⟨.hbm, 170, rfl⟩
abbrev main_v144 : Ref sig .tc := ⟨.hbm, 171, rfl⟩
abbrev main_cst_15 : Ref sig .tc := ⟨.hbm, 172, rfl⟩
abbrev main_v145 : Ref sig .tc := ⟨.hbm, 173, rfl⟩
abbrev main_v146 : Ref sig .tc := ⟨.hbm, 174, rfl⟩
abbrev main_cst_16 : Ref sig .tc := ⟨.hbm, 175, rfl⟩
abbrev main_v147 : Ref sig .tc := ⟨.hbm, 176, rfl⟩
abbrev main_v148 : Ref sig .tc := ⟨.hbm, 177, rfl⟩
abbrev main_v149 : Ref sig .tc := ⟨.hbm, 178, rfl⟩
abbrev main_v150 : Ref sig .tc := ⟨.hbm, 179, rfl⟩
abbrev main_v151 : Ref sig .tc := ⟨.hbm, 180, rfl⟩
abbrev main_v152 : Ref sig .tc := ⟨.hbm, 181, rfl⟩
abbrev main_v153 : Ref sig .tc := ⟨.hbm, 182, rfl⟩
abbrev main_v154 : Ref sig .tc := ⟨.hbm, 183, rfl⟩
abbrev main_v155 : Ref sig .tc := ⟨.hbm, 184, rfl⟩
abbrev main_v156 : Ref sig .tc := ⟨.hbm, 185, rfl⟩
abbrev main_v157 : Ref sig .tc := ⟨.hbm, 186, rfl⟩
abbrev main_v158 : Ref sig .tc := ⟨.hbm, 187, rfl⟩
abbrev main_v159 : Ref sig .tc := ⟨.hbm, 188, rfl⟩
abbrev main_v160 : Ref sig .tc := ⟨.hbm, 189, rfl⟩
abbrev main_v161 : Ref sig .tc := ⟨.hbm, 190, rfl⟩
abbrev main_v162 : Ref sig .tc := ⟨.hbm, 191, rfl⟩
abbrev main_v163 : Ref sig .tc := ⟨.hbm, 192, rfl⟩
abbrev main_v164 : Ref sig .tc := ⟨.hbm, 193, rfl⟩
abbrev main_v165 : Ref sig .tc := ⟨.hbm, 194, rfl⟩
abbrev main_cst_17 : Ref sig .tc := ⟨.hbm, 195, rfl⟩
abbrev main_v166 : Ref sig .tc := ⟨.hbm, 196, rfl⟩
abbrev main_v167 : Ref sig .tc := ⟨.hbm, 197, rfl⟩
abbrev main_cst_18 : Ref sig .tc := ⟨.hbm, 198, rfl⟩
abbrev main_v168 : Ref sig .tc := ⟨.hbm, 199, rfl⟩
abbrev main_v169 : Ref sig .tc := ⟨.hbm, 200, rfl⟩
abbrev main_v170 : Ref sig .tc := ⟨.hbm, 201, rfl⟩
abbrev main_v171 : Ref sig .tc := ⟨.hbm, 202, rfl⟩
abbrev main_v172 : Ref sig .tc := ⟨.hbm, 203, rfl⟩
abbrev main_v173 : Ref sig .tc := ⟨.hbm, 204, rfl⟩
abbrev main_v174 : Ref sig .tc := ⟨.hbm, 205, rfl⟩
abbrev main_v175 : Ref sig .tc := ⟨.hbm, 206, rfl⟩
abbrev main_v176 : Ref sig .tc := ⟨.hbm, 207, rfl⟩
abbrev main_v177 : Ref sig .tc := ⟨.hbm, 208, rfl⟩
abbrev main_v178 : Ref sig .tc := ⟨.hbm, 209, rfl⟩
abbrev main_v179 : Ref sig .tc := ⟨.hbm, 210, rfl⟩
abbrev main_v180 : Ref sig .tc := ⟨.hbm, 211, rfl⟩
abbrev main_v181 : Ref sig .tc := ⟨.hbm, 212, rfl⟩
abbrev main_v182 : Ref sig .tc := ⟨.hbm, 213, rfl⟩
abbrev main_v183 : Ref sig .tc := ⟨.hbm, 214, rfl⟩
abbrev main_v184 : Ref sig .tc := ⟨.hbm, 215, rfl⟩
abbrev main_v185 : Ref sig .tc := ⟨.hbm, 216, rfl⟩
abbrev main_v186 : Ref sig .tc := ⟨.hbm, 217, rfl⟩
abbrev main_cst_19 : Ref sig .tc := ⟨.hbm, 218, rfl⟩
abbrev main_v187 : Ref sig .tc := ⟨.hbm, 219, rfl⟩
abbrev main_v188 : Ref sig .tc := ⟨.hbm, 220, rfl⟩
abbrev main_cst_20 : Ref sig .tc := ⟨.hbm, 221, rfl⟩
abbrev main_v189 : Ref sig .tc := ⟨.hbm, 222, rfl⟩
abbrev main_v190 : Ref sig .tc := ⟨.hbm, 223, rfl⟩
abbrev main_v191 : Ref sig .tc := ⟨.hbm, 224, rfl⟩
abbrev main_v192 : Ref sig .tc := ⟨.hbm, 225, rfl⟩
abbrev main_v193 : Ref sig .tc := ⟨.hbm, 226, rfl⟩
abbrev main_v194 : Ref sig .tc := ⟨.hbm, 227, rfl⟩
abbrev main_v195 : Ref sig .tc := ⟨.hbm, 228, rfl⟩
abbrev main_v196 : Ref sig .tc := ⟨.hbm, 229, rfl⟩
abbrev main_v197 : Ref sig .tc := ⟨.hbm, 230, rfl⟩
abbrev main_v198 : Ref sig .tc := ⟨.hbm, 231, rfl⟩
abbrev main_v199 : Ref sig .tc := ⟨.hbm, 232, rfl⟩
abbrev main_v200 : Ref sig .tc := ⟨.hbm, 233, rfl⟩
abbrev main_v201 : Ref sig .tc := ⟨.hbm, 234, rfl⟩
abbrev main_v202 : Ref sig .tc := ⟨.hbm, 235, rfl⟩
abbrev main_v203 : Ref sig .tc := ⟨.hbm, 236, rfl⟩
abbrev main_v204 : Ref sig .tc := ⟨.hbm, 237, rfl⟩
abbrev main_v205 : Ref sig .tc := ⟨.hbm, 238, rfl⟩
abbrev main_v206 : Ref sig .tc := ⟨.hbm, 239, rfl⟩
abbrev main_v207 : Ref sig .tc := ⟨.hbm, 240, rfl⟩
abbrev main_cst_21 : Ref sig .tc := ⟨.hbm, 241, rfl⟩
abbrev main_v208 : Ref sig .tc := ⟨.hbm, 242, rfl⟩
abbrev main_v209 : Ref sig .tc := ⟨.hbm, 243, rfl⟩
abbrev main_cst_22 : Ref sig .tc := ⟨.hbm, 244, rfl⟩
abbrev main_v210 : Ref sig .tc := ⟨.hbm, 245, rfl⟩
abbrev main_v211 : Ref sig .tc := ⟨.hbm, 246, rfl⟩
abbrev main_v212 : Ref sig .tc := ⟨.hbm, 247, rfl⟩
abbrev main_v213 : Ref sig .tc := ⟨.hbm, 248, rfl⟩
abbrev main_v214 : Ref sig .tc := ⟨.hbm, 249, rfl⟩
abbrev main_v215 : Ref sig .tc := ⟨.hbm, 250, rfl⟩
abbrev main_v216 : Ref sig .tc := ⟨.hbm, 251, rfl⟩
abbrev main_v217 : Ref sig .tc := ⟨.hbm, 252, rfl⟩
abbrev main_v218 : Ref sig .tc := ⟨.hbm, 253, rfl⟩
abbrev main_v219 : Ref sig .tc := ⟨.hbm, 254, rfl⟩
abbrev main_v220 : Ref sig .tc := ⟨.hbm, 255, rfl⟩
abbrev main_v221 : Ref sig .tc := ⟨.hbm, 256, rfl⟩
abbrev main_v222 : Ref sig .tc := ⟨.hbm, 257, rfl⟩
abbrev main_v223 : Ref sig .tc := ⟨.hbm, 258, rfl⟩
abbrev main_v224 : Ref sig .tc := ⟨.hbm, 259, rfl⟩
abbrev main_v225 : Ref sig .tc := ⟨.hbm, 260, rfl⟩
abbrev main_v226 : Ref sig .tc := ⟨.hbm, 261, rfl⟩
abbrev main_v227 : Ref sig .tc := ⟨.hbm, 262, rfl⟩
abbrev main_v228 : Ref sig .tc := ⟨.hbm, 263, rfl⟩
abbrev main_cst_23 : Ref sig .tc := ⟨.hbm, 264, rfl⟩
abbrev main_v229 : Ref sig .tc := ⟨.hbm, 265, rfl⟩
abbrev main_v230 : Ref sig .tc := ⟨.hbm, 266, rfl⟩
abbrev main_cst_24 : Ref sig .tc := ⟨.hbm, 267, rfl⟩
abbrev main_v231 : Ref sig .tc := ⟨.hbm, 268, rfl⟩
abbrev main_v232 : Ref sig .tc := ⟨.hbm, 269, rfl⟩
abbrev main_v233 : Ref sig .tc := ⟨.hbm, 270, rfl⟩
abbrev main_v234 : Ref sig .tc := ⟨.hbm, 271, rfl⟩
abbrev main_v235 : Ref sig .tc := ⟨.hbm, 272, rfl⟩
abbrev main_v236 : Ref sig .tc := ⟨.hbm, 273, rfl⟩
abbrev main_v237 : Ref sig .tc := ⟨.hbm, 274, rfl⟩
abbrev main_v238 : Ref sig .tc := ⟨.hbm, 275, rfl⟩
abbrev main_v239 : Ref sig .tc := ⟨.hbm, 276, rfl⟩
abbrev main_v240 : Ref sig .tc := ⟨.hbm, 277, rfl⟩
abbrev main_v241 : Ref sig .tc := ⟨.hbm, 278, rfl⟩
abbrev main_v242 : Ref sig .tc := ⟨.hbm, 279, rfl⟩
abbrev main_v243 : Ref sig .tc := ⟨.hbm, 280, rfl⟩
abbrev main_v244 : Ref sig .tc := ⟨.hbm, 281, rfl⟩
abbrev main_v245 : Ref sig .tc := ⟨.hbm, 282, rfl⟩
abbrev main_v246 : Ref sig .tc := ⟨.hbm, 283, rfl⟩
abbrev main_v247 : Ref sig .tc := ⟨.hbm, 284, rfl⟩
abbrev main_v248 : Ref sig .tc := ⟨.hbm, 285, rfl⟩
abbrev main_v249 : Ref sig .tc := ⟨.hbm, 286, rfl⟩
abbrev main_cst_25 : Ref sig .tc := ⟨.hbm, 287, rfl⟩
abbrev main_v250 : Ref sig .tc := ⟨.hbm, 288, rfl⟩
abbrev main_v251 : Ref sig .tc := ⟨.hbm, 289, rfl⟩
abbrev main_cst_26 : Ref sig .tc := ⟨.hbm, 290, rfl⟩
abbrev main_v252 : Ref sig .tc := ⟨.hbm, 291, rfl⟩
abbrev main_v253 : Ref sig .tc := ⟨.hbm, 292, rfl⟩
abbrev main_v254 : Ref sig .tc := ⟨.hbm, 293, rfl⟩
abbrev main_v255 : Ref sig .tc := ⟨.hbm, 294, rfl⟩
abbrev main_v256 : Ref sig .tc := ⟨.hbm, 295, rfl⟩
abbrev main_v257 : Ref sig .tc := ⟨.hbm, 296, rfl⟩
abbrev main_v258 : Ref sig .tc := ⟨.hbm, 297, rfl⟩
abbrev main_v259 : Ref sig .tc := ⟨.hbm, 298, rfl⟩
abbrev main_v260 : Ref sig .tc := ⟨.hbm, 299, rfl⟩
abbrev main_v261 : Ref sig .tc := ⟨.hbm, 300, rfl⟩
abbrev main_v262 : Ref sig .tc := ⟨.hbm, 301, rfl⟩
abbrev main_v263 : Ref sig .tc := ⟨.hbm, 302, rfl⟩
abbrev main_v264 : Ref sig .tc := ⟨.hbm, 303, rfl⟩
abbrev main_v265 : Ref sig .tc := ⟨.hbm, 304, rfl⟩
abbrev main_v266 : Ref sig .tc := ⟨.hbm, 305, rfl⟩
abbrev main_v267 : Ref sig .tc := ⟨.hbm, 306, rfl⟩
abbrev main_v268 : Ref sig .tc := ⟨.hbm, 307, rfl⟩
abbrev main_v269 : Ref sig .tc := ⟨.hbm, 308, rfl⟩
abbrev main_v270 : Ref sig .tc := ⟨.hbm, 309, rfl⟩
abbrev main_cst_27 : Ref sig .tc := ⟨.hbm, 310, rfl⟩
abbrev main_v271 : Ref sig .tc := ⟨.hbm, 311, rfl⟩
abbrev main_v272 : Ref sig .tc := ⟨.hbm, 312, rfl⟩
abbrev main_cst_28 : Ref sig .tc := ⟨.hbm, 313, rfl⟩
abbrev main_v273 : Ref sig .tc := ⟨.hbm, 314, rfl⟩
abbrev main_v274 : Ref sig .tc := ⟨.hbm, 315, rfl⟩
abbrev main_v275 : Ref sig .tc := ⟨.hbm, 316, rfl⟩
abbrev main_v276 : Ref sig .tc := ⟨.hbm, 317, rfl⟩
abbrev main_v277 : Ref sig .tc := ⟨.hbm, 318, rfl⟩
abbrev main_v278 : Ref sig .tc := ⟨.hbm, 319, rfl⟩
abbrev main_v279 : Ref sig .tc := ⟨.hbm, 320, rfl⟩
abbrev main_v280 : Ref sig .tc := ⟨.hbm, 321, rfl⟩
abbrev main_v281 : Ref sig .tc := ⟨.hbm, 322, rfl⟩
abbrev main_v282 : Ref sig .tc := ⟨.hbm, 323, rfl⟩
abbrev main_v283 : Ref sig .tc := ⟨.hbm, 324, rfl⟩
abbrev main_v284 : Ref sig .tc := ⟨.hbm, 325, rfl⟩
abbrev main_v285 : Ref sig .tc := ⟨.hbm, 326, rfl⟩
abbrev main_v286 : Ref sig .tc := ⟨.hbm, 327, rfl⟩
abbrev main_v287 : Ref sig .tc := ⟨.hbm, 328, rfl⟩
abbrev main_v288 : Ref sig .tc := ⟨.hbm, 329, rfl⟩
abbrev main_v289 : Ref sig .tc := ⟨.hbm, 330, rfl⟩
abbrev main_v290 : Ref sig .tc := ⟨.hbm, 331, rfl⟩
abbrev main_v291 : Ref sig .tc := ⟨.hbm, 332, rfl⟩
abbrev main_cst_29 : Ref sig .tc := ⟨.hbm, 333, rfl⟩
abbrev main_v292 : Ref sig .tc := ⟨.hbm, 334, rfl⟩
abbrev main_v293 : Ref sig .tc := ⟨.hbm, 335, rfl⟩
abbrev main_cst_30 : Ref sig .tc := ⟨.hbm, 336, rfl⟩
abbrev main_v294 : Ref sig .tc := ⟨.hbm, 337, rfl⟩
abbrev main_v295 : Ref sig .tc := ⟨.hbm, 338, rfl⟩
abbrev main_v296 : Ref sig .tc := ⟨.hbm, 339, rfl⟩
abbrev main_v297 : Ref sig .tc := ⟨.hbm, 340, rfl⟩
abbrev main_v298 : Ref sig .tc := ⟨.hbm, 341, rfl⟩
abbrev main_v299 : Ref sig .tc := ⟨.hbm, 342, rfl⟩
abbrev main_v300 : Ref sig .tc := ⟨.hbm, 343, rfl⟩
abbrev main_v301 : Ref sig .tc := ⟨.hbm, 344, rfl⟩
abbrev main_v302 : Ref sig .tc := ⟨.hbm, 345, rfl⟩
abbrev main_v303 : Ref sig .tc := ⟨.hbm, 346, rfl⟩
abbrev main_v304 : Ref sig .tc := ⟨.hbm, 347, rfl⟩
abbrev main_v305 : Ref sig .tc := ⟨.hbm, 348, rfl⟩
abbrev main_v306 : Ref sig .tc := ⟨.hbm, 349, rfl⟩
abbrev main_v307 : Ref sig .tc := ⟨.hbm, 350, rfl⟩
abbrev main_v308 : Ref sig .tc := ⟨.hbm, 351, rfl⟩
abbrev main_v309 : Ref sig .tc := ⟨.hbm, 352, rfl⟩
abbrev main_v310 : Ref sig .tc := ⟨.hbm, 353, rfl⟩
abbrev main_v311 : Ref sig .tc := ⟨.hbm, 354, rfl⟩
abbrev main_v312 : Ref sig .tc := ⟨.hbm, 355, rfl⟩
abbrev main_cst_31 : Ref sig .tc := ⟨.hbm, 356, rfl⟩
abbrev main_v313 : Ref sig .tc := ⟨.hbm, 357, rfl⟩
abbrev main_v314 : Ref sig .tc := ⟨.hbm, 358, rfl⟩
abbrev main_cst_32 : Ref sig .tc := ⟨.hbm, 359, rfl⟩
abbrev main_v315 : Ref sig .tc := ⟨.hbm, 360, rfl⟩
abbrev main_v316 : Ref sig .tc := ⟨.hbm, 361, rfl⟩
abbrev main_v317 : Ref sig .tc := ⟨.hbm, 362, rfl⟩
abbrev main_v318 : Ref sig .tc := ⟨.hbm, 363, rfl⟩
abbrev main_v319 : Ref sig .tc := ⟨.hbm, 364, rfl⟩
abbrev main_v320 : Ref sig .tc := ⟨.hbm, 365, rfl⟩
abbrev main_v321 : Ref sig .tc := ⟨.hbm, 366, rfl⟩
abbrev main_v322 : Ref sig .tc := ⟨.hbm, 367, rfl⟩
abbrev main_v323 : Ref sig .tc := ⟨.hbm, 368, rfl⟩
abbrev main_v324 : Ref sig .tc := ⟨.hbm, 369, rfl⟩
abbrev main_v325 : Ref sig .tc := ⟨.hbm, 370, rfl⟩
abbrev main_v326 : Ref sig .tc := ⟨.hbm, 371, rfl⟩
abbrev main_v327 : Ref sig .tc := ⟨.hbm, 372, rfl⟩
abbrev main_v328 : Ref sig .tc := ⟨.hbm, 373, rfl⟩
abbrev main_v329 : Ref sig .tc := ⟨.hbm, 374, rfl⟩
abbrev main_v330 : Ref sig .tc := ⟨.hbm, 375, rfl⟩
abbrev main_v331 : Ref sig .tc := ⟨.hbm, 376, rfl⟩
abbrev main_v332 : Ref sig .tc := ⟨.hbm, 377, rfl⟩
abbrev main_v333 : Ref sig .tc := ⟨.hbm, 378, rfl⟩
abbrev main_cst_33 : Ref sig .tc := ⟨.hbm, 379, rfl⟩
abbrev main_v334 : Ref sig .tc := ⟨.hbm, 380, rfl⟩
abbrev main_v335 : Ref sig .tc := ⟨.hbm, 381, rfl⟩
abbrev main_cst_34 : Ref sig .tc := ⟨.hbm, 382, rfl⟩
abbrev main_v336 : Ref sig .tc := ⟨.hbm, 383, rfl⟩
abbrev main_v337 : Ref sig .tc := ⟨.hbm, 384, rfl⟩
abbrev main_v338 : Ref sig .tc := ⟨.hbm, 385, rfl⟩
abbrev main_v339 : Ref sig .tc := ⟨.hbm, 386, rfl⟩
abbrev main_v340 : Ref sig .tc := ⟨.hbm, 387, rfl⟩
abbrev main_v341 : Ref sig .tc := ⟨.hbm, 388, rfl⟩
abbrev main_v342 : Ref sig .tc := ⟨.hbm, 389, rfl⟩
abbrev main_v343 : Ref sig .tc := ⟨.hbm, 390, rfl⟩
abbrev main_v344 : Ref sig .tc := ⟨.hbm, 391, rfl⟩
abbrev main_v345 : Ref sig .tc := ⟨.hbm, 392, rfl⟩
abbrev main_v346 : Ref sig .tc := ⟨.hbm, 393, rfl⟩
abbrev main_v347 : Ref sig .tc := ⟨.hbm, 394, rfl⟩
abbrev main_v348 : Ref sig .tc := ⟨.hbm, 395, rfl⟩
abbrev main_v349 : Ref sig .tc := ⟨.hbm, 396, rfl⟩
abbrev main_v350 : Ref sig .tc := ⟨.hbm, 397, rfl⟩
abbrev main_v351 : Ref sig .tc := ⟨.hbm, 398, rfl⟩
abbrev main_cst_35 : Ref sig .tc := ⟨.hbm, 399, rfl⟩
abbrev main_v352 : Ref sig .tc := ⟨.hbm, 400, rfl⟩
abbrev main_v353 : Ref sig .tc := ⟨.hbm, 401, rfl⟩
abbrev main_cst_36 : Ref sig .tc := ⟨.hbm, 402, rfl⟩
abbrev main_v354 : Ref sig .tc := ⟨.hbm, 403, rfl⟩
abbrev main_v355 : Ref sig .tc := ⟨.hbm, 404, rfl⟩
abbrev main_cst_37 : Ref sig .tc := ⟨.hbm, 405, rfl⟩
abbrev main_v356 : Ref sig .tc := ⟨.hbm, 406, rfl⟩
abbrev main_v357 : Ref sig .tc := ⟨.hbm, 407, rfl⟩
abbrev main_v358 : Ref sig .tc := ⟨.hbm, 408, rfl⟩
abbrev main_v359 : Ref sig .tc := ⟨.hbm, 409, rfl⟩
abbrev main_v360 : Ref sig .tc := ⟨.hbm, 410, rfl⟩
abbrev main_v361 : Ref sig .tc := ⟨.hbm, 411, rfl⟩
abbrev main_v362 : Ref sig .tc := ⟨.hbm, 412, rfl⟩
abbrev main_v363 : Ref sig .tc := ⟨.hbm, 413, rfl⟩
abbrev main_v364 : Ref sig .tc := ⟨.hbm, 414, rfl⟩
abbrev main_v365 : Ref sig .tc := ⟨.hbm, 415, rfl⟩
abbrev main_v366 : Ref sig .tc := ⟨.hbm, 416, rfl⟩
abbrev main_cst_38 : Ref sig .tc := ⟨.hbm, 417, rfl⟩
abbrev main_v367 : Ref sig .tc := ⟨.hbm, 418, rfl⟩
abbrev main_v368 : Ref sig .tc := ⟨.hbm, 419, rfl⟩
abbrev main_cst_39 : Ref sig .tc := ⟨.hbm, 420, rfl⟩
abbrev main_v369 : Ref sig .tc := ⟨.hbm, 421, rfl⟩
abbrev main_v370 : Ref sig .tc := ⟨.hbm, 422, rfl⟩
abbrev main_v371 : Ref sig .tc := ⟨.hbm, 423, rfl⟩
abbrev main_v372 : Ref sig .tc := ⟨.hbm, 424, rfl⟩
abbrev main_v373 : Ref sig .tc := ⟨.hbm, 425, rfl⟩
abbrev main_v374 : Ref sig .tc := ⟨.hbm, 426, rfl⟩
abbrev main_cst_40 : Ref sig .tc := ⟨.hbm, 427, rfl⟩
abbrev main_v375 : Ref sig .tc := ⟨.hbm, 428, rfl⟩
abbrev main_v376 : Ref sig .tc := ⟨.hbm, 429, rfl⟩
abbrev main_cst_41 : Ref sig .tc := ⟨.hbm, 430, rfl⟩
abbrev main_v377 : Ref sig .tc := ⟨.hbm, 431, rfl⟩
abbrev main_v378 : Ref sig .tc := ⟨.hbm, 432, rfl⟩
abbrev main_cst_42 : Ref sig .tc := ⟨.hbm, 433, rfl⟩
abbrev main_v379 : Ref sig .tc := ⟨.hbm, 434, rfl⟩
abbrev main_v380 : Ref sig .tc := ⟨.hbm, 435, rfl⟩
abbrev main_v381 : Ref sig .tc := ⟨.hbm, 436, rfl⟩
abbrev main_v382 : Ref sig .tc := ⟨.hbm, 437, rfl⟩
abbrev main_v383 : Ref sig .tc := ⟨.hbm, 438, rfl⟩
abbrev main_v384 : Ref sig .tc := ⟨.hbm, 439, rfl⟩
abbrev main_v385 : Ref sig .tc := ⟨.hbm, 440, rfl⟩
abbrev main_v386 : Ref sig .tc := ⟨.hbm, 441, rfl⟩

abbrev nD : Nat := 1
abbrev τ : Topo := Topo.v7x

variable {F : FTy → Type} [FloatOps F]
-- ==== Kernel2.lean ====
abbrev S2x8192x1024 : Shape := ⟨3, ![2, 8192, 1024]⟩
abbrev S1024 : Shape := ⟨1, ![1024]⟩
abbrev S1024x3088 : Shape := ⟨2, ![1024, 3088]⟩
abbrev S16x256 : Shape := ⟨2, ![16, 256]⟩
abbrev S256 : Shape := ⟨1, ![256]⟩
abbrev S128 : Shape := ⟨1, ![128]⟩
abbrev S3x512 : Shape := ⟨2, ![3, 512]⟩
abbrev S1024x1024 : Shape := ⟨2, ![1024, 1024]⟩
abbrev S1024x4 : Shape := ⟨2, ![1024, 4]⟩
abbrev S4 : Shape := ⟨1, ![4]⟩
abbrev S1024x16 : Shape := ⟨2, ![1024, 16]⟩
abbrev S16 : Shape := ⟨1, ![16]⟩
abbrev S1024x1536 : Shape := ⟨2, ![1024, 1536]⟩
abbrev S_ : Shape := ⟨0, ![]⟩
abbrev S32x1024 : Shape := ⟨2, ![32, 1024]⟩
abbrev S4x1024 : Shape := ⟨2, ![4, 1024]⟩
abbrev S1 : Shape := ⟨1, ![1]⟩
abbrev S16x1024 : Shape := ⟨2, ![16, 1024]⟩
abbrev S32x1 : Shape := ⟨2, ![32, 1]⟩
abbrev S2 : Shape := ⟨1, ![2]⟩
abbrev S1x1024 : Shape := ⟨2, ![1, 1024]⟩
abbrev S1x256 : Shape := ⟨2, ![1, 256]⟩
abbrev S1x128 : Shape := ⟨2, ![1, 128]⟩
abbrev S16384x128 : Shape := ⟨2, ![16384, 128]⟩
abbrev S1x256x1024 : Shape := ⟨3, ![1, 256, 1024]⟩
abbrev S256x128 : Shape := ⟨2, ![256, 128]⟩
abbrev S128x256 : Shape := ⟨2, ![128, 256]⟩
abbrev S8x512 : Shape := ⟨2, ![8, 512]⟩
abbrev S256x256 : Shape := ⟨2, ![256, 256]⟩
abbrev S256x1024 : Shape := ⟨2, ![256, 1024]⟩
abbrev S256x1 : Shape := ⟨2, ![256, 1]⟩
abbrev S256x1536 : Shape := ⟨2, ![256, 1536]⟩
abbrev S256x512 : Shape := ⟨2, ![256, 512]⟩
abbrev S256x16 : Shape := ⟨2, ![256, 16]⟩
abbrev S8x256 : Shape := ⟨2, ![8, 256]⟩
abbrev S32x256 : Shape := ⟨2, ![32, 256]⟩
abbrev S64x256 : Shape := ⟨2, ![64, 256]⟩
abbrev S1x512 : Shape := ⟨2, ![1, 512]⟩
abbrev S2x512 : Shape := ⟨2, ![2, 512]⟩

abbrev nBuf : Space → Nat
  | .hbm => 50
  | .vmem => 21
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x3088, .f32⟩
  | .hbm, ⟨3, _⟩ => ⟨S16x256, .f32⟩
  | .hbm, ⟨4, _⟩ => ⟨S256, .f32⟩
  | .hbm, ⟨5, _⟩ => ⟨S128, .f32⟩
  | .hbm, ⟨6, _⟩ => ⟨S3x512, .f32⟩
  | .hbm, ⟨7, _⟩ => ⟨S1024x1024, .f32⟩
  | .hbm, ⟨8, _⟩ => ⟨S1024, .f32⟩
  | .hbm, ⟨9, _⟩ => ⟨S1024x4, .f32⟩
  | .hbm, ⟨10, _⟩ => ⟨S4, .f32⟩
  | .hbm, ⟨11, _⟩ => ⟨S1024x16, .f32⟩
  | .hbm, ⟨12, _⟩ => ⟨S16, .f32⟩
  | .hbm, ⟨13, _⟩ => ⟨S1024x1536, .f32⟩
  | .hbm, ⟨14, _⟩ => ⟨S1024x1536, .bf16⟩
  | .hbm, ⟨15, _⟩ => ⟨S1024x16, .f32⟩
  | .hbm, ⟨16, _⟩ => ⟨S1024x16, .bf16⟩
  | .hbm, ⟨17, _⟩ => ⟨S1024x1536, .f32⟩
  | .hbm, ⟨18, _⟩ => ⟨S1024x1536, .bf16⟩
  | .hbm, ⟨19, _⟩ => ⟨S_, .f32⟩
  | .hbm, ⟨20, _⟩ => ⟨S32x1024, .f32⟩
  | .hbm, ⟨21, _⟩ => ⟨S4x1024, .f32⟩
  | .hbm, ⟨22, _⟩ => ⟨S_, .i32⟩
  | .hbm, ⟨23, _⟩ => ⟨S1, .i32⟩
  | .hbm, ⟨24, _⟩ => ⟨S32x1024, .f32⟩
  | .hbm, ⟨25, _⟩ => ⟨S16x1024, .f32⟩
  | .hbm, ⟨26, _⟩ => ⟨S_, .i32⟩
  | .hbm, ⟨27, _⟩ => ⟨S1, .i32⟩
  | .hbm, ⟨28, _⟩ => ⟨S32x1024, .f32⟩
  | .hbm, ⟨29, _⟩ => ⟨S_, .f32⟩
  | .hbm, ⟨30, _⟩ => ⟨S32x1, .f32⟩
  | .hbm, ⟨31, _⟩ => ⟨S_, .i32⟩
  | .hbm, ⟨32, _⟩ => ⟨S1, .i32⟩
  | .hbm, ⟨33, _⟩ => ⟨S_, .i32⟩
  | .hbm, ⟨34, _⟩ => ⟨S1, .i32⟩
  | .hbm, ⟨35, _⟩ => ⟨S2, .i32⟩
  | .hbm, ⟨36, _⟩ => ⟨S32x1, .f32⟩
  | .hbm, ⟨37, _⟩ => ⟨S_, .i32⟩
  | .hbm, ⟨38, _⟩ => ⟨S1, .i32⟩
  | .hbm, ⟨39, _⟩ => ⟨S_, .i32⟩
  | .hbm, ⟨40, _⟩ => ⟨S1, .i32⟩
  | .hbm, ⟨41, _⟩ => ⟨S2, .i32⟩
  | .hbm, ⟨42, _⟩ => ⟨S32x1, .f32⟩
  | .hbm, ⟨43, _⟩ => ⟨S1x1024, .f32⟩
  | .hbm, ⟨44, _⟩ => ⟨S1x256, .f32⟩
  | .hbm, ⟨45, _⟩ => ⟨S1x128, .f32⟩
  | .hbm, ⟨46, _⟩ => ⟨S1024x1024, .bf16⟩
  | .hbm, ⟨47, _⟩ => ⟨S1x1024, .f32⟩
  | .hbm, ⟨48, _⟩ => ⟨S2x8192x1024, .f32⟩
  | .hbm, ⟨49, _⟩ => ⟨S16384x128, .f32⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1024x1536, .bf16⟩
  | .local _ .vmem, ⟨4, _⟩ => ⟨S1024x16, .bf16⟩
  | .local _ .vmem, ⟨5, _⟩ => ⟨S1024x1536, .bf16⟩
  | .local _ .vmem, ⟨6, _⟩ => ⟨S16x256, .f32⟩
  | .local _ .vmem, ⟨7, _⟩ => ⟨S1x256, .f32⟩
  | .local _ .vmem, ⟨8, _⟩ => ⟨S1x128, .f32⟩
  | .local _ .vmem, ⟨9, _⟩ => ⟨S3x512, .f32⟩
  | .local _ .vmem, ⟨10, _⟩ => ⟨S1024x1024, .bf16⟩
  | .local _ .vmem, ⟨11, _⟩ => ⟨S1x1024, .f32⟩
  | .local _ .vmem, ⟨12, _⟩ => ⟨S32x1024, .f32⟩
  | .local _ .vmem, ⟨13, _⟩ => ⟨S32x1, .f32⟩
  | .local _ .vmem, ⟨14, _⟩ => ⟨S1x256x1024, .f32⟩
  | .local _ .vmem, ⟨15, _⟩ => ⟨S1x256x1024, .f32⟩
  | .local _ .vmem, ⟨16, _⟩ => ⟨S256x128, .f32⟩
  | .local _ .vmem, ⟨17, _⟩ => ⟨S256x128, .f32⟩
  | .local _ .vmem, ⟨18, _⟩ => ⟨S128x256, .f32⟩
  | .local _ .vmem, ⟨19, _⟩ => ⟨S8x512, .f32⟩
  | .local _ .vmem, ⟨20, _⟩ => ⟨S256x256, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_c : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c_0 : Ref sig .tc := ⟨.hbm, 26, rfl⟩
abbrev main_v11 : Ref sig .tc := ⟨.hbm, 27, rfl⟩
abbrev main_v12 : Ref sig .tc := ⟨.hbm, 28, rfl⟩
abbrev main_cst_1 : Ref sig .tc := ⟨.hbm, 29, rfl⟩
abbrev main_v13 : Ref sig .tc := ⟨.hbm, 30, rfl⟩
abbrev main_c_2 : Ref sig .tc := ⟨.hbm, 31, rfl⟩
abbrev main_v14 : Ref sig .tc := ⟨.hbm, 32, rfl⟩
abbrev main_c_3 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_c_4 : Ref sig .tc := ⟨.hbm, 37, rfl⟩
abbrev main_v18 : Ref sig .tc := ⟨.hbm, 38, rfl⟩
abbrev main_c_5 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27_0 : Ref sig .tc := ⟨.hbm, 48, rfl⟩
abbrev main_v27_1 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_stg14_0 : Ref sig .tc := ⟨.vmem, 16, rfl⟩
abbrev cc0_stg14_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15
abbrev cc0_sem14_0 : DmaSem sig := 16
abbrev cc0_sem14_1 : DmaSem sig := 17

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x16 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S16x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S3x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S32x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S32x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Reference2Ideal.lean ====
abbrev S2x8192x1024 : Shape := ⟨3, ![2, 8192, 1024]⟩
abbrev S1024 : Shape := ⟨1, ![1024]⟩
abbrev S1024x3088 : Shape := ⟨2, ![1024, 3088]⟩
abbrev S16x256 : Shape := ⟨2, ![16, 256]⟩
abbrev S256 : Shape := ⟨1, ![256]⟩
abbrev S128 : Shape := ⟨1, ![128]⟩
abbrev S3x512 : Shape := ⟨2, ![3, 512]⟩
abbrev S1024x1024 : Shape := ⟨2, ![1024, 1024]⟩
abbrev S1024x4 : Shape := ⟨2, ![1024, 4]⟩
abbrev S4 : Shape := ⟨1, ![4]⟩
abbrev S1024x16 : Shape := ⟨2, ![1024, 16]⟩
abbrev S16 : Shape := ⟨1, ![16]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x3088 : Shape := ⟨3, ![2, 8192, 3088]⟩
abbrev S2x8192x256 : Shape := ⟨3, ![2, 8192, 256]⟩
abbrev S2x8192x512 : Shape := ⟨3, ![2, 8192, 512]⟩
abbrev S2x8192x16 : Shape := ⟨3, ![2, 8192, 16]⟩
abbrev S1x1x256 : Shape := ⟨3, ![1, 1, 256]⟩
abbrev S2x8194x512 : Shape := ⟨3, ![2, 8194, 512]⟩
abbrev S1x512 : Shape := ⟨2, ![1, 512]⟩
abbrev S512 : Shape := ⟨1, ![512]⟩
abbrev S1x1x512 : Shape := ⟨3, ![1, 1, 512]⟩
abbrev S64x64 : Shape := ⟨2, ![64, 64]⟩
abbrev S1x1x64x64x1 : Shape := ⟨5, ![1, 1, 64, 64, 1]⟩
abbrev S2x4x64x128 : Shape := ⟨4, ![2, 4, 64, 128]⟩
abbrev S2x8192x4x64 : Shape := ⟨4, ![2, 8192, 4, 64]⟩
abbrev S2x4x8192x64 : Shape := ⟨4, ![2, 4, 8192, 64]⟩
abbrev S2x4x128x64x64 : Shape := ⟨5, ![2, 4, 128, 64, 64]⟩
abbrev S128x2x4x64x64 : Shape := ⟨5, ![128, 2, 4, 64, 64]⟩
abbrev S2x8192x4x128 : Shape := ⟨4, ![2, 8192, 4, 128]⟩
abbrev S2x4x8192x128 : Shape := ⟨4, ![2, 4, 8192, 128]⟩
abbrev S2x4x128x64x128 : Shape := ⟨5, ![2, 4, 128, 64, 128]⟩
abbrev S128x2x4x64x128 : Shape := ⟨5, ![128, 2, 4, 64, 128]⟩
abbrev S2x128x64x512 : Shape := ⟨4, ![2, 128, 64, 512]⟩
abbrev S128x2x64x512 : Shape := ⟨4, ![128, 2, 64, 512]⟩
abbrev S2x128x64x1024 : Shape := ⟨4, ![2, 128, 64, 1024]⟩
abbrev S128x2x64x1024 : Shape := ⟨4, ![128, 2, 64, 1024]⟩
abbrev S1x2x4x64x64 : Shape := ⟨5, ![1, 2, 4, 64, 64]⟩
abbrev S2x4x64x64 : Shape := ⟨4, ![2, 4, 64, 64]⟩
abbrev S1x2x4x64x128 : Shape := ⟨5, ![1, 2, 4, 64, 128]⟩
abbrev S1x2x64x512 : Shape := ⟨4, ![1, 2, 64, 512]⟩
abbrev S2x64x512 : Shape := ⟨3, ![2, 64, 512]⟩
abbrev S1x2x64x1024 : Shape := ⟨4, ![1, 2, 64, 1024]⟩
abbrev S2x64x1024 : Shape := ⟨3, ![2, 64, 1024]⟩
abbrev S2x4x64x1x64 : Shape := ⟨5, ![2, 4, 64, 1, 64]⟩
abbrev S2x4x1x64x64 : Shape := ⟨5, ![2, 4, 1, 64, 64]⟩
abbrev S2x4x64x64x64 : Shape := ⟨5, ![2, 4, 64, 64, 64]⟩
abbrev S2x4x1x64 : Shape := ⟨4, ![2, 4, 1, 64]⟩
abbrev S2x4x64 : Shape := ⟨3, ![2, 4, 64]⟩
abbrev S2x4x64x1 : Shape := ⟨4, ![2, 4, 64, 1]⟩
abbrev S1x1x1x128 : Shape := ⟨4, ![1, 1, 1, 128]⟩
abbrev S2x64x4x128 : Shape := ⟨4, ![2, 64, 4, 128]⟩

abbrev nBuf : Space → Nat
  | .hbm => 264
  | .vmem => 0
  | .smem => 0
  | _ => 0

abbrev hbmTy0_0 (i : Nat) : BufTy := match i % 128 with
  | 0 => ⟨S2x8192x1024, .f32⟩
  | 1 => ⟨S1024, .f32⟩
  | 2 => ⟨S1024x3088, .f32⟩
  | 3 => ⟨S16x256, .f32⟩
  | 4 => ⟨S256, .f32⟩
  | 5 => ⟨S128, .f32⟩
  | 6 => ⟨S3x512, .f32⟩
  | 7 => ⟨S1024x1024, .f32⟩
  | 8 => ⟨S1024, .f32⟩
  | 9 => ⟨S1024x4, .f32⟩
  | 10 => ⟨S4, .f32⟩
  | 11 => ⟨S1024x16, .f32⟩
  | 12 => ⟨S16, .f32⟩
  | 13 => ⟨S2x8192x1024, .f32⟩
  | 14 => ⟨S_, .f32⟩
  | 15 => ⟨S2x8192, .f32⟩
  | 16 => ⟨S2x8192x1, .f32⟩
  | 17 => ⟨S_, .f32⟩
  | 18 => ⟨S2x8192x1, .f32⟩
  | 19 => ⟨S2x8192x1, .f32⟩
  | 20 => ⟨S_, .f32⟩
  | 21 => ⟨S2x8192x1, .f32⟩
  | 22 => ⟨S2x8192x1, .f32⟩
  | 23 => ⟨S2x8192x1, .f32⟩
  | 24 => ⟨S2x8192x1024, .f32⟩
  | 25 => ⟨S2x8192x1024, .f32⟩
  | 26 => ⟨S1x1x1024, .f32⟩
  | 27 => ⟨S2x8192x1024, .f32⟩
  | 28 => ⟨S2x8192x1024, .f32⟩
  | 29 => ⟨S2x8192x3088, .f32⟩
  | 30 => ⟨S2x8192x256, .f32⟩
  | 31 => ⟨S2x8192x256, .f32⟩
  | 32 => ⟨S2x8192x512, .f32⟩
  | 33 => ⟨S2x8192x512, .f32⟩
  | 34 => ⟨S2x8192x16, .f32⟩
  | 35 => ⟨S2x8192x512, .f32⟩
  | 36 => ⟨S2x8192x512, .f32⟩
  | 37 => ⟨S2x8192x512, .f32⟩
  | 38 => ⟨S2x8192x256, .f32⟩
  | 39 => ⟨S1x1x256, .f32⟩
  | 40 => ⟨S2x8192x256, .f32⟩
  | 41 => ⟨S2x8192x256, .f32⟩
  | 42 => ⟨S2x8192x256, .f32⟩
  | 43 => ⟨S_, .f32⟩
  | 44 => ⟨S2x8192x256, .f32⟩
  | 45 => ⟨S2x8192x256, .f32⟩
  | 46 => ⟨S2x8192x256, .f32⟩
  | 47 => ⟨S2x8192x256, .f32⟩
  | 48 => ⟨S2x8192x256, .i1⟩
  | 49 => ⟨S2x8192x256, .f32⟩
  | 50 => ⟨S2x8192x256, .f32⟩
  | 51 => ⟨S2x8192x256, .f32⟩
  | 52 => ⟨S2x8192x256, .f32⟩
  | 53 => ⟨S2x8192x256, .f32⟩
  | 54 => ⟨S2x8192x256, .f32⟩
  | 55 => ⟨S2x8192x256, .f32⟩
  | 56 => ⟨S2x8192x256, .f32⟩
  | 57 => ⟨S2x8192x256, .f32⟩
  | 58 => ⟨S_, .f32⟩
  | 59 => ⟨S2x8192x256, .f32⟩
  | 60 => ⟨S2x8192x256, .f32⟩
  | 61 => ⟨S2x8192x512, .f32⟩
  | 62 => ⟨S_, .i32⟩
  | 63 => ⟨S_, .f32⟩
  | 64 => ⟨S2x8194x512, .f32⟩
  | 65 => ⟨S1x512, .f32⟩
  | 66 => ⟨S512, .f32⟩
  | 67 => ⟨S2x8192x512, .f32⟩
  | 68 => ⟨S1x1x512, .f32⟩
  | 69 => ⟨S2x8192x512, .f32⟩
  | 70 => ⟨S2x8192x512, .f32⟩
  | 71 => ⟨S_, .f32⟩
  | 72 => ⟨S2x8192x512, .f32⟩
  | 73 => ⟨S2x8192x512, .f32⟩
  | 74 => ⟨S1x512, .f32⟩
  | 75 => ⟨S512, .f32⟩
  | 76 => ⟨S2x8192x512, .f32⟩
  | 77 => ⟨S1x1x512, .f32⟩
  | 78 => ⟨S2x8192x512, .f32⟩
  | 79 => ⟨S2x8192x512, .f32⟩
  | 80 => ⟨S2x8192x512, .f32⟩
  | 81 => ⟨S1x512, .f32⟩
  | 82 => ⟨S512, .f32⟩
  | 83 => ⟨S2x8192x512, .f32⟩
  | 84 => ⟨S1x1x512, .f32⟩
  | 85 => ⟨S2x8192x512, .f32⟩
  | 86 => ⟨S2x8192x512, .f32⟩
  | 87 => ⟨S2x8192x512, .f32⟩
  | 88 => ⟨S2x8192x512, .f32⟩
  | 89 => ⟨S_, .i1⟩
  | 90 => ⟨S64x64, .i1⟩
  | 91 => ⟨S64x64, .i32⟩
  | 92 => ⟨S_, .i32⟩
  | 93 => ⟨S64x64, .i32⟩
  | 94 => ⟨S64x64, .i32⟩
  | 95 => ⟨S64x64, .i32⟩
  | 96 => ⟨S64x64, .i1⟩
  | 97 => ⟨S_, .i1⟩
  | 98 => ⟨S64x64, .i1⟩
  | 99 => ⟨S64x64, .i1⟩
  | 100 => ⟨S1x1x64x64x1, .i1⟩
  | 101 => ⟨S_, .f32⟩
  | 102 => ⟨S2x4x64x128, .f32⟩
  | 103 => ⟨S2x8192x4x64, .f32⟩
  | 104 => ⟨S2x4x8192x64, .f32⟩
  | 105 => ⟨S_, .f32⟩
  | 106 => ⟨S2x4x8192x64, .f32⟩
  | 107 => ⟨S2x4x8192x64, .f32⟩
  | 108 => ⟨S2x4x128x64x64, .f32⟩
  | 109 => ⟨S128x2x4x64x64, .f32⟩
  | 110 => ⟨S2x8192x4x64, .f32⟩
  | 111 => ⟨S2x4x8192x64, .f32⟩
  | 112 => ⟨S2x4x128x64x64, .f32⟩
  | 113 => ⟨S128x2x4x64x64, .f32⟩
  | 114 => ⟨S2x8192x4x128, .f32⟩
  | 115 => ⟨S2x4x8192x128, .f32⟩
  | 116 => ⟨S2x4x128x64x128, .f32⟩
  | 117 => ⟨S128x2x4x64x128, .f32⟩
  | 118 => ⟨S2x8192x4x64, .f32⟩
  | 119 => ⟨S2x4x8192x64, .f32⟩
  | 120 => ⟨S2x4x128x64x64, .f32⟩
  | 121 => ⟨S128x2x4x64x64, .f32⟩
  | 122 => ⟨S2x128x64x512, .f32⟩
  | 123 => ⟨S128x2x64x512, .f32⟩
  | 124 => ⟨S2x128x64x512, .f32⟩
  | 125 => ⟨S128x2x64x512, .f32⟩
  | 126 => ⟨S2x128x64x1024, .f32⟩
  | 127 => ⟨S128x2x64x1024, .f32⟩
  | _ => ⟨S2x8192x1024, .f32⟩

abbrev hbmTy0_1 (i : Nat) : BufTy := match i % 128 with
  | 0 => ⟨S_, .f32⟩
  | 1 => ⟨S128x2x64x1024, .f32⟩
  | 2 => ⟨S_, .i32⟩
  | 3 => ⟨S128x2x4x64x64, .f32⟩
  | 4 => ⟨S128x2x4x64x64, .f32⟩
  | 5 => ⟨S128x2x4x64x128, .f32⟩
  | 6 => ⟨S128x2x4x64x64, .f32⟩
  | 7 => ⟨S128x2x64x512, .f32⟩
  | 8 => ⟨S128x2x64x512, .f32⟩
  | 9 => ⟨S128x2x64x1024, .f32⟩
  | 10 => ⟨S1x1x64x64x1, .i1⟩
  | 11 => ⟨S128, .f32⟩
  | 12 => ⟨S1024x1024, .f32⟩
  | 13 => ⟨S_, .i32⟩
  | 14 => ⟨S2x4x64x128, .f32⟩
  | 15 => ⟨S128x2x64x1024, .f32⟩
  | 16 => ⟨S_, .i32⟩
  | 17 => ⟨S_, .i1⟩
  | 18 => ⟨S_, .i32⟩
  | 19 => ⟨S_, .i32⟩
  | 20 => ⟨S_, .i32⟩
  | 21 => ⟨S_, .i32⟩
  | 22 => ⟨S1x2x4x64x64, .f32⟩
  | 23 => ⟨S2x4x64x64, .f32⟩
  | 24 => ⟨S_, .i32⟩
  | 25 => ⟨S_, .i32⟩
  | 26 => ⟨S_, .i32⟩
  | 27 => ⟨S_, .i32⟩
  | 28 => ⟨S1x2x4x64x64, .f32⟩
  | 29 => ⟨S2x4x64x64, .f32⟩
  | 30 => ⟨S_, .i32⟩
  | 31 => ⟨S_, .i32⟩
  | 32 => ⟨S_, .i32⟩
  | 33 => ⟨S_, .i32⟩
  | 34 => ⟨S1x2x4x64x128, .f32⟩
  | 35 => ⟨S2x4x64x128, .f32⟩
  | 36 => ⟨S_, .i32⟩
  | 37 => ⟨S_, .i32⟩
  | 38 => ⟨S_, .i32⟩
  | 39 => ⟨S_, .i32⟩
  | 40 => ⟨S1x2x4x64x64, .f32⟩
  | 41 => ⟨S2x4x64x64, .f32⟩
  | 42 => ⟨S_, .i32⟩
  | 43 => ⟨S_, .i32⟩
  | 44 => ⟨S_, .i32⟩
  | 45 => ⟨S1x2x64x512, .f32⟩
  | 46 => ⟨S2x64x512, .f32⟩
  | 47 => ⟨S_, .i32⟩
  | 48 => ⟨S_, .i32⟩
  | 49 => ⟨S_, .i32⟩
  | 50 => ⟨S1x2x64x512, .f32⟩
  | 51 => ⟨S2x64x512, .f32⟩
  | 52 => ⟨S_, .i32⟩
  | 53 => ⟨S_, .i32⟩
  | 54 => ⟨S_, .i32⟩
  | 55 => ⟨S1x2x64x1024, .f32⟩
  | 56 => ⟨S2x64x1024, .f32⟩
  | 57 => ⟨S_, .f32⟩
  | 58 => ⟨S_, .f32⟩
  | 59 => ⟨S2x4x64x64, .f32⟩
  | 60 => ⟨S2x4x64x64, .f32⟩
  | 61 => ⟨S2x4x64x64, .f32⟩
  | 62 => ⟨S2x4x64x128, .f32⟩
  | 63 => ⟨S2x4x64x1x64, .f32⟩
  | 64 => ⟨S2x4x1x64x64, .f32⟩
  | 65 => ⟨S2x4x64x64x64, .f32⟩
  | 66 => ⟨S2x4x64x64x64, .f32⟩
  | 67 => ⟨S2x4x64x64x64, .f32⟩
  | 68 => ⟨S_, .f32⟩
  | 69 => ⟨S_, .f32⟩
  | 70 => ⟨S2x4x64x64x64, .i1⟩
  | 71 => ⟨S2x4x64x64x64, .f32⟩
  | 72 => ⟨S2x4x64x64x64, .f32⟩
  | 73 => ⟨S2x4x64x64x64, .f32⟩
  | 74 => ⟨S2x4x64x1x64, .f32⟩
  | 75 => ⟨S2x4x1x64x64, .f32⟩
  | 76 => ⟨S2x4x64x64x64, .f32⟩
  | 77 => ⟨S2x4x64x64x64, .f32⟩
  | 78 => ⟨S2x4x64x64x64, .f32⟩
  | 79 => ⟨S2x4x64x64x64, .f32⟩
  | 80 => ⟨S_, .f32⟩
  | 81 => ⟨S2x4x64x64, .f32⟩
  | 82 => ⟨S2x4x64x128, .f32⟩
  | 83 => ⟨S2x4x1x64, .f32⟩
  | 84 => ⟨S2x4x64x64, .f32⟩
  | 85 => ⟨S2x4x64x64, .f32⟩
  | 86 => ⟨S2x4x64x64, .f32⟩
  | 87 => ⟨S2x4x64x64, .f32⟩
  | 88 => ⟨S2x4x64, .f32⟩
  | 89 => ⟨S2x4x64, .f32⟩
  | 90 => ⟨S2x4x64x1, .f32⟩
  | 91 => ⟨S2x4x64x128, .f32⟩
  | 92 => ⟨S2x4x64x128, .f32⟩
  | 93 => ⟨S2x4x64x128, .f32⟩
  | 94 => ⟨S2x4x64x128, .f32⟩
  | 95 => ⟨S2x4x64x128, .f32⟩
  | 96 => ⟨S2x4x64x128, .f32⟩
  | 97 => ⟨S_, .f32⟩
  | 98 => ⟨S2x4x64, .f32⟩
  | 99 => ⟨S2x4x64x1, .f32⟩
  | 100 => ⟨S_, .f32⟩
  | 101 => ⟨S2x4x64x1, .f32⟩
  | 102 => ⟨S2x4x64x1, .f32⟩
  | 103 => ⟨S_, .f32⟩
  | 104 => ⟨S2x4x64x1, .f32⟩
  | 105 => ⟨S2x4x64x1, .f32⟩
  | 106 => ⟨S2x4x64x1, .f32⟩
  | 107 => ⟨S2x4x64x128, .f32⟩
  | 108 => ⟨S2x4x64x128, .f32⟩
  | 109 => ⟨S1x1x1x128, .f32⟩
  | 110 => ⟨S2x4x64x128, .f32⟩
  | 111 => ⟨S2x4x64x128, .f32⟩
  | 112 => ⟨S2x64x4x128, .f32⟩
  | 113 => ⟨S2x64x512, .f32⟩
  | 114 => ⟨S2x64x512, .f32⟩
  | 115 => ⟨S2x64x512, .f32⟩
  | 116 => ⟨S_, .f32⟩
  | 117 => ⟨S2x64x512, .f32⟩
  | 118 => ⟨S2x64x512, .f32⟩
  | 119 => ⟨S_, .f32⟩
  | 120 => ⟨S2x64x512, .f32⟩
  | 121 => ⟨S2x64x512, .f32⟩
  | 122 => ⟨S2x64x512, .f32⟩
  | 123 => ⟨S2x64x512, .f32⟩
  | 124 => ⟨S2x64x1024, .f32⟩
  | 125 => ⟨S2x64x1024, .f32⟩
  | 126 => ⟨S2x64x1024, .f32⟩
  | 127 => ⟨S1x2x64x1024, .f32⟩
  | _ => ⟨S2x8192x1024, .f32⟩

abbrev hbmTy0_2 (i : Nat) : BufTy := match i % 128 with
  | 0 => ⟨S_, .i32⟩
  | 1 => ⟨S_, .i32⟩
  | 2 => ⟨S_, .i32⟩
  | 3 => ⟨S128x2x64x1024, .f32⟩
  | 4 => ⟨S_, .i32⟩
  | 5 => ⟨S_, .i32⟩
  | 6 => ⟨S2x128x64x1024, .f32⟩
  | 7 => ⟨S2x8192x1024, .f32⟩
  | _ => ⟨S2x8192x1024, .f32⟩

abbrev hbmTy (i : Nat) : BufTy := match i / 128 with
  | 0 => hbmTy0_0 i
  | 1 => hbmTy0_1 i
  | 2 => hbmTy0_2 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_cst_1 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_call0_v0 : Ref sig .tc := ⟨.hbm, 42, rfl⟩
abbrev main_call0_call0_cst : Ref sig .tc := ⟨.hbm, 43, rfl⟩
abbrev main_call0_call0_v0 : Ref sig .tc := ⟨.hbm, 44, rfl⟩
abbrev main_call0_call0_v1 : Ref sig .tc := ⟨.hbm, 45, rfl⟩
abbrev main_call0_call0_v2 : Ref sig .tc := ⟨.hbm, 46, rfl⟩
abbrev main_call0_call0_v3 : Ref sig .tc := ⟨.hbm, 47, rfl⟩
abbrev main_call0_call0_v4 : Ref sig .tc := ⟨.hbm, 48, rfl⟩
abbrev main_call0_call0_v5 : Ref sig .tc := ⟨.hbm, 49, rfl⟩
abbrev main_call0_call0_v6 : Ref sig .tc := ⟨.hbm, 50, rfl⟩
abbrev main_call0_call0_v7 : Ref sig .tc := ⟨.hbm, 51, rfl⟩
abbrev main_call0_call0_v8 : Ref sig .tc := ⟨.hbm, 52, rfl⟩
abbrev main_call0_call0_v9 : Ref sig .tc := ⟨.hbm, 53, rfl⟩
abbrev main_call0_call0_v10 : Ref sig .tc := ⟨.hbm, 54, rfl⟩
abbrev main_call0_call0_v11 : Ref sig .tc := ⟨.hbm, 55, rfl⟩
abbrev main_call0_v1 : Ref sig .tc := ⟨.hbm, 56, rfl⟩
abbrev main_v26 : Ref sig .tc := ⟨.hbm, 57, rfl⟩
abbrev main_cst_2 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_c : Ref sig .tc := ⟨.hbm, 62, rfl⟩
abbrev main_call1_v0 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_cst_3 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_c_4 : Ref sig .tc := ⟨.hbm, 89, rfl⟩
abbrev main_v54 : Ref sig .tc := ⟨.hbm, 90, rfl⟩
abbrev main_call2_v0 : Ref sig .tc := ⟨.hbm, 91, rfl⟩
abbrev main_call2_c : Ref sig .tc := ⟨.hbm, 92, rfl⟩
abbrev main_call2_v1 : Ref sig .tc := ⟨.hbm, 93, rfl⟩
abbrev main_call2_v2 : Ref sig .tc := ⟨.hbm, 94, rfl⟩
abbrev main_call2_v3 : Ref sig .tc := ⟨.hbm, 95, rfl⟩
abbrev main_call2_v4 : Ref sig .tc := ⟨.hbm, 96, rfl⟩
abbrev main_call2_c_0 : Ref sig .tc := ⟨.hbm, 97, rfl⟩
abbrev main_call2_v5 : Ref sig .tc := ⟨.hbm, 98, rfl⟩
abbrev main_v55 : Ref sig .tc := ⟨.hbm, 99, rfl⟩
abbrev main_v56 : Ref sig .tc := ⟨.hbm, 100, rfl⟩
abbrev main_cst_5 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_cst_6 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_cst_7 : Ref sig .tc := ⟨.hbm, 128, rfl⟩
abbrev main_v82 : Ref sig .tc := ⟨.hbm, 129, rfl⟩
abbrev main_c_8 : Ref sig .tc := ⟨.hbm, 130, rfl⟩
abbrev main_v83_0 : Ref sig .tc := ⟨.hbm, 131, rfl⟩
abbrev main_v83_1 : Ref sig .tc := ⟨.hbm, 132, rfl⟩
abbrev main_v83_2 : Ref sig .tc := ⟨.hbm, 133, rfl⟩
abbrev main_v83_3 : Ref sig .tc := ⟨.hbm, 134, rfl⟩
abbrev main_v83_4 : Ref sig .tc := ⟨.hbm, 135, rfl⟩
abbrev main_v83_5 : Ref sig .tc := ⟨.hbm, 136, rfl⟩
abbrev main_v83_6 : Ref sig .tc := ⟨.hbm, 137, rfl⟩
abbrev main_v83_7 : Ref sig .tc := ⟨.hbm, 138, rfl⟩
abbrev main_v83_8 : Ref sig .tc := ⟨.hbm, 139, rfl⟩
abbrev main_v83_9 : Ref sig .tc := ⟨.hbm, 140, rfl⟩
abbrev main_v83_10 : Ref sig .tc := ⟨.hbm, 141, rfl⟩
abbrev main_v83_11 : Ref sig .tc := ⟨.hbm, 142, rfl⟩
abbrev main_v83_12 : Ref sig .tc := ⟨.hbm, 143, rfl⟩
abbrev main_while0c_c_21 : Ref sig .tc := ⟨.hbm, 144, rfl⟩
abbrev main_while0c_v86 : Ref sig .tc := ⟨.hbm, 145, rfl⟩
abbrev main_while0b_call3_c : Ref sig .tc := ⟨.hbm, 146, rfl⟩
abbrev main_while0b_call3_c_0 : Ref sig .tc := ⟨.hbm, 147, rfl⟩
abbrev main_while0b_call3_c_1 : Ref sig .tc := ⟨.hbm, 148, rfl⟩
abbrev main_while0b_call3_c_2 : Ref sig .tc := ⟨.hbm, 149, rfl⟩
abbrev main_while0b_call3_v0 : Ref sig .tc := ⟨.hbm, 150, rfl⟩
abbrev main_while0b_v86 : Ref sig .tc := ⟨.hbm, 151, rfl⟩
abbrev main_while0b_call4_c : Ref sig .tc := ⟨.hbm, 152, rfl⟩
abbrev main_while0b_call4_c_0 : Ref sig .tc := ⟨.hbm, 153, rfl⟩
abbrev main_while0b_call4_c_1 : Ref sig .tc := ⟨.hbm, 154, rfl⟩
abbrev main_while0b_call4_c_2 : Ref sig .tc := ⟨.hbm, 155, rfl⟩
abbrev main_while0b_call4_v0 : Ref sig .tc := ⟨.hbm, 156, rfl⟩
abbrev main_while0b_v87 : Ref sig .tc := ⟨.hbm, 157, rfl⟩
abbrev main_while0b_call5_c : Ref sig .tc := ⟨.hbm, 158, rfl⟩
abbrev main_while0b_call5_c_0 : Ref sig .tc := ⟨.hbm, 159, rfl⟩
abbrev main_while0b_call5_c_1 : Ref sig .tc := ⟨.hbm, 160, rfl⟩
abbrev main_while0b_call5_c_2 : Ref sig .tc := ⟨.hbm, 161, rfl⟩
abbrev main_while0b_call5_v0 : Ref sig .tc := ⟨.hbm, 162, rfl⟩
abbrev main_while0b_v88 : Ref sig .tc := ⟨.hbm, 163, rfl⟩
abbrev main_while0b_call6_c : Ref sig .tc := ⟨.hbm, 164, rfl⟩
abbrev main_while0b_call6_c_0 : Ref sig .tc := ⟨.hbm, 165, rfl⟩
abbrev main_while0b_call6_c_1 : Ref sig .tc := ⟨.hbm, 166, rfl⟩
abbrev main_while0b_call6_c_2 : Ref sig .tc := ⟨.hbm, 167, rfl⟩
abbrev main_while0b_call6_v0 : Ref sig .tc := ⟨.hbm, 168, rfl⟩
abbrev main_while0b_v89 : Ref sig .tc := ⟨.hbm, 169, rfl⟩
abbrev main_while0b_call7_c : Ref sig .tc := ⟨.hbm, 170, rfl⟩
abbrev main_while0b_call7_c_0 : Ref sig .tc := ⟨.hbm, 171, rfl⟩
abbrev main_while0b_call7_c_1 : Ref sig .tc := ⟨.hbm, 172, rfl⟩
abbrev main_while0b_call7_v0 : Ref sig .tc := ⟨.hbm, 173, rfl⟩
abbrev main_while0b_v90 : Ref sig .tc := ⟨.hbm, 174, rfl⟩
abbrev main_while0b_call8_c : Ref sig .tc := ⟨.hbm, 175, rfl⟩
abbrev main_while0b_call8_c_0 : Ref sig .tc := ⟨.hbm, 176, rfl⟩
abbrev main_while0b_call8_c_1 : Ref sig .tc := ⟨.hbm, 177, rfl⟩
abbrev main_while0b_call8_v0 : Ref sig .tc := ⟨.hbm, 178, rfl⟩
abbrev main_while0b_v91 : Ref sig .tc := ⟨.hbm, 179, rfl⟩
abbrev main_while0b_call9_c : Ref sig .tc := ⟨.hbm, 180, rfl⟩
abbrev main_while0b_call9_c_0 : Ref sig .tc := ⟨.hbm, 181, rfl⟩
abbrev main_while0b_call9_c_1 : Ref sig .tc := ⟨.hbm, 182, rfl⟩
abbrev main_while0b_call9_v0 : Ref sig .tc := ⟨.hbm, 183, rfl⟩
abbrev main_while0b_v92 : Ref sig .tc := ⟨.hbm, 184, rfl⟩
abbrev main_while0b_call10_call0_cst : Ref sig .tc := ⟨.hbm, 185, rfl⟩
abbrev main_while0b_call10_call0_v0 : Ref sig .tc := ⟨.hbm, 186, rfl⟩
abbrev main_while0b_v93 : Ref sig .tc := ⟨.hbm, 187, rfl⟩
abbrev main_while0b_v94 : Ref sig .tc := ⟨.hbm, 188, rfl⟩
abbrev main_while0b_v95 : Ref sig .tc := ⟨.hbm, 189, rfl⟩
abbrev main_while0b_v96 : Ref sig .tc := ⟨.hbm, 190, rfl⟩
abbrev main_while0b_v97 : Ref sig .tc := ⟨.hbm, 191, rfl⟩
abbrev main_while0b_v98 : Ref sig .tc := ⟨.hbm, 192, rfl⟩
abbrev main_while0b_v99 : Ref sig .tc := ⟨.hbm, 193, rfl⟩
abbrev main_while0b_v100 : Ref sig .tc := ⟨.hbm, 194, rfl⟩
abbrev main_while0b_v101 : Ref sig .tc := ⟨.hbm, 195, rfl⟩
abbrev main_while0b_cst_21 : Ref sig .tc := ⟨.hbm, 196, rfl⟩
abbrev main_while0b_call11_v0 : Ref sig .tc := ⟨.hbm, 197, rfl⟩
abbrev main_while0b_call11_v1 : Ref sig .tc := ⟨.hbm, 198, rfl⟩
abbrev main_while0b_call11_v2 : Ref sig .tc := ⟨.hbm, 199, rfl⟩
abbrev main_while0b_v102 : Ref sig .tc := ⟨.hbm, 200, rfl⟩
abbrev main_while0b_v103 : Ref sig .tc := ⟨.hbm, 201, rfl⟩
abbrev main_while0b_v104 : Ref sig .tc := ⟨.hbm, 202, rfl⟩
abbrev main_while0b_v105 : Ref sig .tc := ⟨.hbm, 203, rfl⟩
abbrev main_while0b_v106 : Ref sig .tc := ⟨.hbm, 204, rfl⟩
abbrev main_while0b_v107 : Ref sig .tc := ⟨.hbm, 205, rfl⟩
abbrev main_while0b_v108 : Ref sig .tc := ⟨.hbm, 206, rfl⟩
abbrev main_while0b_v109 : Ref sig .tc := ⟨.hbm, 207, rfl⟩
abbrev main_while0b_cst_22 : Ref sig .tc := ⟨.hbm, 208, rfl⟩
abbrev main_while0b_v110 : Ref sig .tc := ⟨.hbm, 209, rfl⟩
abbrev main_while0b_v111 : Ref sig .tc := ⟨.hbm, 210, rfl⟩
abbrev main_while0b_v112 : Ref sig .tc := ⟨.hbm, 211, rfl⟩
abbrev main_while0b_v113 : Ref sig .tc := ⟨.hbm, 212, rfl⟩
abbrev main_while0b_v114 : Ref sig .tc := ⟨.hbm, 213, rfl⟩
abbrev main_while0b_v115 : Ref sig .tc := ⟨.hbm, 214, rfl⟩
abbrev main_while0b_v116 : Ref sig .tc := ⟨.hbm, 215, rfl⟩
abbrev main_while0b_v117 : Ref sig .tc := ⟨.hbm, 216, rfl⟩
abbrev main_while0b_v118 : Ref sig .tc := ⟨.hbm, 217, rfl⟩
abbrev main_while0b_v119 : Ref sig .tc := ⟨.hbm, 218, rfl⟩
abbrev main_while0b_v120 : Ref sig .tc := ⟨.hbm, 219, rfl⟩
abbrev main_while0b_v121 : Ref sig .tc := ⟨.hbm, 220, rfl⟩
abbrev main_while0b_v122 : Ref sig .tc := ⟨.hbm, 221, rfl⟩
abbrev main_while0b_v123 : Ref sig .tc := ⟨.hbm, 222, rfl⟩
abbrev main_while0b_v124 : Ref sig .tc := ⟨.hbm, 223, rfl⟩
abbrev main_while0b_v125 : Ref sig .tc := ⟨.hbm, 224, rfl⟩
abbrev main_while0b_cst_23 : Ref sig .tc := ⟨.hbm, 225, rfl⟩
abbrev main_while0b_v126 : Ref sig .tc := ⟨.hbm, 226, rfl⟩
abbrev main_while0b_v127 : Ref sig .tc := ⟨.hbm, 227, rfl⟩
abbrev main_while0b_cst_24 : Ref sig .tc := ⟨.hbm, 228, rfl⟩
abbrev main_while0b_v128 : Ref sig .tc := ⟨.hbm, 229, rfl⟩
abbrev main_while0b_v129 : Ref sig .tc := ⟨.hbm, 230, rfl⟩
abbrev main_while0b_cst_25 : Ref sig .tc := ⟨.hbm, 231, rfl⟩
abbrev main_while0b_v130 : Ref sig .tc := ⟨.hbm, 232, rfl⟩
abbrev main_while0b_v131 : Ref sig .tc := ⟨.hbm, 233, rfl⟩
abbrev main_while0b_v132 : Ref sig .tc := ⟨.hbm, 234, rfl⟩
abbrev main_while0b_v133 : Ref sig .tc := ⟨.hbm, 235, rfl⟩
abbrev main_while0b_v134 : Ref sig .tc := ⟨.hbm, 236, rfl⟩
abbrev main_while0b_v135 : Ref sig .tc := ⟨.hbm, 237, rfl⟩
abbrev main_while0b_v136 : Ref sig .tc := ⟨.hbm, 238, rfl⟩
abbrev main_while0b_v137 : Ref sig .tc := ⟨.hbm, 239, rfl⟩
abbrev main_while0b_v138 : Ref sig .tc := ⟨.hbm, 240, rfl⟩
abbrev main_while0b_v139 : Ref sig .tc := ⟨.hbm, 241, rfl⟩
abbrev main_while0b_v140 : Ref sig .tc := ⟨.hbm, 242, rfl⟩
abbrev main_while0b_v141 : Ref sig .tc := ⟨.hbm, 243, rfl⟩
abbrev main_while0b_cst_26 : Ref sig .tc := ⟨.hbm, 244, rfl⟩
abbrev main_while0b_v142 : Ref sig .tc := ⟨.hbm, 245, rfl⟩
abbrev main_while0b_v143 : Ref sig .tc := ⟨.hbm, 246, rfl⟩
abbrev main_while0b_cst_27 : Ref sig .tc := ⟨.hbm, 247, rfl⟩
abbrev main_while0b_v144 : Ref sig .tc := ⟨.hbm, 248, rfl⟩
abbrev main_while0b_v145 : Ref sig .tc := ⟨.hbm, 249, rfl⟩
abbrev main_while0b_v146 : Ref sig .tc := ⟨.hbm, 250, rfl⟩
abbrev main_while0b_v147 : Ref sig .tc := ⟨.hbm, 251, rfl⟩
abbrev main_while0b_v148 : Ref sig .tc := ⟨.hbm, 252, rfl⟩
abbrev main_while0b_v149 : Ref sig .tc := ⟨.hbm, 253, rfl⟩
abbrev main_while0b_v150 : Ref sig .tc := ⟨.hbm, 254, rfl⟩
abbrev main_while0b_call12_v0 : Ref sig .tc := ⟨.hbm, 255, rfl⟩
abbrev main_while0b_call12_c : Ref sig .tc := ⟨.hbm, 256, rfl⟩
abbrev main_while0b_call12_c_0 : Ref sig .tc := ⟨.hbm, 257, rfl⟩
abbrev main_while0b_call12_c_1 : Ref sig .tc := ⟨.hbm, 258, rfl⟩
abbrev main_while0b_v151 : Ref sig .tc := ⟨.hbm, 259, rfl⟩
abbrev main_while0b_c_28 : Ref sig .tc := ⟨.hbm, 260, rfl⟩
abbrev main_while0b_v152 : Ref sig .tc := ⟨.hbm, 261, rfl⟩
abbrev main_v84 : Ref sig .tc := ⟨.hbm, 262, rfl⟩
abbrev main_v85 : Ref sig .tc := ⟨.hbm, 263, rfl⟩

abbrev nD : Nat := 1
abbrev τ : Topo := Topo.v7x

variable {F : FTy → Type} [FloatOps F]

abbrev main_while0_count : Scf.Loop 32 := ⟨0#32, 128#32, 1#32⟩
-- ==== Proof.Moe.Blocks.lean ====
/- Where each window's block sits in its array: point `t` works on tile `t / 16` of the tokens and on expert `t % 16`. -/
module

public import proofs.«01_k».proof.Proof.Gen.KernelIdeal.Value
public import Idealize.ShloMosaic.Lib.Pointwise
public import Idealize.ShloMosaic.Lib.Pipeline.ValueKit

@[expose] public section

set_option maxRecDepth 16384

noncomputable section

namespace Cert.KernelIdeal.Moe

open Cert.KernelIdeal Cert.KernelIdeal.Gen Idealize.ShloMosaic Idealize.ShloMosaic.TcCoe Idealize.SL.Sem

variable (m : (ℓ : Loc nD τ sig) → Buf (Elt Ideal) ℓ)

theorem idx0 : ∀ t : Fin grid0.N, win0_0.index t = ![t.val / 16, 0] := by decide +kernel
theorem idx1 : ∀ t : Fin grid0.N, win0_1.index t = ![t.val / 16, 0] := by decide +kernel
theorem idx2 : ∀ t : Fin grid0.N, win0_2.index t = ![t.val / 16, 0] := by decide +kernel
theorem idx3 : ∀ t : Fin grid0.N, win0_3.index t = ![0, 0] := by decide +kernel
theorem idx4 : ∀ t : Fin grid0.N, win0_4.index t = ![t.val % 16, 0, 0] := by decide +kernel
theorem idx5 : ∀ t : Fin grid0.N, win0_5.index t = ![t.val % 16, 0, 0] := by decide +kernel
theorem idx6 : ∀ t : Fin grid0.N, win0_6.index t = ![t.val % 16, 0, 0] := by decide +kernel
theorem idx7 : ∀ t : Fin grid0.N, win0_7.index t = ![0, 0] := by decide +kernel
theorem idx8 : ∀ t : Fin grid0.N, win0_8.index t = ![0, 0] := by decide +kernel
theorem idx9 : ∀ t : Fin grid0.N, win0_9.index t = ![0, 0] := by decide +kernel
theorem idx10 : ∀ t : Fin grid0.N, win0_10.index t = ![0, 0] := by decide +kernel
theorem idx11 : ∀ t : Fin grid0.N, win0_11.index t = ![t.val / 16, 0] := by decide +kernel
theorem coord1 : ∀ t : Fin grid0.N, (grid0.coords t 1).val = t.val % 16 := by decide +kernel

theorem point_lt (t : Fin cfg0.N) : t.val < 256 := lt_of_lt_of_eq t.isLt N_0

/-- Row `r` of point `t`'s tile, in the whole array. -/
def rowOf (t : Fin cfg0.N) (r : Fin 1024) : Fin 16384 :=
  ⟨t.val / 16 * 1024 + r.val, by have := point_lt t; have := r.isLt; omega⟩

/-- Point `t`'s expert. -/
def expertOf (t : Fin cfg0.N) : Fin 16 := ⟨t.val % 16, Nat.mod_lt _ (by decide)⟩

variable (c : Dev nD) (t : Fin cfg0.N)

theorem blk0 (r k : Fin 1024) : iblk m c 0 t (ix2 r k) = m ((c.tc : Thread nD τ).loc main_arg0) (ix2 (rowOf t r) k) := by
  blk_ext [iblk, V, idx0 t, rowOf]
theorem blk1 (r : Fin 1024) (k : Fin 128) : iblk m c 1 t (ix2 r k) = m ((c.tc : Thread nD τ).loc main_arg1) (ix2 (rowOf t r) k) := by
  blk_ext [iblk, V, idx1 t, rowOf]
theorem blk2 (r : Fin 1024) (k : Fin 256) : iblk m c 2 t (ix2 r k) = m ((c.tc : Thread nD τ).loc main_arg2) (ix2 (rowOf t r) k) := by
  blk_ext [iblk, V, idx2 t, rowOf]
theorem blk3 (k : Fin 1024) : iblk m c 3 t (ix2 0 k) = m ((c.tc : Thread nD τ).loc main_arg3) (ix1 k) := by
  blk_ext! [iblk, V, idx3 t]
theorem blk4 (k : Fin 1024) (f : Fin 512) : iblk m c 4 t (ix3 0 k f) = m ((c.tc : Thread nD τ).loc main_arg4) (ix3 (expertOf t) k f) := by
  blk_ext [iblk, V, idx4 t, expertOf]
theorem blk5 (k : Fin 1024) (f : Fin 512) : iblk m c 5 t (ix3 0 k f) = m ((c.tc : Thread nD τ).loc main_arg5) (ix3 (expertOf t) k f) := by
  blk_ext [iblk, V, idx5 t, expertOf]
theorem blk6 (f : Fin 512) (k : Fin 1024) : iblk m c 6 t (ix3 0 f k) = m ((c.tc : Thread nD τ).loc main_arg6) (ix3 (expertOf t) f k) := by
  blk_ext [iblk, V, idx6 t, expertOf]
theorem blk7 (k : Fin 1024) : iblk m c 7 t (ix2 0 k) = m ((c.tc : Thread nD τ).loc main_arg7) (ix1 k) := by
  blk_ext! [iblk, V, idx7 t]
theorem blk8 (k j : Fin 1024) : iblk m c 8 t (ix2 k j) = m ((c.tc : Thread nD τ).loc main_arg8) (ix2 k j) := by
  blk_ext [iblk, V, idx8 t]
theorem blk9 (k : Fin 256) (j : Fin 1024) : iblk m c 9 t (ix2 k j) = m ((c.tc : Thread nD τ).loc main_arg9) (ix2 k j) := by
  blk_ext [iblk, V, idx9 t]
theorem blk10 (k : Fin 1024) : iblk m c 10 t (ix2 0 k) = m ((c.tc : Thread nD τ).loc main_arg10) (ix1 k) := by
  blk_ext! [iblk, V, idx10 t]

end Cert.KernelIdeal.Moe

end
-- ==== Proof.Moe.Model.lean ====
/- One token's row through the mixture of experts, the gated per-layer embedding and the last normalisation,
   as plain functions of rows and weight matrices over the extended reals. Both programs are read as these. -/
module

public import Idealize.ShloMosaic.Lib.Pointwise

@[expose] public section

noncomputable section

namespace Cert.Moe

open Idealize.ShloMosaic

/-- One over the root of a row's mean square plus epsilon. -/
def scale (x : Fin 1024 → EReal) : EReal :=
  Ideal.rsqrt (Ideal.div (∑ k, x k * x k) (Ideal.ofBits .f32 0x44800000#32) + Ideal.ofBits .f32 0x358637BD#32)

/-- The root-mean-square normalisation of a row `x` with gains `g`. -/
def rmsNorm (x g : Fin 1024 → EReal) (k : Fin 1024) : EReal := x k * scale x * g k

/-- One expert's hidden unit `f` for the row `t`. -/
def hidden (t : Fin 1024 → EReal) (wg wu : Fin 1024 → Fin 512 → EReal) (f : Fin 512) : EReal :=
  (∑ k, t k * wg k f) * Ideal.logistic (∑ k, t k * wg k f) * ∑ k, t k * wu k f

/-- One expert's weighted addend to column `j`. -/
def addend (t : Fin 1024 → EReal) (wg wu : Fin 1024 → Fin 512 → EReal) (wd : Fin 512 → Fin 1024 → EReal)
    (w : EReal) (j : Fin 1024) : EReal :=
  w * ∑ f, hidden t wg wu f * wd f j

/-- The gated per-layer embedding added to the row `x`. -/
def embed (x g : Fin 1024 → EReal) (w : Fin 1024 → Fin 1024 → EReal) (p : Fin 256 → EReal)
    (wp : Fin 256 → Fin 1024 → EReal) (j : Fin 1024) : EReal :=
  x j + Ideal.logistic (∑ k, rmsNorm x g k * w k j) * ∑ k, p k * wp k j

end Cert.Moe

end
-- ==== Proof.Moe.Payloads.lean ====
/- What the kernel's body computes at an element, in the words of `Moe.Model`. -/
module

public import proofs.«01_k».proof.Proof.Gen.KernelIdeal.Skeleton
public import proofs.«01_k».proof.Proof.Moe.Model

@[expose] public section

set_option maxRecDepth 16384

noncomputable section

namespace Cert.KernelIdeal.Moe

open Cert.KernelIdeal Cert.KernelIdeal.Gen Idealize.ShloMosaic Idealize.ShloMosaic.TcCoe Idealize.SL.Sem
open Cert.Moe

/-- The normalised tile: each row of the block of tokens, normalised. -/
theorem pay5_apply (x : Vec Ideal S1024x1024 .f32) (g : Vec Ideal S1x1024 .f32) (r k : Fin 1024) :
    k0_pay5 x g (ix2 r k) = rmsNorm (fun k => x (ix2 r k)) (fun k => g (ix2 0 k)) k := by
  pointwise [k0_pay5]
  rfl

/-- The reset stores zeros. -/
theorem pay6_apply (r k : Fin 1024) : (k0_pay6 : FVec Ideal S1024x1024 .f32) (ix2 r k) = 0 := by
  pointwise [k0_pay6]

/-- Picking lane `e` by a compare with the lane numbers and summing the lanes. -/
theorem sum_pick (e : ℕ) (he : e < 128) (v : Fin 128 → EReal) :
    (∑ x : Fin 128, Scalar.select (α := EReal) (IntOp.cmpi CmpIPredicate.eq (BitVec.ofNat 32 x.val) (BitVec.ofNat 32 e)) (v x) 0)
      = v ⟨e, he⟩ := by
  rw [Finset.sum_eq_single (⟨e, he⟩ : Fin 128)]
  · simp [Scalar.select, IntOp.cmpi]
  · intro b _ hb
    have h : ¬ (BitVec.ofNat 32 b.val = BitVec.ofNat 32 e) := by
      intro h
      apply hb
      apply Fin.ext
      have h2 := congrArg BitVec.toNat h
      simp only [BitVec.toNat_ofNat] at h2
      have := b.isLt
      show b.val = e
      omega
    simp [Scalar.select, IntOp.cmpi, beq_eq_false_iff_ne.mpr h]
  · intro h; exact absurd (Finset.mem_univ _) h

/-- One grid point adds one expert's weighted addend. -/
theorem pay7_apply (i : grid0.Coords) (h : Vec Ideal S1024x1024 .bf16) (wg wu : Vec Ideal S1x1024x512 .bf16)
    (cb : Vec Ideal S1024x128 .f32) (a : Vec Ideal S1024x1024 .f32) (wd : Vec Ideal S1x512x1024 .bf16)
    (e : ℕ) (he : e < 128) (hi : (i 1).val = e) (r k : Fin 1024) :
    k0_pay7 i h wg wu cb a wd (ix2 r k)
      = a (ix2 r k) + addend (fun k => h (ix2 r k)) (fun k f => wg (ix3 0 k f)) (fun k f => wu (ix3 0 k f))
          (fun f j => wd (ix3 0 f j)) (cb (ix2 r ⟨e, he⟩)) k := by
  pointwise [k0_pay7]
  rw [hi]
  rw [sum_pick e he fun x => cb (ix2 r x)]
  rfl

/-- The row after the experts' sum with the gated embedding added. -/
theorem pay2_apply (x a : Vec Ideal S1024x1024 .f32) (g : Vec Ideal S1x1024 .f32) (w : Vec Ideal S1024x1024 .bf16)
    (p : Vec Ideal S1024x256 .f32) (wp : Vec Ideal S256x1024 .bf16) (r k : Fin 1024) :
    k0_pay2 x a g w p wp (ix2 r k)
      = embed (fun k => x (ix2 r k) + a (ix2 r k)) (fun k => g (ix2 0 k)) (fun k j => w (ix2 k j))
          (fun k => p (ix2 r k)) (fun k j => wp (ix2 k j)) k := by
  pointwise [k0_pay2]
  rfl

/-- The last normalisation of that row. -/
theorem pay1_apply (x a : Vec Ideal S1024x1024 .f32) (g : Vec Ideal S1x1024 .f32) (w : Vec Ideal S1024x1024 .bf16)
    (p : Vec Ideal S1024x256 .f32) (wp : Vec Ideal S256x1024 .bf16) (gf : Vec Ideal S1x1024 .f32) (r k : Fin 1024) :
    k0_pay1 (k0_pay2 x a g w p wp) (k0_pay3 gf) (k0_pay4 x a g w p wp) (ix2 r k)
      = rmsNorm (embed (fun k => x (ix2 r k) + a (ix2 r k)) (fun k => g (ix2 0 k)) (fun k j => w (ix2 k j))
          (fun k => p (ix2 r k)) (fun k j => wp (ix2 k j))) (fun k => gf (ix2 0 k)) k := by
  pointwise [k0_pay1, k0_pay3, k0_pay4]
  simp only [pay2_apply]
  rfl

end Cert.KernelIdeal.Moe

end
-- ==== Proof.Moe.Kernel.lean ====
/- The kernel's result array: each tile's normalised rows are held through its sixteen points, each point adds one
   expert's addend, and the last point writes the finished rows. -/
module

public import proofs.«01_k».proof.Proof.Moe.Blocks
public import proofs.«01_k».proof.Proof.Moe.Payloads
public import Idealize.ShloMosaic.Lib.Pipeline.ValueKit.Held
public import Idealize.ShloMosaic.Lib.Pipeline.ReadBack

@[expose] public section

set_option maxRecDepth 16384

noncomputable section

namespace Cert.KernelIdeal.Moe

open Cert.KernelIdeal Cert.KernelIdeal.Gen Idealize.ShloMosaic Idealize.ShloMosaic.TcCoe Idealize.SL.Sem
open Cert.Moe (rmsNorm embed addend)

variable (m : (ℓ : Loc nD τ sig) → Buf (Elt Ideal) ℓ) (c : Dev nD)

/-- Token `n`'s row as it comes in. -/
def tokenIn (n : Fin 16384) : Fin 1024 → EReal := fun k => m ((c.tc : Thread nD τ).loc main_arg0) (ix2 n k)

/-- The normalised row of token `n`. -/
def tokenRow (n : Fin 16384) : Fin 1024 → EReal :=
  rmsNorm (fun k => m ((c.tc : Thread nD τ).loc main_arg0) (ix2 n k)) (fun k => m ((c.tc : Thread nD τ).loc main_arg3) (ix1 k))

/-- Expert `e`'s weighted addend to token `n`'s column `j`. -/
def expertTerm (n : Fin 16384) (e : Fin 16) (j : Fin 1024) : EReal :=
  addend (tokenRow m c n) (fun k f => m ((c.tc : Thread nD τ).loc main_arg4) (ix3 e k f))
    (fun k f => m ((c.tc : Thread nD τ).loc main_arg5) (ix3 e k f))
    (fun f k => m ((c.tc : Thread nD τ).loc main_arg6) (ix3 e f k))
    (m ((c.tc : Thread nD τ).loc main_arg1) (ix2 n ⟨e.val, by have := e.isLt; omega⟩)) j

/-- Token `n`'s finished row: the experts' sum added, the embedding added, normalised. -/
def finalRow (n : Fin 16384) : Fin 1024 → EReal :=
  rmsNorm (embed (fun j => tokenIn m c n j + ∑ e : Fin 16, expertTerm m c n e j)
      (fun k => m ((c.tc : Thread nD τ).loc main_arg7) (ix1 k))
      (fun k j => m ((c.tc : Thread nD τ).loc main_arg8) (ix2 k j))
      (fun k => m ((c.tc : Thread nD τ).loc main_arg2) (ix2 n k))
      (fun k j => m ((c.tc : Thread nD τ).loc main_arg9) (ix2 k j)))
    (fun k => m ((c.tc : Thread nD τ).loc main_arg10) (ix1 k))

theorem held_start (t : Fin cfg0.N) (h : t.val % 16 = 0) :
    (outsAt0 m c t.val t.isLt).2.1 = k0_pay5 (iblk m c 0 t) (iblk m c 3 t) := by
  rw [outsAt0_A m c t h (by omega)]
  frame_out

theorem held_keep (t : Fin cfg0.N) (h : ¬t.val % 16 = 0) :
    (outsAt0 m c t.val t.isLt).2.1 = (outsAt0 m c (t.val - 1) (Nat.lt_of_le_of_lt (Nat.sub_le _ _) t.isLt)).2.1 := by
  by_cases h1 : t.val % 16 = 15
  · rw [outsAt0_C m c t h h1]
    unfold sout0_C_0
    rfl
  · rw [outsAt0_B m c t h h1]
    unfold sout0_B_0
    rfl

/-- What the held scratch has at any point: the tile's normalised rows. -/
theorem held (t : Fin cfg0.N) (r k : Fin 1024) :
    (outsAt0 m c t.val t.isLt).2.1 (ix2 r k) = tokenRow m c (rowOf t r) k := by
  rw [Pipeline.eq_of_write_hold (fun n h => (outsAt0 m c n h).2.1) 16 (fun t => k0_pay5 (iblk m c 0 t) (iblk m c 3 t))
    (fun t h => held_start m c t h) (fun t h => held_keep m c t h) t]
  rw [pay5_apply]
  simp only [blk0, blk3]
  have e : rowOf ⟨16 * (t.val / 16), Pipeline.run_start_lt t⟩ r = rowOf t r := by
    apply Fin.ext
    show 16 * (t.val / 16) / 16 * 1024 + r.val = t.val / 16 * 1024 + r.val
    omega
  rw [e]
  rfl

theorem step_eq (t : Fin cfg0.N) (h : Vec Ideal S1024x1024 .bf16) (a : Vec Ideal S1024x1024 .f32) (r k : Fin 1024)
    (hh : ∀ k, h (ix2 r k) = tokenRow m c (rowOf t r) k) :
    k0_pay7 (grid0.coords t) h (iblk m c 4 t) (iblk m c 5 t) (iblk m c 1 t) a (iblk m c 6 t) (ix2 r k)
      = a (ix2 r k) + expertTerm m c (rowOf t r) (expertOf t) k := by
  rw [pay7_apply _ _ _ _ _ _ _ (t.val % 16) (by omega) (coord1 t)]
  simp only [hh, blk4, blk5, blk6, blk1]
  rfl

theorem acc_start (t : Fin cfg0.N) (h : t.val % 16 = 0) (r k : Fin 1024) :
    (outsAt0 m c t.val t.isLt).2.2 (ix2 r k) = 0 + expertTerm m c (rowOf t r) (expertOf t) k := by
  have hh := fun k => held m c t r k
  rw [held_start m c t h] at hh
  rw [outsAt0_A m c t h (by omega)]
  frame_out
  rw [step_eq m c t _ _ _ _ hh, pay6_apply]

theorem acc_step (t : Fin cfg0.N) (h : ¬t.val % 16 = 0) (r k : Fin 1024) :
    (outsAt0 m c t.val t.isLt).2.2 (ix2 r k)
      = (outsAt0 m c (t.val - 1) (Nat.lt_of_le_of_lt (Nat.sub_le _ _) t.isLt)).2.2 (ix2 r k)
        + expertTerm m c (rowOf t r) (expertOf t) k := by
  have hh := fun k => held m c t r k
  rw [held_keep m c t h] at hh
  by_cases h1 : t.val % 16 = 15
  · rw [outsAt0_C m c t h h1]
    frame_out
    simp only [read_unread_whole]
    rw [step_eq m c t _ _ _ _ hh]
  · rw [outsAt0_B m c t h h1]
    frame_out
    simp only [read_unread_whole]
    rw [step_eq m c t _ _ _ _ hh]

/-- The accumulator at a tile's last point: the experts' sum. -/
theorem acc_last (t : Fin cfg0.N) (h : t.val % 16 = 15) (r k : Fin 1024) :
    (outsAt0 m c t.val t.isLt).2.2 (ix2 r k) = ∑ e : Fin 16, expertTerm m c (rowOf t r) e k := by
  rw [Pipeline.eq_sum_fin_of_reset_step_apply_of_flush (fun n h => (outsAt0 m c n h).2.2) 16 (fun _ => (0 : EReal))
    (fun t i => expertTerm m c (rowOf t (i 0)) (expertOf t) (i 1))
    (fun t h i => by rw [eq_ix2 i]; exact acc_start m c t h _ _) (fun t h i => by rw [eq_ix2 i]; exact acc_step m c t h _ _)
    t h (ix2 r k), zero_add]
  refine Finset.sum_congr rfl fun s _ => ?_
  have hs := s.isLt
  have e1 : rowOf ⟨16 * (t.val / 16) + s.val, Pipeline.run_point_lt_of_flush t h s⟩ r = rowOf t r := by
    apply Fin.ext
    show (16 * (t.val / 16) + s.val) / 16 * 1024 + r.val = t.val / 16 * 1024 + r.val
    omega
  have e2 : expertOf ⟨16 * (t.val / 16) + s.val, Pipeline.run_point_lt_of_flush t h s⟩ = s := by
    apply Fin.ext
    show (16 * (t.val / 16) + s.val) % 16 = s.val
    omega
  show expertTerm m c (rowOf _ r) (expertOf _) k = _
  rw [e1, e2]

/-- What the last point of a tile leaves in the output's block. -/
theorem out_last (t : Fin cfg0.N) (h : t.val % 16 = 15) (r k : Fin 1024) :
    (outsAt0 m c t.val t.isLt).1 (ix2 r k) = finalRow m c (rowOf t r) k := by
  have ha := acc_last m c t h r
  rw [outsAt0_C m c t (by omega) h] at ha ⊢
  revert ha
  frame_out
  intro ha
  rw [pay1_apply]
  simp only [ha, blk0, blk2, blk7, blk8, blk9, blk10]
  rfl

/-- The same at the block's place in the array. -/
theorem out_block (t : Fin cfg0.N) (h : t.val % 16 = 15) (y : S1024x1024.Idx) :
    (outsAt0 m c t.val t.isLt).1 y
      = finalRow m c ((win0_11.blk t).view.emb y 0) ((win0_11.blk t).view.emb y 1) := by
  obtain ⟨r, k, rfl⟩ : ∃ (r k : Fin 1024), y = ix2 r k := ⟨y 0, y 1, eq_ix2 y⟩
  have e0 : (win0_11.blk t).view.emb (ix2 r k) 0 = rowOf t r := by
    apply Fin.ext
    show win0_11.index t (0 : Fin 2) * 1024 + 1 * r.val = t.val / 16 * 1024 + r.val
    rw [idx11 t]
    simp
  have e1 : (win0_11.blk t).view.emb (ix2 r k) 1 = k := by
    apply Fin.ext
    show win0_11.index t (1 : Fin 2) * 1024 + 1 * k.val = k.val
    rw [idx11 t]
    simp
  rw [e0, e1]
  exact out_last m c t h r k

/-- The whole result array. -/
theorem result (i : S16384x1024.Idx) :
    (dats m 0 c).arrAt 11 cfg0.N i = finalRow m c (i 0) (i 1) := by
  have hG : (dats m 0 c).arrAt 11 cfg0.N = (fun i : S16384x1024.Idx => finalRow m c (i 0) (i 1)) := by
    refine (dats m 0 c).arrAt_eq_of_covers 11 _ (by decide +kernel) fun t hf y => ?_
    have h15 : t.val % 16 = 15 := (flush0_11 t).mp hf
    blk_simp
    rw [after0_11]
    exact out_block m c t h15 y
  rw [hG]

end Cert.KernelIdeal.Moe

end
-- ==== Proof.Moe.Reference.lean ====
/- The reference's result array in the words of `Moe.Model`. -/
module

public import proofs.«01_k».proof.Proof.Gen.ReferenceIdeal.Run
public import proofs.«01_k».proof.Proof.Moe.Model

@[expose] public section

set_option maxRecDepth 16384

noncomputable section

namespace Cert.ReferenceIdeal.Moe

open Cert.ReferenceIdeal Cert.ReferenceIdeal.Value Idealize.ShloMosaic Idealize.ShloMosaic.TcCoe Idealize.SL.Sem
open Cert.Moe (rmsNorm embed addend hidden)

variable (V0 : Valuation τ sig (Elt Ideal))

/-- Token `n`'s row as it comes in. -/
def tokenIn (n : Fin 16384) : Fin 1024 → EReal := fun k => V0 (Proc.devRef .tc main_arg0) (ix2 n k)

/-- The normalised row of token `n`. -/
def tokenRow (n : Fin 16384) : Fin 1024 → EReal :=
  rmsNorm (tokenIn V0 n) (fun k => V0 (Proc.devRef .tc main_arg3) (ix1 k))

/-- Expert `e`'s weighted addend to token `n`'s column `j`. -/
def expertTerm (n : Fin 16384) (e : Fin 16) (j : Fin 1024) : EReal :=
  addend (tokenRow V0 n) (fun k f => V0 (Proc.devRef .tc main_arg4) (ix3 e k f))
    (fun k f => V0 (Proc.devRef .tc main_arg5) (ix3 e k f))
    (fun f k => V0 (Proc.devRef .tc main_arg6) (ix3 e f k))
    (V0 (Proc.devRef .tc main_arg1) (ix2 n ⟨e.val, by have := e.isLt; omega⟩)) j

/-- Token `n`'s row with the experts' sum added. -/
def mixedRow (n : Fin 16384) : Fin 1024 → EReal := fun j => tokenIn V0 n j + ∑ e : Fin 16, expertTerm V0 n e j

/-- Token `n`'s row with the embedding added. -/
def embeddedRow (n : Fin 16384) : Fin 1024 → EReal :=
  embed (mixedRow V0 n) (fun k => V0 (Proc.devRef .tc main_arg7) (ix1 k))
    (fun k j => V0 (Proc.devRef .tc main_arg8) (ix2 k j))
    (fun k => V0 (Proc.devRef .tc main_arg2) (ix2 n k))
    (fun k j => V0 (Proc.devRef .tc main_arg9) (ix2 k j))

/-- Token `n`'s finished row. -/
def finalRow (n : Fin 16384) : Fin 1024 → EReal :=
  rmsNorm (embeddedRow V0 n) (fun k => V0 (Proc.devRef .tc main_arg10) (ix1 k))

theorem v12_apply (n : Fin 16384) (k : Fin 1024) : res_main_v12 V0 (ix2 n k) = tokenRow V0 n k := by
  pointwise [res_main_v12]
  rfl

theorem v16_apply (n : Fin 16384) (f : Fin 512) :
    res_main_v16 V0 (ix2 n f) = (∑ k, tokenRow V0 n k * V0 (Proc.devRef .tc main_arg4) (ix3 0 k f) : EReal) := by
  pointwise [res_main_v16]
  simp only [v12_apply]

theorem v37_apply (n : Fin 16384) (f : Fin 512) :
    res_main_v37 V0 (ix2 n f) = (∑ k, tokenRow V0 n k * V0 (Proc.devRef .tc main_arg4) (ix3 1 k f) : EReal) := by
  pointwise [res_main_v37]
  simp only [v12_apply]

theorem v58_apply (n : Fin 16384) (f : Fin 512) :
    res_main_v58 V0 (ix2 n f) = (∑ k, tokenRow V0 n k * V0 (Proc.devRef .tc main_arg4) (ix3 2 k f) : EReal) := by
  pointwise [res_main_v58]
  simp only [v12_apply]

theorem v79_apply (n : Fin 16384) (f : Fin 512) :
    res_main_v79 V0 (ix2 n f) = (∑ k, tokenRow V0 n k * V0 (Proc.devRef .tc main_arg4) (ix3 3 k f) : EReal) := by
  pointwise [res_main_v79]
  simp only [v12_apply]

theorem v100_apply (n : Fin 16384) (f : Fin 512) :
    res_main_v100 V0 (ix2 n f) = (∑ k, tokenRow V0 n k * V0 (Proc.devRef .tc main_arg4) (ix3 4 k f) : EReal) := by
  pointwise [res_main_v100]
  simp only [v12_apply]

theorem v121_apply (n : Fin 16384) (f : Fin 512) :
    res_main_v121 V0 (ix2 n f) = (∑ k, tokenRow V0 n k * V0 (Proc.devRef .tc main_arg4) (ix3 5 k f) : EReal) := by
  pointwise [res_main_v121]
  simp only [v12_apply]

theorem v142_apply (n : Fin 16384) (f : Fin 512) :
    res_main_v142 V0 (ix2 n f) = (∑ k, tokenRow V0 n k * V0 (Proc.devRef .tc main_arg4) (ix3 6 k f) : EReal) := by
  pointwise [res_main_v142]
  simp only [v12_apply]

theorem v163_apply (n : Fin 16384) (f : Fin 512) :
    res_main_v163 V0 (ix2 n f) = (∑ k, tokenRow V0 n k * V0 (Proc.devRef .tc main_arg4) (ix3 7 k f) : EReal) := by
  pointwise [res_main_v163]
  simp only [v12_apply]

theorem v184_apply (n : Fin 16384) (f : Fin 512) :
    res_main_v184 V0 (ix2 n f) = (∑ k, tokenRow V0 n k * V0 (Proc.devRef .tc main_arg4) (ix3 8 k f) : EReal) := by
  pointwise [res_main_v184]
  simp only [v12_apply]

theorem v205_apply (n : Fin 16384) (f : Fin 512) :
    res_main_v205 V0 (ix2 n f) = (∑ k, tokenRow V0 n k * V0 (Proc.devRef .tc main_arg4) (ix3 9 k f) : EReal) := by
  pointwise [res_main_v205]
  simp only [v12_apply]

theorem v226_apply (n : Fin 16384) (f : Fin 512) :
    res_main_v226 V0 (ix2 n f) = (∑ k, tokenRow V0 n k * V0 (Proc.devRef .tc main_arg4) (ix3 10 k f) : EReal) := by
  pointwise [res_main_v226]
  simp only [v12_apply]

theorem v247_apply (n : Fin 16384) (f : Fin 512) :
    res_main_v247 V0 (ix2 n f) = (∑ k, tokenRow V0 n k * V0 (Proc.devRef .tc main_arg4) (ix3 11 k f) : EReal) := by
  pointwise [res_main_v247]
  simp only [v12_apply]

theorem v268_apply (n : Fin 16384) (f : Fin 512) :
    res_main_v268 V0 (ix2 n f) = (∑ k, tokenRow V0 n k * V0 (Proc.devRef .tc main_arg4) (ix3 12 k f) : EReal) := by
  pointwise [res_main_v268]
  simp only [v12_apply]

theorem v289_apply (n : Fin 16384) (f : Fin 512) :
    res_main_v289 V0 (ix2 n f) = (∑ k, tokenRow V0 n k * V0 (Proc.devRef .tc main_arg4) (ix3 13 k f) : EReal) := by
  pointwise [res_main_v289]
  simp only [v12_apply]

theorem v310_apply (n : Fin 16384) (f : Fin 512) :
    res_main_v310 V0 (ix2 n f) = (∑ k, tokenRow V0 n k * V0 (Proc.devRef .tc main_arg4) (ix3 14 k f) : EReal) := by
  pointwise [res_main_v310]
  simp only [v12_apply]

theorem v331_apply (n : Fin 16384) (f : Fin 512) :
    res_main_v331 V0 (ix2 n f) = (∑ k, tokenRow V0 n k * V0 (Proc.devRef .tc main_arg4) (ix3 15 k f) : EReal) := by
  pointwise [res_main_v331]
  simp only [v12_apply]

theorem v118_apply (n : Fin 16384) (j : Fin 1024) :
    res_main_v118 V0 (ix2 n j) = expertTerm V0 n 0 j + expertTerm V0 n 1 j + expertTerm V0 n 2 j + expertTerm V0 n 3 j + expertTerm V0 n 4 j := by
  pointwise [res_main_v118]
  simp only [v12_apply, v16_apply, v37_apply, v58_apply, v79_apply, v100_apply]
  rfl

theorem v223_apply (n : Fin 16384) (j : Fin 1024) :
    res_main_v223 V0 (ix2 n j) = expertTerm V0 n 0 j + expertTerm V0 n 1 j + expertTerm V0 n 2 j + expertTerm V0 n 3 j + expertTerm V0 n 4 j + expertTerm V0 n 5 j + expertTerm V0 n 6 j + expertTerm V0 n 7 j + expertTerm V0 n 8 j + expertTerm V0 n 9 j := by
  pointwise [res_main_v223]
  simp only [v12_apply, v121_apply, v142_apply, v163_apply, v184_apply, v205_apply, v118_apply]
  rfl

theorem v328_apply (n : Fin 16384) (j : Fin 1024) :
    res_main_v328 V0 (ix2 n j) = expertTerm V0 n 0 j + expertTerm V0 n 1 j + expertTerm V0 n 2 j + expertTerm V0 n 3 j + expertTerm V0 n 4 j + expertTerm V0 n 5 j + expertTerm V0 n 6 j + expertTerm V0 n 7 j + expertTerm V0 n 8 j + expertTerm V0 n 9 j + expertTerm V0 n 10 j + expertTerm V0 n 11 j + expertTerm V0 n 12 j + expertTerm V0 n 13 j + expertTerm V0 n 14 j := by
  pointwise [res_main_v328]
  simp only [v12_apply, v226_apply, v247_apply, v268_apply, v289_apply, v310_apply, v223_apply]
  rfl

/-- The experts' sum, one by one. -/
theorem sum_experts (n : Fin 16384) (j : Fin 1024) :
    (∑ e : Fin 16, expertTerm V0 n e j) = expertTerm V0 n 0 j + expertTerm V0 n 1 j + expertTerm V0 n 2 j + expertTerm V0 n 3 j + expertTerm V0 n 4 j + expertTerm V0 n 5 j + expertTerm V0 n 6 j + expertTerm V0 n 7 j + expertTerm V0 n 8 j + expertTerm V0 n 9 j + expertTerm V0 n 10 j + expertTerm V0 n 11 j + expertTerm V0 n 12 j + expertTerm V0 n 13 j + expertTerm V0 n 14 j + expertTerm V0 n 15 j := by
  simp only [Fin.sum_univ_castSucc, Fin.sum_univ_zero, zero_add]
  rfl

theorem v350_apply (n : Fin 16384) (j : Fin 1024) : res_main_v350 V0 (ix2 n j) = mixedRow V0 n j := by
  unfold mixedRow
  rw [sum_experts]
  pointwise [res_main_v350]
  simp only [v12_apply, v328_apply, v331_apply]
  rfl

theorem v373_apply (n : Fin 16384) (j : Fin 1024) : res_main_v373 V0 (ix2 n j) = embeddedRow V0 n j := by
  pointwise [res_main_v373]
  simp only [v350_apply]
  rfl

end Cert.ReferenceIdeal.Moe

end
-- ==== Proof.Moe.Claims.lean ====
/- The two runs side by side: the kernel's result array is the reference's. -/
module

public import proofs.«01_k».proof.Defs
public import proofs.«01_k».proof.Proof.Moe.Kernel
public import proofs.«01_k».proof.Proof.Moe.Reference
public import Idealize.ShloMosaic.Lib.Quiescent

@[expose] public section

set_option maxRecDepth 16384

noncomputable section

namespace Cert.Moe

open Idealize.ShloMosaic Idealize.ShloMosaic.TcCoe Idealize.SL.Sem

/-- The reference's composed result at an element. -/
theorem reference_apply (m' : (ℓ : Loc ReferenceIdeal.nD ReferenceIdeal.τ ReferenceIdeal.sig) → Buf (Elt Ideal) ℓ)
    (g' : Dev ReferenceIdeal.nD → PrngReg) :
    θ_run (ReferenceIdeal.defs (F := Ideal)) (onTc (τ := ReferenceIdeal.τ) (ReferenceIdeal.main (F := Ideal)))
      ⟨m', fun _ => 0, g'⟩ fun r => ∀ (c : Dev ReferenceIdeal.nD) (n : Fin 16384) (j : Fin 1024),
        r.2.mem ((c.tc : Thread ReferenceIdeal.nD ReferenceIdeal.τ).loc ReferenceIdeal.main_v386) (ix2 n j)
          = ReferenceIdeal.Moe.finalRow (StableHlo.launchContents m' c) n j := by
  refine (θ_run _ _ _).mono (fun r h c n j => ?_) (ReferenceIdeal.Value.run m' g')
  rw [(h c).1]
  pointwise
  simp only [ReferenceIdeal.Moe.v373_apply]
  rfl

/-- From equal arguments the two finished rows are one. -/
theorem rows_agree (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ)
    (c : Dev KernelIdeal.nD)
    (h0 : m' ((c.tc : Thread ReferenceIdeal.nD ReferenceIdeal.τ).loc ReferenceIdeal.main_arg0)
      = m ((c.tc : Thread KernelIdeal.nD KernelIdeal.τ).loc KernelIdeal.main_arg0))
    (h1 : m' ((c.tc : Thread ReferenceIdeal.nD ReferenceIdeal.τ).loc ReferenceIdeal.main_arg1)
      = m ((c.tc : Thread KernelIdeal.nD KernelIdeal.τ).loc KernelIdeal.main_arg1))
    (h2 : m' ((c.tc : Thread ReferenceIdeal.nD ReferenceIdeal.τ).loc ReferenceIdeal.main_arg2)
      = m ((c.tc : Thread KernelIdeal.nD KernelIdeal.τ).loc KernelIdeal.main_arg2))
    (h3 : m' ((c.tc : Thread ReferenceIdeal.nD ReferenceIdeal.τ).loc ReferenceIdeal.main_arg3)
      = m ((c.tc : Thread KernelIdeal.nD KernelIdeal.τ).loc KernelIdeal.main_arg3))
    (h4 : m' ((c.tc : Thread ReferenceIdeal.nD ReferenceIdeal.τ).loc ReferenceIdeal.main_arg4)
      = m ((c.tc : Thread KernelIdeal.nD KernelIdeal.τ).loc KernelIdeal.main_arg4))
    (h5 : m' ((c.tc : Thread ReferenceIdeal.nD ReferenceIdeal.τ).loc ReferenceIdeal.main_arg5)
      = m ((c.tc : Thread KernelIdeal.nD KernelIdeal.τ).loc KernelIdeal.main_arg5))
    (h6 : m' ((c.tc : Thread ReferenceIdeal.nD ReferenceIdeal.τ).loc ReferenceIdeal.main_arg6)
      = m ((c.tc : Thread KernelIdeal.nD KernelIdeal.τ).loc KernelIdeal.main_arg6))
    (h7 : m' ((c.tc : Thread ReferenceIdeal.nD ReferenceIdeal.τ).loc ReferenceIdeal.main_arg7)
      = m ((c.tc : Thread KernelIdeal.nD KernelIdeal.τ).loc KernelIdeal.main_arg7))
    (h8 : m' ((c.tc : Thread ReferenceIdeal.nD ReferenceIdeal.τ).loc ReferenceIdeal.main_arg8)
      = m ((c.tc : Thread KernelIdeal.nD KernelIdeal.τ).loc KernelIdeal.main_arg8))
    (h9 : m' ((c.tc : Thread ReferenceIdeal.nD ReferenceIdeal.τ).loc ReferenceIdeal.main_arg9)
      = m ((c.tc : Thread KernelIdeal.nD KernelIdeal.τ).loc KernelIdeal.main_arg9))
    (h10 : m' ((c.tc : Thread ReferenceIdeal.nD ReferenceIdeal.τ).loc ReferenceIdeal.main_arg10)
      = m ((c.tc : Thread KernelIdeal.nD KernelIdeal.τ).loc KernelIdeal.main_arg10)) (n : Fin 16384) (j : Fin 1024) :
    ReferenceIdeal.Moe.finalRow (StableHlo.launchContents m' c) n j = KernelIdeal.Moe.finalRow m c n j := by
  have e0 : StableHlo.launchContents m' c (Proc.devRef .tc ReferenceIdeal.main_arg0)
      = m ((c.tc : Thread KernelIdeal.nD KernelIdeal.τ).loc KernelIdeal.main_arg0) := h0
  have e1 : StableHlo.launchContents m' c (Proc.devRef .tc ReferenceIdeal.main_arg1)
      = m ((c.tc : Thread KernelIdeal.nD KernelIdeal.τ).loc KernelIdeal.main_arg1) := h1
  have e2 : StableHlo.launchContents m' c (Proc.devRef .tc ReferenceIdeal.main_arg2)
      = m ((c.tc : Thread KernelIdeal.nD KernelIdeal.τ).loc KernelIdeal.main_arg2) := h2
  have e3 : StableHlo.launchContents m' c (Proc.devRef .tc ReferenceIdeal.main_arg3)
      = m ((c.tc : Thread KernelIdeal.nD KernelIdeal.τ).loc KernelIdeal.main_arg3) := h3
  have e4 : StableHlo.launchContents m' c (Proc.devRef .tc ReferenceIdeal.main_arg4)
      = m ((c.tc : Thread KernelIdeal.nD KernelIdeal.τ).loc KernelIdeal.main_arg4) := h4
  have e5 : StableHlo.launchContents m' c (Proc.devRef .tc ReferenceIdeal.main_arg5)
      = m ((c.tc : Thread KernelIdeal.nD KernelIdeal.τ).loc KernelIdeal.main_arg5) := h5
  have e6 : StableHlo.launchContents m' c (Proc.devRef .tc ReferenceIdeal.main_arg6)
      = m ((c.tc : Thread KernelIdeal.nD KernelIdeal.τ).loc KernelIdeal.main_arg6) := h6
  have e7 : StableHlo.launchContents m' c (Proc.devRef .tc ReferenceIdeal.main_arg7)
      = m ((c.tc : Thread KernelIdeal.nD KernelIdeal.τ).loc KernelIdeal.main_arg7) := h7
  have e8 : StableHlo.launchContents m' c (Proc.devRef .tc ReferenceIdeal.main_arg8)
      = m ((c.tc : Thread KernelIdeal.nD KernelIdeal.τ).loc KernelIdeal.main_arg8) := h8
  have e9 : StableHlo.launchContents m' c (Proc.devRef .tc ReferenceIdeal.main_arg9)
      = m ((c.tc : Thread KernelIdeal.nD KernelIdeal.τ).loc KernelIdeal.main_arg9) := h9
  have e10 : StableHlo.launchContents m' c (Proc.devRef .tc ReferenceIdeal.main_arg10)
      = m ((c.tc : Thread KernelIdeal.nD KernelIdeal.τ).loc KernelIdeal.main_arg10) := h10
  unfold ReferenceIdeal.Moe.finalRow ReferenceIdeal.Moe.embeddedRow ReferenceIdeal.Moe.mixedRow
    ReferenceIdeal.Moe.expertTerm ReferenceIdeal.Moe.tokenRow ReferenceIdeal.Moe.tokenIn
  rw [e0, e1, e2, e3, e4, e5, e6, e7, e8, e9, e10]
  rfl

/-- The kernel's run: its result array named, its arguments unchanged. -/
theorem algebraic : Cert.algebraic_KernelIdeal_ReferenceIdeal := by
  intro m g m' g' _ hagree
  refine ⟨fun c i => KernelIdeal.Moe.finalRow m c (i 0) (i 1), ?_, ?_⟩
  · refine (θ_run _ _ _).mono (fun r h c => ⟨?_, ?_⟩) (KernelIdeal.Value.run m g)
    · funext i
      rw [(h c).1, ← KernelIdeal.Value.final11]
      exact KernelIdeal.Moe.result m c i
    · exact (h c).2
  · refine (θ_run _ _ _).mono (fun r h c => ⟨?_, ?_⟩) (θ_run_and (ReferenceIdeal.Value.run m' g') (reference_apply m' g'))
    · funext i
      obtain ⟨n, j, rfl⟩ : ∃ (n : Fin 16384) (j : Fin 1024), i = ix2 n j := ⟨i 0, i 1, eq_ix2 i⟩
      obtain ⟨h0, h1, h2, h3, h4, h5, h6, h7, h8, h9, h10⟩ := hagree c
      rw [h.2 c n j]
      exact rows_agree m m' c h0 h1 h2 h3 h4 h5 h6 h7 h8 h9 h10 n j
    · exact (h.1 c).2

/-- The reference runs, keeps its arguments and leaves no semaphore counter. -/
theorem quiescent : Cert.quiescent_ReferenceIdeal := by
  intro m g _
  refine (θ_run _ _ _).mono (fun r h => ⟨fun c => (h c).2, ?_⟩) (ReferenceIdeal.Value.run m g)
  exact sem_eq_zero_of_no_sems (by decide) _

end Cert.Moe

end
-- ==== Proof.Mix.Chain.lean ====
module

public import proofs.«01_k».proof.Proof.Gen.Kernel2Ideal.Skeleton
public import Idealize.ShloMosaic.Lib.Pointwise

/-! The mixer's tile computation as a chain of named values, one definition for each value the printed kernel names:
    what a grid point computes from its input blocks, the carried state and the carried rows. -/

@[expose] public section

set_option maxRecDepth 16384

noncomputable section

namespace Cert.Mix

open Cert.Kernel2Ideal Cert.Kernel2Ideal.Gen Idealize.ShloMosaic Idealize.ShloMosaic.TcCoe Idealize.SL.Sem

/-- What a grid point reads: the thirteen input blocks, the carried state and the two carried rows. -/
structure TileIn where
  x0 : Vec Ideal S1x256x1024 .f32
  x1 : Vec Ideal S1x1024 .f32
  x2 : Vec Ideal S1024x1536 .bf16
  x3 : Vec Ideal S1024x16 .bf16
  x4 : Vec Ideal S1024x1536 .bf16
  x5 : Vec Ideal S16x256 .f32
  x6 : Vec Ideal S1x256 .f32
  x7 : Vec Ideal S1x128 .f32
  x8 : Vec Ideal S3x512 .f32
  x9 : Vec Ideal S1024x1024 .bf16
  x10 : Vec Ideal S1x1024 .f32
  x11 : Vec Ideal S32x1024 .f32
  x12 : Vec Ideal S32x1 .f32
  st : Vec Ideal S128x256 .f32
  c0 : Vec Ideal S1x512 .f32
  c1 : Vec Ideal S1x512 .f32

def v3 (I : TileIn) : Vec Ideal S1x256x1024 .f32 := I.x0
def v5 (I : TileIn) : Vec Ideal S1x1024 .f32 := I.x1
def v20 (I : TileIn) : Vec Ideal S1024x1536 .bf16 := I.x2
def v29 (I : TileIn) : Vec Ideal S1024x16 .bf16 := I.x3
def v32 (I : TileIn) : Vec Ideal S16x256 .f32 := I.x5
def v34 (I : TileIn) : Vec Ideal S1x256 .f32 := I.x6
def v4 (I : TileIn) : FVec Ideal S256x1024 .f32 := k0_pay4 (v3 I)
def v19 (I : TileIn) : FVec Ideal S256x1024 .bf16 := k0_pay5 (v3 I) (v5 I)
def v25 (I : TileIn) : FVec Ideal S256x256 .f32 := k0_pay7 (v3 I) (v5 I) (v20 I)
def v26 (I : TileIn) : FVec Ideal S256x256 .f32 := k0_pay8 (v3 I) (v5 I) (v20 I)
def v27 (I : TileIn) : FVec Ideal S256x512 .f32 := k0_pay9 (v3 I) (v5 I) (v20 I)
def v28 (I : TileIn) : FVec Ideal S256x512 .f32 := k0_pay10 (v3 I) (v5 I) (v20 I)
def v33 (I : TileIn) : FVec Ideal S256x256 .f32 := k0_pay11 (v3 I) (v5 I) (v29 I) (v32 I)
def v48 (I : TileIn) : IVec S256x256 32 := iota .tc S256x256 32 [0] iota_S256x256_d0_w32
def v47 (I : TileIn) : FVec Ideal S256x256 .f32 := k0_pay12 (v33 I) (v34 I)
def v73 (I : TileIn) : IVec S256x256 32 := k0_pay13
def v79 (I : TileIn) : FVec Ideal S256x256 .f32 := k0_pay14 (v33 I) (v34 I)
def v80 (I : TileIn) : IVec S256x256 32 := k0_pay15
def v115 (I : TileIn) : FVec Ideal S256x256 .f32 := k0_pay16 (v48 I) (v79 I) (v80 I)
def v120 (I : TileIn) : FVec Ideal S256x256 .f32 := k0_pay17 (v48 I) (v79 I) (v80 I)
/-- One row of the tile's prefix sums, as the kernel reads it back from the buffer it has just filled. -/
def cumRow (I : TileIn) (k : ℕ) (inb : ∀ a, (![k, 0] : Fin 2 → ℕ) a + S1x256.size a ≤ S256x256.size a) : Vec Ideal S1x256 .f32 :=
  (View.whole cc0_scratch2).readCov (Val := Elt Ideal) [⟨Rect.unit (s := S256x256) ![0, 0] S256x256.size inb_S256x256_S256x256_0_0, k0_pay19 (v115 I) (v120 I)⟩]
    (Rect.unit (s := S256x256) ![k, 0] S1x256.size inb).toLoadRect

def cst_58 (I : TileIn) : Ideal .f32 := Scalar.ofBits .f32 0x00000000#32
def v121 (I : TileIn) : FVec Ideal S256x256 .f32 := k0_pay18 (v115 I) (v120 I)
def v162 (I : TileIn) : IVec S256x256 32 := k0_pay20
def v163 (I : TileIn) : FVec Ideal S256x256 .f32 := k0_pay21 (F := Ideal)
def v164 (I : TileIn) : FVec Ideal S256x256 .f32 := k0_pay22 (F := Ideal)
def v166 (I : TileIn) : FVec Ideal S256x256 .f32 := k0_pay23 (F := Ideal)
def v175 (I : TileIn) : IVec S256x256 1 := k0_pay26 (v162 I)
def v183 (I : TileIn) : FVec Ideal S256x256 .f32 := k0_pay27 (v25 I) (v26 I) (v47 I) (v73 I) (v162 I) (v163 I)
def v191 (I : TileIn) : FVec Ideal S256x256 .f32 := k0_pay28 (v25 I) (v26 I) (v47 I) (v73 I) (v162 I) (v164 I)
def v199 (I : TileIn) : FVec Ideal S256x256 .f32 := k0_pay29 (v25 I) (v26 I) (v47 I) (v73 I) (v162 I) (cst_58 I)
def v204 (I : TileIn) : FVec Ideal S256x256 .f32 := k0_pay30 (v25 I) (v26 I) (v47 I) (v73 I)
def v205 (I : TileIn) : FVec Ideal S256x256 .f32 := k0_pay31 (F := Ideal)
def cst_92 (I : TileIn) : FVec Ideal S256x256 .f32 := constant S256x256 .f32 0x00000000#32
def v207 (I : TileIn) : FVec Ideal S256x256 .f32 := k0_pay32 (v166 I) (v175 I) (v204 I) (v205 I)
def v239 (I : TileIn) : FVec Ideal S256x256 .bf16 := k0_pay34 (v25 I) (v47 I) (v48 I)
def v242 (I : TileIn) : FVec Ideal S256x256 .bf16 := k0_pay35 (v26 I) (v47 I) (v48 I)
def v244 (I : TileIn) : IVec S256x256 1 := k0_pay36 (v162 I)
def v248 (I : TileIn) : FVec Ideal S256x256 .bf16 := k0_pay37 (v25 I) (v47 I) (v48 I) (v73 I)
def v277 (I : TileIn) : BitVec 1 := Scalar.cmpi .eq 4#32 0#32
def v278 (I : TileIn) : BitVec 32 := Scalar.select (v277 I) 1#32 4#32
def v252 (I : TileIn) : FVec Ideal S256x256 .f32 := k0_pay38 (v183 I) (v242 I) (v244 I) (v248 I) (cst_92 I)
def v260 (I : TileIn) : FVec Ideal S256x256 .f32 := k0_pay39 (v73 I) (v191 I) (v239 I) (v242 I) (v244 I)
def v268 (I : TileIn) : FVec Ideal S256x256 .f32 := k0_pay40 (v73 I) (v199 I) (v239 I) (v242 I) (v244 I)
def v276 (I : TileIn) : FVec Ideal S256x256 .f32 := k0_pay41 (v73 I) (v207 I) (v239 I) (v242 I) (v244 I)
def v280 (I : TileIn) : IVec S256x256 32 := k0_pay42 (v48 I)
def v289 (I : TileIn) : IVec S256x256 1 := k0_pay43 (v48 I)
def v329 (I : TileIn) : FVec Ideal S256x256 .f32 := k0_pay45 (v47 I) (v278 I) (v280 I) (v289 I)
def v330 (I : TileIn) : FVec Ideal S256x256 .f32 := k0_pay46 (v47 I) (v278 I) (v280 I) (v289 I)
def v370 (I : TileIn) : Vec Ideal S1x256 .f32 := cumRow I 7 inb_S256x256_S1x256_7_0
def v345 (I : TileIn) : FVec Ideal S256x256 .f32 := k0_pay50 (v25 I) (v26 I) (v73 I) (v162 I) (v252 I) (v329 I) (v330 I)
def v353 (I : TileIn) : FVec Ideal S256x256 .f32 := k0_pay51 (v25 I) (v26 I) (v73 I) (v162 I) (v260 I) (v329 I) (v330 I)
def v361 (I : TileIn) : FVec Ideal S256x256 .f32 := k0_pay52 (v25 I) (v26 I) (v73 I) (v162 I) (v268 I) (v329 I) (v330 I)
def v369 (I : TileIn) : FVec Ideal S256x256 .f32 := k0_pay53 (v25 I) (v26 I) (v73 I) (v162 I) (v276 I) (v329 I) (v330 I)
def v371 (I : TileIn) : FVec Ideal S1x256 .f32 := k0_pay54 (v370 I)
def v373 (I : TileIn) : Vec Ideal S1x256 .f32 := cumRow I 15 inb_S256x256_S1x256_15_0
def v376 (I : TileIn) : Vec Ideal S1x256 .f32 := cumRow I 23 inb_S256x256_S1x256_23_0
def v379 (I : TileIn) : Vec Ideal S1x256 .f32 := cumRow I 31 inb_S256x256_S1x256_31_0
def v382 (I : TileIn) : Vec Ideal S1x256 .f32 := cumRow I 39 inb_S256x256_S1x256_39_0
def v385 (I : TileIn) : Vec Ideal S1x256 .f32 := cumRow I 47 inb_S256x256_S1x256_47_0
def v388 (I : TileIn) : Vec Ideal S1x256 .f32 := cumRow I 55 inb_S256x256_S1x256_55_0
def v391 (I : TileIn) : Vec Ideal S1x256 .f32 := cumRow I 63 inb_S256x256_S1x256_63_0
def v394 (I : TileIn) : Vec Ideal S1x256 .f32 := cumRow I 71 inb_S256x256_S1x256_71_0
def v397 (I : TileIn) : Vec Ideal S1x256 .f32 := cumRow I 79 inb_S256x256_S1x256_79_0
def v400 (I : TileIn) : Vec Ideal S1x256 .f32 := cumRow I 87 inb_S256x256_S1x256_87_0
def v403 (I : TileIn) : Vec Ideal S1x256 .f32 := cumRow I 95 inb_S256x256_S1x256_95_0
def v406 (I : TileIn) : Vec Ideal S1x256 .f32 := cumRow I 103 inb_S256x256_S1x256_103_0
def v372 (I : TileIn) : FVec Ideal S8x256 .f32 := k0_pay55 (v371 I)
def v375 (I : TileIn) : FVec Ideal S8x256 .f32 := k0_pay56 (v373 I)
def v378 (I : TileIn) : FVec Ideal S8x256 .f32 := k0_pay57 (v376 I)
def v381 (I : TileIn) : FVec Ideal S8x256 .f32 := k0_pay58 (v379 I)
def v384 (I : TileIn) : FVec Ideal S8x256 .f32 := k0_pay59 (v382 I)
def v387 (I : TileIn) : FVec Ideal S8x256 .f32 := k0_pay60 (v385 I)
def v390 (I : TileIn) : FVec Ideal S8x256 .f32 := k0_pay61 (v388 I)
def v393 (I : TileIn) : FVec Ideal S8x256 .f32 := k0_pay62 (v391 I)
def v396 (I : TileIn) : FVec Ideal S8x256 .f32 := k0_pay63 (v394 I)
def v399 (I : TileIn) : FVec Ideal S8x256 .f32 := k0_pay64 (v397 I)
def v402 (I : TileIn) : FVec Ideal S8x256 .f32 := k0_pay65 (v400 I)
def v405 (I : TileIn) : FVec Ideal S8x256 .f32 := k0_pay66 (v403 I)
def v407 (I : TileIn) : FVec Ideal S1x256 .f32 := k0_pay67 (v406 I)
def v409 (I : TileIn) : Vec Ideal S1x256 .f32 := cumRow I 111 inb_S256x256_S1x256_111_0
def v412 (I : TileIn) : Vec Ideal S1x256 .f32 := cumRow I 119 inb_S256x256_S1x256_119_0
def v415 (I : TileIn) : Vec Ideal S1x256 .f32 := cumRow I 127 inb_S256x256_S1x256_127_0
def v418 (I : TileIn) : Vec Ideal S1x256 .f32 := cumRow I 135 inb_S256x256_S1x256_135_0
def v421 (I : TileIn) : Vec Ideal S1x256 .f32 := cumRow I 143 inb_S256x256_S1x256_143_0
def v424 (I : TileIn) : Vec Ideal S1x256 .f32 := cumRow I 151 inb_S256x256_S1x256_151_0
def v427 (I : TileIn) : Vec Ideal S1x256 .f32 := cumRow I 159 inb_S256x256_S1x256_159_0
def v430 (I : TileIn) : Vec Ideal S1x256 .f32 := cumRow I 167 inb_S256x256_S1x256_167_0
def v433 (I : TileIn) : Vec Ideal S1x256 .f32 := cumRow I 175 inb_S256x256_S1x256_175_0
def v436 (I : TileIn) : Vec Ideal S1x256 .f32 := cumRow I 183 inb_S256x256_S1x256_183_0
def v439 (I : TileIn) : Vec Ideal S1x256 .f32 := cumRow I 191 inb_S256x256_S1x256_191_0
def v442 (I : TileIn) : Vec Ideal S1x256 .f32 := cumRow I 199 inb_S256x256_S1x256_199_0
def v408 (I : TileIn) : FVec Ideal S8x256 .f32 := k0_pay68 (v407 I)
def v411 (I : TileIn) : FVec Ideal S8x256 .f32 := k0_pay69 (v409 I)
def v414 (I : TileIn) : FVec Ideal S8x256 .f32 := k0_pay70 (v412 I)
def v417 (I : TileIn) : FVec Ideal S8x256 .f32 := k0_pay71 (v415 I)
def v420 (I : TileIn) : FVec Ideal S8x256 .f32 := k0_pay72 (v418 I)
def v423 (I : TileIn) : FVec Ideal S8x256 .f32 := k0_pay73 (v421 I)
def v426 (I : TileIn) : FVec Ideal S8x256 .f32 := k0_pay74 (v424 I)
def v429 (I : TileIn) : FVec Ideal S8x256 .f32 := k0_pay75 (v427 I)
def v432 (I : TileIn) : FVec Ideal S8x256 .f32 := k0_pay76 (v430 I)
def v435 (I : TileIn) : FVec Ideal S8x256 .f32 := k0_pay77 (v433 I)
def v438 (I : TileIn) : FVec Ideal S8x256 .f32 := k0_pay78 (v436 I)
def v441 (I : TileIn) : FVec Ideal S8x256 .f32 := k0_pay79 (v439 I)
def v443 (I : TileIn) : FVec Ideal S1x256 .f32 := k0_pay80 (v442 I)
def v445 (I : TileIn) : Vec Ideal S1x256 .f32 := cumRow I 207 inb_S256x256_S1x256_207_0
def v448 (I : TileIn) : Vec Ideal S1x256 .f32 := cumRow I 215 inb_S256x256_S1x256_215_0
def v451 (I : TileIn) : Vec Ideal S1x256 .f32 := cumRow I 223 inb_S256x256_S1x256_223_0
def v454 (I : TileIn) : Vec Ideal S1x256 .f32 := cumRow I 231 inb_S256x256_S1x256_231_0
def v457 (I : TileIn) : Vec Ideal S1x256 .f32 := cumRow I 239 inb_S256x256_S1x256_239_0
def v460 (I : TileIn) : Vec Ideal S1x256 .f32 := cumRow I 247 inb_S256x256_S1x256_247_0
def v463 (I : TileIn) : Vec Ideal S1x256 .f32 := cumRow I 255 inb_S256x256_S1x256_255_0
def cst_183 (I : TileIn) : Ideal .bf16 := Scalar.ofBits .bf16 0x0000#16
def v476 (I : TileIn) : FVec Ideal S256x256 .bf16 := k0_pay82 (v25 I) (v48 I) (v121 I) (v372 I) (v375 I) (v378 I) (v381 I) (v384 I) (v387 I) (v390 I) (v393 I) (v396 I) (v399 I) (v402 I) (v405 I) (v408 I) (v411 I) (v414 I) (v417 I) (v420 I) (v423 I) (v426 I) (v429 I) (v432 I) (v435 I) (v438 I) (v441 I) (v443 I) (v445 I) (v448 I) (v451 I) (v454 I) (v457 I) (v460 I) (v463 I)
def v479 (I : TileIn) : FVec Ideal S256x256 .bf16 := k0_pay83 (v26 I) (v121 I) (v372 I) (v375 I) (v378 I) (v381 I) (v384 I) (v387 I) (v390 I) (v393 I) (v396 I) (v399 I) (v402 I) (v405 I) (v408 I) (v411 I) (v414 I) (v417 I) (v420 I) (v423 I) (v426 I) (v429 I) (v432 I) (v435 I) (v438 I) (v441 I) (v443 I) (v445 I) (v448 I) (v451 I) (v454 I) (v457 I) (v460 I) (v463 I)
def v481 (I : TileIn) : IVec S256x256 1 := k0_pay84 (v162 I)
def v483 (I : TileIn) : IVec S256x256 1 := k0_pay85 (v73 I)
def v514 (I : TileIn) : Vec Ideal S1x256 .f32 := cumRow I 15 inb_S256x256_S1x256_15_0
def v517 (I : TileIn) : Vec Ideal S1x256 .f32 := cumRow I 31 inb_S256x256_S1x256_31_0
def v520 (I : TileIn) : Vec Ideal S1x256 .f32 := cumRow I 47 inb_S256x256_S1x256_47_0
def v489 (I : TileIn) : FVec Ideal S256x256 .f32 := k0_pay86 (v345 I) (v476 I) (v479 I) (v481 I) (v483 I) (cst_183 I)
def v497 (I : TileIn) : FVec Ideal S256x256 .f32 := k0_pay87 (v73 I) (v353 I) (v476 I) (v479 I) (v481 I)
def v505 (I : TileIn) : FVec Ideal S256x256 .f32 := k0_pay88 (v73 I) (v361 I) (v476 I) (v479 I) (v481 I)
def v513 (I : TileIn) : FVec Ideal S256x256 .f32 := k0_pay89 (v73 I) (v369 I) (v476 I) (v479 I) (v481 I)
def v516 (I : TileIn) : FVec Ideal S16x256 .f32 := k0_pay90 (v514 I)
def v519 (I : TileIn) : FVec Ideal S16x256 .f32 := k0_pay91 (v517 I)
def v522 (I : TileIn) : FVec Ideal S16x256 .f32 := k0_pay92 (v520 I)
def v523 (I : TileIn) : Vec Ideal S1x256 .f32 := cumRow I 63 inb_S256x256_S1x256_63_0
def v526 (I : TileIn) : Vec Ideal S1x256 .f32 := cumRow I 79 inb_S256x256_S1x256_79_0
def v529 (I : TileIn) : Vec Ideal S1x256 .f32 := cumRow I 95 inb_S256x256_S1x256_95_0
def v532 (I : TileIn) : Vec Ideal S1x256 .f32 := cumRow I 111 inb_S256x256_S1x256_111_0
def v535 (I : TileIn) : Vec Ideal S1x256 .f32 := cumRow I 127 inb_S256x256_S1x256_127_0
def v538 (I : TileIn) : Vec Ideal S1x256 .f32 := cumRow I 143 inb_S256x256_S1x256_143_0
def v541 (I : TileIn) : Vec Ideal S1x256 .f32 := cumRow I 159 inb_S256x256_S1x256_159_0
def v544 (I : TileIn) : Vec Ideal S1x256 .f32 := cumRow I 175 inb_S256x256_S1x256_175_0
def v547 (I : TileIn) : Vec Ideal S1x256 .f32 := cumRow I 191 inb_S256x256_S1x256_191_0
def v550 (I : TileIn) : Vec Ideal S1x256 .f32 := cumRow I 207 inb_S256x256_S1x256_207_0
def v553 (I : TileIn) : Vec Ideal S1x256 .f32 := cumRow I 223 inb_S256x256_S1x256_223_0
def v556 (I : TileIn) : Vec Ideal S1x256 .f32 := cumRow I 239 inb_S256x256_S1x256_239_0
def v525 (I : TileIn) : FVec Ideal S16x256 .f32 := k0_pay93 (v523 I)
def v528 (I : TileIn) : FVec Ideal S16x256 .f32 := k0_pay94 (v526 I)
def v531 (I : TileIn) : FVec Ideal S16x256 .f32 := k0_pay95 (v529 I)
def v534 (I : TileIn) : FVec Ideal S16x256 .f32 := k0_pay96 (v532 I)
def v537 (I : TileIn) : FVec Ideal S16x256 .f32 := k0_pay97 (v535 I)
def v540 (I : TileIn) : FVec Ideal S16x256 .f32 := k0_pay98 (v538 I)
def v543 (I : TileIn) : FVec Ideal S16x256 .f32 := k0_pay99 (v541 I)
def v546 (I : TileIn) : FVec Ideal S16x256 .f32 := k0_pay100 (v544 I)
def v549 (I : TileIn) : FVec Ideal S16x256 .f32 := k0_pay101 (v547 I)
def v552 (I : TileIn) : FVec Ideal S16x256 .f32 := k0_pay102 (v550 I)
def v555 (I : TileIn) : FVec Ideal S16x256 .f32 := k0_pay103 (v553 I)
def v558 (I : TileIn) : FVec Ideal S16x256 .f32 := k0_pay104 (v556 I)
def v559 (I : TileIn) : Vec Ideal S1x256 .f32 := cumRow I 255 inb_S256x256_S1x256_255_0
def v572 (I : TileIn) : FVec Ideal S256x256 .bf16 := k0_pay106 (v25 I) (v48 I) (v121 I) (v516 I) (v519 I) (v522 I) (v525 I) (v528 I) (v531 I) (v534 I) (v537 I) (v540 I) (v543 I) (v546 I) (v549 I) (v552 I) (v555 I) (v558 I) (v559 I)
def v575 (I : TileIn) : FVec Ideal S256x256 .bf16 := k0_pay107 (v26 I) (v121 I) (v516 I) (v519 I) (v522 I) (v525 I) (v528 I) (v531 I) (v534 I) (v537 I) (v540 I) (v543 I) (v546 I) (v549 I) (v552 I) (v555 I) (v558 I) (v559 I)
def v577 (I : TileIn) : IVec S256x256 1 := k0_pay108 (v162 I)
def v585 (I : TileIn) : FVec Ideal S256x256 .f32 := k0_pay109 (v25 I) (v26 I) (v48 I) (v73 I) (v121 I) (v162 I) (v489 I) (v516 I) (v519 I) (v522 I) (v525 I) (v528 I) (v531 I) (v534 I) (v537 I) (v540 I) (v543 I) (v546 I) (v549 I) (v552 I) (v555 I) (v558 I) (v559 I)
def v593 (I : TileIn) : FVec Ideal S256x256 .f32 := k0_pay110 (v25 I) (v26 I) (v48 I) (v73 I) (v121 I) (v162 I) (v497 I) (v516 I) (v519 I) (v522 I) (v525 I) (v528 I) (v531 I) (v534 I) (v537 I) (v540 I) (v543 I) (v546 I) (v549 I) (v552 I) (v555 I) (v558 I) (v559 I)
def v601 (I : TileIn) : FVec Ideal S256x256 .f32 := k0_pay111 (v25 I) (v26 I) (v48 I) (v73 I) (v121 I) (v162 I) (v505 I) (v516 I) (v519 I) (v522 I) (v525 I) (v528 I) (v531 I) (v534 I) (v537 I) (v540 I) (v543 I) (v546 I) (v549 I) (v552 I) (v555 I) (v558 I) (v559 I)
def v610 (I : TileIn) : Vec Ideal S1x256 .f32 := cumRow I 31 inb_S256x256_S1x256_31_0
def v613 (I : TileIn) : Vec Ideal S1x256 .f32 := cumRow I 63 inb_S256x256_S1x256_63_0
def v616 (I : TileIn) : Vec Ideal S1x256 .f32 := cumRow I 95 inb_S256x256_S1x256_95_0
def v619 (I : TileIn) : Vec Ideal S1x256 .f32 := cumRow I 127 inb_S256x256_S1x256_127_0
def v622 (I : TileIn) : Vec Ideal S1x256 .f32 := cumRow I 159 inb_S256x256_S1x256_159_0
def v625 (I : TileIn) : Vec Ideal S1x256 .f32 := cumRow I 191 inb_S256x256_S1x256_191_0
def v628 (I : TileIn) : Vec Ideal S1x256 .f32 := cumRow I 223 inb_S256x256_S1x256_223_0
def v631 (I : TileIn) : Vec Ideal S1x256 .f32 := cumRow I 255 inb_S256x256_S1x256_255_0
def v609 (I : TileIn) : FVec Ideal S256x256 .f32 := k0_pay112 (v73 I) (v513 I) (v572 I) (v575 I) (v577 I)
def v634 (I : TileIn) : FVec Ideal S256x256 .f32 := k0_pay113 (v610 I) (v613 I) (v616 I) (v619 I) (v622 I) (v625 I) (v628 I) (v631 I)
def v636 (I : TileIn) : IVec S256x256 1 := k0_pay114 (v48 I)
def v637 (I : TileIn) : FVec Ideal S256x256 .f32 := k0_pay115 (v610 I) (v613 I) (v616 I) (v619 I) (v622 I) (v625 I) (v628 I) (v631 I)
def v638 (I : TileIn) : FVec Ideal S256x256 .f32 := k0_pay116 (F := Ideal)
def v657 (I : TileIn) : FVec Ideal S256x256 .f32 := k0_pay120 (v25 I) (v26 I) (v73 I) (v121 I) (v162 I) (v585 I) (v634 I) (v636 I) (v637 I) (v638 I)
def v665 (I : TileIn) : FVec Ideal S256x256 .f32 := k0_pay121 (v25 I) (v26 I) (v73 I) (v121 I) (v162 I) (v593 I) (v634 I) (v636 I) (v637 I) (v638 I)
def v673 (I : TileIn) : FVec Ideal S256x256 .f32 := k0_pay122 (v25 I) (v26 I) (v73 I) (v121 I) (v162 I) (v601 I) (v634 I) (v636 I) (v637 I) (v638 I)
def v681 (I : TileIn) : FVec Ideal S256x256 .f32 := k0_pay123 (v25 I) (v26 I) (v73 I) (v121 I) (v162 I) (v609 I) (v634 I) (v636 I) (v637 I) (v638 I)
def v682 (I : TileIn) : Vec Ideal S1x256 .f32 := cumRow I 63 inb_S256x256_S1x256_63_0
def v685 (I : TileIn) : Vec Ideal S1x256 .f32 := cumRow I 127 inb_S256x256_S1x256_127_0
def v688 (I : TileIn) : Vec Ideal S1x256 .f32 := cumRow I 191 inb_S256x256_S1x256_191_0
def v691 (I : TileIn) : Vec Ideal S1x256 .f32 := cumRow I 255 inb_S256x256_S1x256_255_0
def v704 (I : TileIn) : FVec Ideal S256x256 .bf16 := k0_pay125 (v25 I) (v48 I) (v121 I) (v682 I) (v685 I) (v688 I) (v691 I)
def v707 (I : TileIn) : FVec Ideal S256x256 .bf16 := k0_pay126 (v26 I) (v121 I) (v682 I) (v685 I) (v688 I) (v691 I)
def v709 (I : TileIn) : IVec S256x256 1 := k0_pay127 (v162 I)
def v717 (I : TileIn) : FVec Ideal S256x256 .f32 := k0_pay128 (v25 I) (v26 I) (v48 I) (v73 I) (v121 I) (v162 I) (v657 I) (v682 I) (v685 I) (v688 I) (v691 I)
def v722 (I : TileIn) : FVec Ideal S256x256 .f32 := k0_pay129 (v25 I) (v26 I) (v48 I) (v73 I) (v121 I) (v682 I) (v685 I) (v688 I) (v691 I)
def v742 (I : TileIn) : Vec Ideal S1x256 .f32 := cumRow I 127 inb_S256x256_S1x256_127_0
def v745 (I : TileIn) : Vec Ideal S1x256 .f32 := cumRow I 255 inb_S256x256_S1x256_255_0
def v725 (I : TileIn) : FVec Ideal S256x256 .f32 := k0_pay130 (v665 I) (v709 I) (v722 I)
def v733 (I : TileIn) : FVec Ideal S256x256 .f32 := k0_pay131 (v73 I) (v673 I) (v704 I) (v707 I) (v709 I)
def v741 (I : TileIn) : FVec Ideal S256x256 .f32 := k0_pay132 (v73 I) (v681 I) (v704 I) (v707 I) (v709 I)
def v758 (I : TileIn) : FVec Ideal S256x256 .bf16 := k0_pay134 (v25 I) (v48 I) (v121 I) (v742 I) (v745 I)
def v761 (I : TileIn) : FVec Ideal S256x256 .bf16 := k0_pay135 (v26 I) (v121 I) (v742 I) (v745 I)
def v763 (I : TileIn) : IVec S256x256 1 := k0_pay136 (v162 I)
def v764 (I : TileIn) : IVec S256x256 32 := k0_pay137
def cst_339 (I : TileIn) : Ideal .f32 := Scalar.ofBits .f32 0x00000000#32
def v771 (I : TileIn) : FVec Ideal S256x256 .f32 := k0_pay138 (v73 I) (v717 I) (v758 I) (v761 I) (v763 I) (v764 I)
def v779 (I : TileIn) : FVec Ideal S256x256 .f32 := k0_pay139 (v73 I) (v725 I) (v758 I) (v761 I) (v763 I)
def v787 (I : TileIn) : FVec Ideal S256x256 .f32 := k0_pay140 (v73 I) (v733 I) (v758 I) (v761 I) (v763 I)
def v795 (I : TileIn) : FVec Ideal S256x256 .f32 := k0_pay141 (v73 I) (v741 I) (v758 I) (v761 I) (v763 I)
def v796 (I : TileIn) : FVec Ideal S256x256 .bf16 := k0_pay142 (v25 I)
def v797 (I : TileIn) : FVec Ideal S256x256 .bf16 := k0_pay143 (v26 I)
def v799 (I : TileIn) : IVec S256x256 1 := k0_pay144 (v162 I)
def v804 (I : TileIn) : FVec Ideal S256x256 .f32 := k0_pay145 (v25 I) (v26 I) (v73 I)
def v832 (I : TileIn) : Vec Ideal S1x256 .f32 := cumRow I 255 inb_S256x256_S1x256_255_0
def v841 (I : TileIn) : Vec Ideal S128x256 .f32 := I.st
def v846 (I : TileIn) : IVec S128x256 32 := iota .tc S128x256 32 [1] iota_S128x256_d1_w32
def v807 (I : TileIn) : FVec Ideal S256x256 .f32 := k0_pay146 (v771 I) (v799 I) (v804 I) (cst_339 I)
def v815 (I : TileIn) : FVec Ideal S256x256 .f32 := k0_pay147 (v73 I) (v779 I) (v796 I) (v797 I) (v799 I)
def v823 (I : TileIn) : FVec Ideal S256x256 .f32 := k0_pay148 (v73 I) (v787 I) (v796 I) (v797 I) (v799 I)
def v831 (I : TileIn) : FVec Ideal S256x256 .f32 := k0_pay149 (v73 I) (v795 I) (v796 I) (v797 I) (v799 I)
def v835 (I : TileIn) : FVec Ideal S256x256 .bf16 := k0_pay150 (v25 I) (v121 I)
def v840 (I : TileIn) : FVec Ideal S256x256 .bf16 := k0_pay151 (v26 I) (v121 I) (v832 I)
def v842 (I : TileIn) : FVec Ideal S128x256 .bf16 := k0_pay152 (v841 I)
def v845 (I : TileIn) : FVec Ideal S128x256 .f32 := k0_pay153 (v832 I) (v841 I)
def c64_i32_356 (I : TileIn) : BitVec 32 := 64#32
def v847 (I : TileIn) : IVec S128x256 32 := k0_pay154
def v871 (I : TileIn) : Vec Ideal S1x128 .f32 := I.x7
def v870 (I : TileIn) : IVec S128x256 32 := k0_pay155 (v846 I) (c64_i32_356 I) (v847 I)
def v872 (I : TileIn) : FVec Ideal S1x128 .f32 := k0_pay156 (v871 I)
def v882 (I : TileIn) : FVec Ideal S256x128 .f32 := k0_pay158 (v27 I) (v73 I) (v807 I) (v835 I) (v842 I)
def v890 (I : TileIn) : FVec Ideal S128x256 .f32 := k0_pay159 (v27 I) (v840 I) (v845 I) (v846 I) (c64_i32_356 I) (v847 I)
def v891 (I : TileIn) : FVec Ideal S256x128 .f32 := k0_pay160 (v28 I)
def v892 (I : TileIn) : FVec Ideal S256x128 .f32 := k0_pay161 (v27 I) (v73 I) (v807 I) (v835 I) (v842 I)
def v906 (I : TileIn) : FVec Ideal S256x128 .f32 := k0_pay162 (v872 I) (v882 I) (v891 I) (v892 I)
def v924 (I : TileIn) : FVec Ideal S128x256 .f32 := k0_pay164 (v27 I) (v840 I) (v870 I) (v890 I)
def v937 (I : TileIn) : FVec Ideal S256x128 .f32 := k0_pay165 (v27 I) (v73 I) (v815 I) (v835 I) (v842 I) (v872 I)
def v939 (I : TileIn) : FVec Ideal S256x128 .f32 := k0_pay166 (v28 I)
def v940 (I : TileIn) : FVec Ideal S256x128 .f32 := k0_pay167 (v937 I) (v939 I)
def v958 (I : TileIn) : FVec Ideal S128x256 .f32 := k0_pay169 (v27 I) (v840 I) (v870 I) (v924 I)
def v974 (I : TileIn) : FVec Ideal S256x128 .f32 := k0_pay170 (v27 I) (v28 I) (v73 I) (v823 I) (v835 I) (v842 I) (v872 I)
def v984 (I : TileIn) : FVec Ideal S256x128 .f32 := k0_pay172 (v27 I) (v73 I) (v831 I) (v835 I) (v842 I)
def v985 (I : TileIn) : FVec Ideal S128x256 .f32 := k0_pay173 (v27 I)
def v1009 (I : TileIn) : Vec Ideal S128x256 .f32 := I.st
def v1012 (I : TileIn) : Vec Ideal S1024x1536 .bf16 := I.x4
def v1019 (I : TileIn) : IVec S256x512 32 := iota .tc S256x512 32 [0] iota_S256x512_d0_w32
def v1020 (I : TileIn) : Vec Ideal S1x512 .f32 := I.c0
def v1021 (I : TileIn) : Vec Ideal S1x512 .f32 := I.c1
def v1008 (I : TileIn) : FVec Ideal S256x128 .f32 := k0_pay174 (v28 I) (v872 I) (v984 I)
def v1015 (I : TileIn) : FVec Ideal S256x512 .f32 := k0_pay177 (v19 I) (v1012 I)
def v1018 (I : TileIn) : FVec Ideal S256x512 .f32 := k0_pay178 (v19 I) (v1012 I)
def v1027 (I : TileIn) : FVec Ideal S256x512 .f32 := k0_pay179 (v19 I) (v1012 I) (v1021 I)
def v1039 (I : TileIn) : Vec Ideal S3x512 .f32 := I.x8
def v1058 (I : TileIn) : Vec Ideal S1024x1024 .bf16 := I.x9
def v1065 (I : TileIn) : Vec Ideal S1x1024 .f32 := I.x10
def v1061 (I : TileIn) : FVec Ideal S256x1024 .f32 := k0_pay181 (v4 I) (v906 I) (v940 I) (v974 I) (v1008 I) (v1015 I) (v1018 I) (v1019 I) (v1020 I) (v1021 I) (v1027 I) (v1039 I) (v1058 I)
def v1066 (I : TileIn) : FVec Ideal S1x1024 .f32 := k0_pay183 (v1065 I)
def v1069 (I : TileIn) : FVec Ideal S256x1 .f32 := k0_pay184 (v4 I) (v906 I) (v940 I) (v974 I) (v1008 I) (v1015 I) (v1018 I) (v1019 I) (v1020 I) (v1021 I) (v1027 I) (v1039 I) (v1058 I)
def v1079 (I : TileIn) : Vec Ideal S32x1024 .f32 := I.x11
def v1082 (I : TileIn) : Vec Ideal S32x1 .f32 := I.x12
def cst_443 (I : TileIn) : Ideal .f32 := Scalar.ofBits .f32 0x00000000#32
def v1085 (I : TileIn) : FVec Ideal S32x256 .f32 := k0_pay185 (v1061 I) (v1066 I) (v1069 I) (v1079 I) (v1082 I)
def v1105 (I : TileIn) : FVec Ideal S1x256 .f32 := k0_pay191 (v1061 I) (v1066 I) (v1069 I) (v1079 I) (v1082 I)
def v1116 (I : TileIn) : IVec S1x256 32 := k0_pay192 (v1061 I) (v1066 I) (v1069 I) (v1079 I) (v1082 I)
def v1141 (I : TileIn) : FVec Ideal S1x256 .f32 := k0_pay193 (v1085 I) (v1116 I) (cst_443 I)
def v1160 (I : TileIn) : FVec Ideal S1x256 .f32 := k0_pay194 (v1085 I) (v1116 I)
def c3_i32_459 (I : TileIn) : BitVec 32 := 3#32
def v1166 (I : TileIn) : FVec Ideal S1x256 .f32 := k0_pay195 (v1085 I) (v1116 I) (v1160 I) (c3_i32_459 I)
def v1191 (I : TileIn) : FVec Ideal S1x256 .f32 := k0_pay196 (v1085 I) (v1116 I)
def v1204 (I : TileIn) : FVec Ideal S1x256 .f32 := k0_pay197 (v1085 I) (v1116 I)
def c2_i32_475 (I : TileIn) : BitVec 32 := 2#32
def v1219 (I : TileIn) : FVec Ideal S1x256 .f32 := k0_pay199 (v1085 I) (v1116 I) (v1141 I) (v1166 I) (v1191 I) (v1204 I) (c2_i32_475 I)
def v1230 (I : TileIn) : IVec S1x256 32 := k0_pay200 (v1085 I) (v1116 I) (v1141 I) (v1166 I) (v1191 I) (v1204 I) (c2_i32_475 I)
def v1234 (I : TileIn) : FVec Ideal S1x256 .f32 := k0_pay201 (v1085 I) (v1116 I) (v1141 I) (v1166 I) (v1191 I) (v1204 I) (c2_i32_475 I)
def v1238 (I : TileIn) : FVec Ideal S1x256 .f32 := k0_pay202 (v1085 I) (v1116 I) (v1141 I) (v1166 I) (v1191 I) (v1204 I) (c2_i32_475 I)
def v1242 (I : TileIn) : FVec Ideal S1x256 .f32 := k0_pay203 (v1085 I) (v1116 I) (v1141 I) (v1166 I) (v1191 I) (v1204 I) (c2_i32_475 I)
def v1249 (I : TileIn) : FVec Ideal S1x256 .f32 := k0_pay204 (v1085 I) (v1116 I) (v1141 I) (v1166 I) (v1191 I) (v1204 I) (c2_i32_475 I)
def v1260 (I : TileIn) : IVec S1x256 32 := k0_pay205 (v1234 I) (v1238 I) (v1242 I) (v1249 I)
def v1265 (I : TileIn) : FVec Ideal S1x256 .f32 := k0_pay207 (v1105 I) (v1219 I) (v1249 I)
def v1269 (I : TileIn) : FVec Ideal S1x256 .f32 := k0_pay208 (v1105 I) (v1219 I) (v1249 I)
def v1272 (I : TileIn) : IVec S1x256 32 := k0_pay209 (v1116 I) (v1230 I)

/-- The residual block the point stores. -/
def outX (I : TileIn) : Vec Ideal S1x256x1024 .f32 :=
  k0_pay182 (v4 I) (v906 I) (v940 I) (v974 I) (v1008 I) (v1015 I) (v1018 I) (v1019 I) (v1020 I) (v1021 I) (v1027 I) (v1039 I) (v1058 I)
/-- The combine block the point stores. -/
def outR (I : TileIn) : Vec Ideal S256x128 .f32 := k0_pay1 (v1116 I) (v1260 I) (v1265 I) (v1269 I) (v1272 I)
/-- The state the point leaves. -/
def outS (I : TileIn) : Vec Ideal S128x256 .f32 := k0_pay175 (v840 I) (v870 I) (v958 I) (v985 I)

end Cert.Mix

end

end
-- ==== Proof.Mix.Scores.lean ====
module

public import proofs.«01_k».proof.Proof.Mix.Chain
public import Idealize.ShloMosaic.Lib.Pointwise
public import Idealize.ShloMosaic.Lib.Pipeline.ValueKit

/-! The decayed scores of a tile, level by level: each head's score matrix as nine additions of one form, and each
    level's decayed queries and keys at one entry. -/

@[expose] public section

set_option maxRecDepth 16384

noncomputable section

namespace Cert.Mix

open Cert.Kernel2Ideal Cert.Kernel2Ideal.Gen Idealize.ShloMosaic Idealize.ShloMosaic.TcCoe Idealize.SL.Sem

/-- One level's contribution to one head's scores. -/
def levV (l h : BitVec 32) (pl lh : IVec S256x256 32) (q k : FVec Ideal S256x256 .bf16) (acc : FVec Ideal S256x256 .f32) :
    FVec Ideal S256x256 .f32 :=
  addf acc (select (cmpi .eq pl (broadcast S256x256 l))
    (matmul dot_S256x256_S256x256_S256x256_1_1_0_0_n_n none
      (select (cmpi .eq lh (broadcast S256x256 h)) q (broadcast S256x256 (Scalar.ofBits .bf16 0x0000#16))) k
      (constant S256x256 .f32 0x00000000#32))
    (broadcast S256x256 (Scalar.ofBits .f32 0x00000000#32)))

theorem levV_apply (l h : BitVec 32) (pl lh : IVec S256x256 32) (q k : FVec Ideal S256x256 .bf16)
    (acc : FVec Ideal S256x256 .f32) (t s : Fin 256) :
    levV l h pl lh q k acc (ix2 t s) = acc (ix2 t s) + Scalar.select (IntOp.cmpi .eq (pl (ix2 t s)) l)
      (∑ x, Scalar.select (IntOp.cmpi .eq (lh (ix2 t x)) h) (q (ix2 t x) * k (ix2 s x)) 0) 0 := by
  unfold levV
  pointwise

def q0 (I : TileIn) : FVec Ideal S256x256 .bf16 := k0_pay24 (v25 I) (v47 I)
def k0 (I : TileIn) : FVec Ideal S256x256 .bf16 := k0_pay25 (v26 I)
def q2 (I : TileIn) : FVec Ideal S256x256 .bf16 := k0_pay47 (v25 I) (v330 I)
def k2 (I : TileIn) : FVec Ideal S256x256 .bf16 := k0_pay48 (v26 I) (v329 I)
def q5 (I : TileIn) : FVec Ideal S256x256 .bf16 := k0_pay117 (v25 I) (v121 I) (v636 I) (v637 I) (v638 I)
def k5 (I : TileIn) : FVec Ideal S256x256 .bf16 := k0_pay118 (v26 I) (v121 I) (v634 I)

variable (I : TileIn)

theorem v183_eq : v183 I = levV 0#32 0#32 (v162 I) (v73 I) (q0 I) (k0 I) (constant S256x256 .f32 0x00000000#32) := rfl
theorem v252_eq : v252 I = levV 1#32 0#32 (v162 I) (v73 I) (v239 I) (v242 I) (v183 I) := rfl
theorem v345_eq : v345 I = levV 2#32 0#32 (v162 I) (v73 I) (q2 I) (k2 I) (v252 I) := rfl
theorem v489_eq : v489 I = levV 3#32 0#32 (v162 I) (v73 I) (v476 I) (v479 I) (v345 I) := rfl
theorem v585_eq : v585 I = levV 4#32 0#32 (v162 I) (v73 I) (v572 I) (v575 I) (v489 I) := rfl
theorem v657_eq : v657 I = levV 5#32 0#32 (v162 I) (v73 I) (q5 I) (k5 I) (v585 I) := rfl
theorem v717_eq : v717 I = levV 6#32 0#32 (v162 I) (v73 I) (v704 I) (v707 I) (v657 I) := rfl
theorem v771_eq : v771 I = levV 7#32 0#32 (v162 I) (v73 I) (v758 I) (v761 I) (v717 I) := rfl
theorem v807_eq : v807 I = levV 8#32 0#32 (v162 I) (v73 I) (v796 I) (v797 I) (v771 I) := rfl
theorem v191_eq : v191 I = levV 0#32 1#32 (v162 I) (v73 I) (q0 I) (k0 I) (constant S256x256 .f32 0x00000000#32) := rfl
theorem v260_eq : v260 I = levV 1#32 1#32 (v162 I) (v73 I) (v239 I) (v242 I) (v191 I) := rfl
theorem v353_eq : v353 I = levV 2#32 1#32 (v162 I) (v73 I) (q2 I) (k2 I) (v260 I) := rfl
theorem v497_eq : v497 I = levV 3#32 1#32 (v162 I) (v73 I) (v476 I) (v479 I) (v353 I) := rfl
theorem v593_eq : v593 I = levV 4#32 1#32 (v162 I) (v73 I) (v572 I) (v575 I) (v497 I) := rfl
theorem v665_eq : v665 I = levV 5#32 1#32 (v162 I) (v73 I) (q5 I) (k5 I) (v593 I) := rfl
theorem v725_eq : v725 I = levV 6#32 1#32 (v162 I) (v73 I) (v704 I) (v707 I) (v665 I) := rfl
theorem v779_eq : v779 I = levV 7#32 1#32 (v162 I) (v73 I) (v758 I) (v761 I) (v725 I) := rfl
theorem v815_eq : v815 I = levV 8#32 1#32 (v162 I) (v73 I) (v796 I) (v797 I) (v779 I) := rfl
theorem v199_eq : v199 I = levV 0#32 2#32 (v162 I) (v73 I) (q0 I) (k0 I) (constant S256x256 .f32 0x00000000#32) := rfl
theorem v268_eq : v268 I = levV 1#32 2#32 (v162 I) (v73 I) (v239 I) (v242 I) (v199 I) := rfl
theorem v361_eq : v361 I = levV 2#32 2#32 (v162 I) (v73 I) (q2 I) (k2 I) (v268 I) := rfl
theorem v505_eq : v505 I = levV 3#32 2#32 (v162 I) (v73 I) (v476 I) (v479 I) (v361 I) := rfl
theorem v601_eq : v601 I = levV 4#32 2#32 (v162 I) (v73 I) (v572 I) (v575 I) (v505 I) := rfl
theorem v673_eq : v673 I = levV 5#32 2#32 (v162 I) (v73 I) (q5 I) (k5 I) (v601 I) := rfl
theorem v733_eq : v733 I = levV 6#32 2#32 (v162 I) (v73 I) (v704 I) (v707 I) (v673 I) := rfl
theorem v787_eq : v787 I = levV 7#32 2#32 (v162 I) (v73 I) (v758 I) (v761 I) (v733 I) := rfl
theorem v823_eq : v823 I = levV 8#32 2#32 (v162 I) (v73 I) (v796 I) (v797 I) (v787 I) := rfl
theorem v207_eq : v207 I = levV 0#32 3#32 (v162 I) (v73 I) (q0 I) (k0 I) (constant S256x256 .f32 0x00000000#32) := rfl
theorem v276_eq : v276 I = levV 1#32 3#32 (v162 I) (v73 I) (v239 I) (v242 I) (v207 I) := rfl
theorem v369_eq : v369 I = levV 2#32 3#32 (v162 I) (v73 I) (q2 I) (k2 I) (v276 I) := rfl
theorem v513_eq : v513 I = levV 3#32 3#32 (v162 I) (v73 I) (v476 I) (v479 I) (v369 I) := rfl
theorem v609_eq : v609 I = levV 4#32 3#32 (v162 I) (v73 I) (v572 I) (v575 I) (v513 I) := rfl
theorem v681_eq : v681 I = levV 5#32 3#32 (v162 I) (v73 I) (q5 I) (k5 I) (v609 I) := rfl
theorem v741_eq : v741 I = levV 6#32 3#32 (v162 I) (v73 I) (v704 I) (v707 I) (v681 I) := rfl
theorem v795_eq : v795 I = levV 7#32 3#32 (v162 I) (v73 I) (v758 I) (v761 I) (v741 I) := rfl
theorem v831_eq : v831 I = levV 8#32 3#32 (v162 I) (v73 I) (v796 I) (v797 I) (v795 I) := rfl

/-- A read of what one store of the whole buffer left is a read of what was stored. -/
theorem readCov_one {κ : Kind} {sp : Space} {S : Shape} {e : EltTy} (v : View sig κ sp S e) {off : Fin S.rank → ℕ}
    (h : off = fun _ => 0) (inb : ∀ a, off a + S.size a ≤ S.size a) (w : S.Idx → Elt Ideal e) (r : Rect S) :
    v.readCov (Val := Elt Ideal) [⟨Rect.unit off S.size inb, w⟩] r = View.ld w r := by
  have hcov : ∀ y, ∃ p ∈ [(⟨Rect.unit off S.size inb, w⟩ : View.Piece (Elt Ideal) S e)], y ∈ p.1.set :=
    fun y => ⟨_, List.mem_singleton_self _, View.mem_set_unit_zero h inb y⟩
  rw [View.readCov_eq_canon_ld v _ r hcov, View.canon_unit_zero h inb w]

theorem zeros : (![0, 0] : Fin S256x256.rank → ℕ) = fun _ => 0 := by funext i; fin_cases i <;> rfl

/-- One row read out of a buffer. -/
theorem ld_row (w : S256x256.Idx → Elt Ideal .f32) (k : ℕ)
    (inb : ∀ a, (![k, 0] : Fin 2 → ℕ) a + S1x256.size a ≤ S256x256.size a) (hk : k < 256) (x : Fin 256) :
    View.ld w (Rect.unit (s := S256x256) ![k, 0] S1x256.size inb) (ix2 0 x) = w (ix2 ⟨k, hk⟩ x) := by
  refine congrArg w ?_
  funext i
  apply Fin.ext
  fin_cases i
  · show k + 1 * 0 = k; omega
  · show 0 + 1 * x.val = x.val; omega

theorem cumRow_apply (k : ℕ) (inb : ∀ a, (![k, 0] : Fin 2 → ℕ) a + S1x256.size a ≤ S256x256.size a) (hk : k < 256) (x : Fin 256) :
    cumRow I k inb (ix2 0 x) = v121 I (ix2 ⟨k, hk⟩ x) := by
  unfold cumRow
  refine (congrFun (readCov_one (S := S256x256) (View.whole cc0_scratch2) zeros inb_S256x256_S256x256_0_0 _ (Rect.unit (s := S256x256) ![k, 0] S1x256.size inb)) (ix2 0 x)).trans ((ld_row _ k inb hk x).trans ?_)
  unfold v121
  pointwise [k0_pay18, k0_pay19]
theorem row_congr (a b : ℕ) (ha : a < 256) (hb : b < 256) (x : Fin 256) (h : a = b) :
    v121 I (ix2 ⟨a, ha⟩ x) = v121 I (ix2 ⟨b, hb⟩ x) := by
  subst h
  rfl

/-- The prefix sums at the ends of the blocks of 8 rows. -/
def end3 (I : TileIn) : FVec Ideal S256x256 .f32 := k0_pay81 (v372 I) (v375 I) (v378 I) (v381 I) (v384 I) (v387 I) (v390 I) (v393 I) (v396 I) (v399 I) (v402 I) (v405 I) (v408 I) (v411 I) (v414 I) (v417 I) (v420 I) (v423 I) (v426 I) (v429 I) (v432 I) (v435 I) (v438 I) (v441 I) (v443 I) (v445 I) (v448 I) (v451 I) (v454 I) (v457 I) (v460 I) (v463 I)

theorem v372_row (r : Fin 8) (x : Fin 256) : v372 I (ix2 r x) = v121 I (ix2 ⟨7, by omega⟩ x) := by
  unfold v372
  pointwise [k0_pay55]
  unfold v371
  pointwise [k0_pay54]
  exact cumRow_apply I 7 _ (by omega) x
theorem v375_row (r : Fin 8) (x : Fin 256) : v375 I (ix2 r x) = v121 I (ix2 ⟨15, by omega⟩ x) := by
  unfold v375
  pointwise [k0_pay56]
  exact cumRow_apply I 15 _ (by omega) x
theorem v378_row (r : Fin 8) (x : Fin 256) : v378 I (ix2 r x) = v121 I (ix2 ⟨23, by omega⟩ x) := by
  unfold v378
  pointwise [k0_pay57]
  exact cumRow_apply I 23 _ (by omega) x
theorem v381_row (r : Fin 8) (x : Fin 256) : v381 I (ix2 r x) = v121 I (ix2 ⟨31, by omega⟩ x) := by
  unfold v381
  pointwise [k0_pay58]
  exact cumRow_apply I 31 _ (by omega) x
theorem v384_row (r : Fin 8) (x : Fin 256) : v384 I (ix2 r x) = v121 I (ix2 ⟨39, by omega⟩ x) := by
  unfold v384
  pointwise [k0_pay59]
  exact cumRow_apply I 39 _ (by omega) x
theorem v387_row (r : Fin 8) (x : Fin 256) : v387 I (ix2 r x) = v121 I (ix2 ⟨47, by omega⟩ x) := by
  unfold v387
  pointwise [k0_pay60]
  exact cumRow_apply I 47 _ (by omega) x
theorem v390_row (r : Fin 8) (x : Fin 256) : v390 I (ix2 r x) = v121 I (ix2 ⟨55, by omega⟩ x) := by
  unfold v390
  pointwise [k0_pay61]
  exact cumRow_apply I 55 _ (by omega) x
theorem v393_row (r : Fin 8) (x : Fin 256) : v393 I (ix2 r x) = v121 I (ix2 ⟨63, by omega⟩ x) := by
  unfold v393
  pointwise [k0_pay62]
  exact cumRow_apply I 63 _ (by omega) x
theorem v396_row (r : Fin 8) (x : Fin 256) : v396 I (ix2 r x) = v121 I (ix2 ⟨71, by omega⟩ x) := by
  unfold v396
  pointwise [k0_pay63]
  exact cumRow_apply I 71 _ (by omega) x
theorem v399_row (r : Fin 8) (x : Fin 256) : v399 I (ix2 r x) = v121 I (ix2 ⟨79, by omega⟩ x) := by
  unfold v399
  pointwise [k0_pay64]
  exact cumRow_apply I 79 _ (by omega) x
theorem v402_row (r : Fin 8) (x : Fin 256) : v402 I (ix2 r x) = v121 I (ix2 ⟨87, by omega⟩ x) := by
  unfold v402
  pointwise [k0_pay65]
  exact cumRow_apply I 87 _ (by omega) x
theorem v405_row (r : Fin 8) (x : Fin 256) : v405 I (ix2 r x) = v121 I (ix2 ⟨95, by omega⟩ x) := by
  unfold v405
  pointwise [k0_pay66]
  exact cumRow_apply I 95 _ (by omega) x
theorem v408_row (r : Fin 8) (x : Fin 256) : v408 I (ix2 r x) = v121 I (ix2 ⟨103, by omega⟩ x) := by
  unfold v408
  pointwise [k0_pay68]
  unfold v407
  pointwise [k0_pay67]
  exact cumRow_apply I 103 _ (by omega) x
theorem v411_row (r : Fin 8) (x : Fin 256) : v411 I (ix2 r x) = v121 I (ix2 ⟨111, by omega⟩ x) := by
  unfold v411
  pointwise [k0_pay69]
  exact cumRow_apply I 111 _ (by omega) x
theorem v414_row (r : Fin 8) (x : Fin 256) : v414 I (ix2 r x) = v121 I (ix2 ⟨119, by omega⟩ x) := by
  unfold v414
  pointwise [k0_pay70]
  exact cumRow_apply I 119 _ (by omega) x
theorem v417_row (r : Fin 8) (x : Fin 256) : v417 I (ix2 r x) = v121 I (ix2 ⟨127, by omega⟩ x) := by
  unfold v417
  pointwise [k0_pay71]
  exact cumRow_apply I 127 _ (by omega) x
theorem v420_row (r : Fin 8) (x : Fin 256) : v420 I (ix2 r x) = v121 I (ix2 ⟨135, by omega⟩ x) := by
  unfold v420
  pointwise [k0_pay72]
  exact cumRow_apply I 135 _ (by omega) x
theorem v423_row (r : Fin 8) (x : Fin 256) : v423 I (ix2 r x) = v121 I (ix2 ⟨143, by omega⟩ x) := by
  unfold v423
  pointwise [k0_pay73]
  exact cumRow_apply I 143 _ (by omega) x
theorem v426_row (r : Fin 8) (x : Fin 256) : v426 I (ix2 r x) = v121 I (ix2 ⟨151, by omega⟩ x) := by
  unfold v426
  pointwise [k0_pay74]
  exact cumRow_apply I 151 _ (by omega) x
theorem v429_row (r : Fin 8) (x : Fin 256) : v429 I (ix2 r x) = v121 I (ix2 ⟨159, by omega⟩ x) := by
  unfold v429
  pointwise [k0_pay75]
  exact cumRow_apply I 159 _ (by omega) x
theorem v432_row (r : Fin 8) (x : Fin 256) : v432 I (ix2 r x) = v121 I (ix2 ⟨167, by omega⟩ x) := by
  unfold v432
  pointwise [k0_pay76]
  exact cumRow_apply I 167 _ (by omega) x
theorem v435_row (r : Fin 8) (x : Fin 256) : v435 I (ix2 r x) = v121 I (ix2 ⟨175, by omega⟩ x) := by
  unfold v435
  pointwise [k0_pay77]
  exact cumRow_apply I 175 _ (by omega) x
theorem v438_row (r : Fin 8) (x : Fin 256) : v438 I (ix2 r x) = v121 I (ix2 ⟨183, by omega⟩ x) := by
  unfold v438
  pointwise [k0_pay78]
  exact cumRow_apply I 183 _ (by omega) x
theorem v441_row (r : Fin 8) (x : Fin 256) : v441 I (ix2 r x) = v121 I (ix2 ⟨191, by omega⟩ x) := by
  unfold v441
  pointwise [k0_pay79]
  exact cumRow_apply I 191 _ (by omega) x
theorem v443_row (x : Fin 256) : v443 I (ix2 0 x) = v121 I (ix2 ⟨199, by omega⟩ x) := by
  unfold v443
  pointwise [k0_pay80]
  exact cumRow_apply I 199 _ (by omega) x
theorem v445_row (x : Fin 256) : v445 I (ix2 0 x) = v121 I (ix2 ⟨207, by omega⟩ x) := cumRow_apply I 207 _ (by omega) x
theorem v448_row (x : Fin 256) : v448 I (ix2 0 x) = v121 I (ix2 ⟨215, by omega⟩ x) := cumRow_apply I 215 _ (by omega) x
theorem v451_row (x : Fin 256) : v451 I (ix2 0 x) = v121 I (ix2 ⟨223, by omega⟩ x) := cumRow_apply I 223 _ (by omega) x
theorem v454_row (x : Fin 256) : v454 I (ix2 0 x) = v121 I (ix2 ⟨231, by omega⟩ x) := cumRow_apply I 231 _ (by omega) x
theorem v457_row (x : Fin 256) : v457 I (ix2 0 x) = v121 I (ix2 ⟨239, by omega⟩ x) := cumRow_apply I 239 _ (by omega) x
theorem v460_row (x : Fin 256) : v460 I (ix2 0 x) = v121 I (ix2 ⟨247, by omega⟩ x) := cumRow_apply I 247 _ (by omega) x
theorem v463_row (x : Fin 256) : v463 I (ix2 0 x) = v121 I (ix2 ⟨255, by omega⟩ x) := cumRow_apply I 255 _ (by omega) x

theorem end3_apply (r x : Fin 256) : end3 I (ix2 r x) = v121 I (ix2 ⟨8 * (r.val / 8) + 7, by omega⟩ x) := by
  unfold end3
  pointwise [k0_pay81]
  simp only [v372_row, v375_row, v378_row, v381_row, v384_row, v387_row, v390_row, v393_row, v396_row, v399_row, v402_row, v405_row, v408_row, v411_row, v414_row, v417_row, v420_row, v423_row, v426_row, v429_row, v432_row, v435_row, v438_row, v441_row, v443_row, v445_row, v448_row, v451_row, v454_row, v457_row, v460_row, v463_row]
  by_cases h0 : r.val < 8
  · rw [dif_pos h0]; exact row_congr I _ _ _ _ x (by omega)
  rw [dif_neg h0]
  by_cases h1 : r.val - 8 < 8
  · rw [dif_pos h1]; exact row_congr I _ _ _ _ x (by omega)
  rw [dif_neg h1]
  by_cases h2 : r.val - 8 - 8 < 8
  · rw [dif_pos h2]; exact row_congr I _ _ _ _ x (by omega)
  rw [dif_neg h2]
  by_cases h3 : r.val - 8 - 8 - 8 < 8
  · rw [dif_pos h3]; exact row_congr I _ _ _ _ x (by omega)
  rw [dif_neg h3]
  by_cases h4 : r.val - 8 - 8 - 8 - 8 < 8
  · rw [dif_pos h4]; exact row_congr I _ _ _ _ x (by omega)
  rw [dif_neg h4]
  by_cases h5 : r.val - 8 - 8 - 8 - 8 - 8 < 8
  · rw [dif_pos h5]; exact row_congr I _ _ _ _ x (by omega)
  rw [dif_neg h5]
  by_cases h6 : r.val - 8 - 8 - 8 - 8 - 8 - 8 < 8
  · rw [dif_pos h6]; exact row_congr I _ _ _ _ x (by omega)
  rw [dif_neg h6]
  by_cases h7 : r.val - 8 - 8 - 8 - 8 - 8 - 8 - 8 < 8
  · rw [dif_pos h7]; exact row_congr I _ _ _ _ x (by omega)
  rw [dif_neg h7]
  by_cases h8 : r.val - 8 - 8 - 8 - 8 - 8 - 8 - 8 - 8 < 8
  · rw [dif_pos h8]; exact row_congr I _ _ _ _ x (by omega)
  rw [dif_neg h8]
  by_cases h9 : r.val - 8 - 8 - 8 - 8 - 8 - 8 - 8 - 8 - 8 < 8
  · rw [dif_pos h9]; exact row_congr I _ _ _ _ x (by omega)
  rw [dif_neg h9]
  by_cases h10 : r.val - 8 - 8 - 8 - 8 - 8 - 8 - 8 - 8 - 8 - 8 < 8
  · rw [dif_pos h10]; exact row_congr I _ _ _ _ x (by omega)
  rw [dif_neg h10]
  by_cases h11 : r.val - 8 - 8 - 8 - 8 - 8 - 8 - 8 - 8 - 8 - 8 - 8 < 8
  · rw [dif_pos h11]; exact row_congr I _ _ _ _ x (by omega)
  rw [dif_neg h11]
  by_cases h12 : r.val - 8 - 8 - 8 - 8 - 8 - 8 - 8 - 8 - 8 - 8 - 8 - 8 < 8
  · rw [dif_pos h12]; exact row_congr I _ _ _ _ x (by omega)
  rw [dif_neg h12]
  by_cases h13 : r.val - 8 - 8 - 8 - 8 - 8 - 8 - 8 - 8 - 8 - 8 - 8 - 8 - 8 < 8
  · rw [dif_pos h13]; exact row_congr I _ _ _ _ x (by omega)
  rw [dif_neg h13]
  by_cases h14 : r.val - 8 - 8 - 8 - 8 - 8 - 8 - 8 - 8 - 8 - 8 - 8 - 8 - 8 - 8 < 8
  · rw [dif_pos h14]; exact row_congr I _ _ _ _ x (by omega)
  rw [dif_neg h14]
  by_cases h15 : r.val - 8 - 8 - 8 - 8 - 8 - 8 - 8 - 8 - 8 - 8 - 8 - 8 - 8 - 8 - 8 < 8
  · rw [dif_pos h15]; exact row_congr I _ _ _ _ x (by omega)
  rw [dif_neg h15]
  by_cases h16 : r.val - 8 - 8 - 8 - 8 - 8 - 8 - 8 - 8 - 8 - 8 - 8 - 8 - 8 - 8 - 8 - 8 < 8
  · rw [dif_pos h16]; exact row_congr I _ _ _ _ x (by omega)
  rw [dif_neg h16]
  by_cases h17 : r.val - 8 - 8 - 8 - 8 - 8 - 8 - 8 - 8 - 8 - 8 - 8 - 8 - 8 - 8 - 8 - 8 - 8 < 8
  · rw [dif_pos h17]; exact row_congr I _ _ _ _ x (by omega)
  rw [dif_neg h17]
  by_cases h18 : r.val - 8 - 8 - 8 - 8 - 8 - 8 - 8 - 8 - 8 - 8 - 8 - 8 - 8 - 8 - 8 - 8 - 8 - 8 < 8
  · rw [dif_pos h18]; exact row_congr I _ _ _ _ x (by omega)
  rw [dif_neg h18]
  by_cases h19 : r.val - 8 - 8 - 8 - 8 - 8 - 8 - 8 - 8 - 8 - 8 - 8 - 8 - 8 - 8 - 8 - 8 - 8 - 8 - 8 < 8
  · rw [dif_pos h19]; exact row_congr I _ _ _ _ x (by omega)
  rw [dif_neg h19]
  by_cases h20 : r.val - 8 - 8 - 8 - 8 - 8 - 8 - 8 - 8 - 8 - 8 - 8 - 8 - 8 - 8 - 8 - 8 - 8 - 8 - 8 - 8 < 8
  · rw [dif_pos h20]; exact row_congr I _ _ _ _ x (by omega)
  rw [dif_neg h20]
  by_cases h21 : r.val - 8 - 8 - 8 - 8 - 8 - 8 - 8 - 8 - 8 - 8 - 8 - 8 - 8 - 8 - 8 - 8 - 8 - 8 - 8 - 8 - 8 < 8
  · rw [dif_pos h21]; exact row_congr I _ _ _ _ x (by omega)
  rw [dif_neg h21]
  by_cases h22 : r.val - 8 - 8 - 8 - 8 - 8 - 8 - 8 - 8 - 8 - 8 - 8 - 8 - 8 - 8 - 8 - 8 - 8 - 8 - 8 - 8 - 8 - 8 < 8
  · rw [dif_pos h22]; exact row_congr I _ _ _ _ x (by omega)
  rw [dif_neg h22]
  by_cases h23 : r.val - 8 - 8 - 8 - 8 - 8 - 8 - 8 - 8 - 8 - 8 - 8 - 8 - 8 - 8 - 8 - 8 - 8 - 8 - 8 - 8 - 8 - 8 - 8 < 8
  · rw [dif_pos h23]; exact row_congr I _ _ _ _ x (by omega)
  rw [dif_neg h23]
  by_cases h24 : r.val - 8 - 8 - 8 - 8 - 8 - 8 - 8 - 8 - 8 - 8 - 8 - 8 - 8 - 8 - 8 - 8 - 8 - 8 - 8 - 8 - 8 - 8 - 8 - 8 < 8
  · rw [dif_pos h24]; exact row_congr I _ _ _ _ x (by omega)
  rw [dif_neg h24]
  by_cases h25 : r.val - 8 - 8 - 8 - 8 - 8 - 8 - 8 - 8 - 8 - 8 - 8 - 8 - 8 - 8 - 8 - 8 - 8 - 8 - 8 - 8 - 8 - 8 - 8 - 8 - 8 < 8
  · rw [dif_pos h25]; exact row_congr I _ _ _ _ x (by omega)
  rw [dif_neg h25]
  by_cases h26 : r.val - 8 - 8 - 8 - 8 - 8 - 8 - 8 - 8 - 8 - 8 - 8 - 8 - 8 - 8 - 8 - 8 - 8 - 8 - 8 - 8 - 8 - 8 - 8 - 8 - 8 - 8 < 8
  · rw [dif_pos h26]; exact row_congr I _ _ _ _ x (by omega)
  rw [dif_neg h26]
  by_cases h27 : r.val - 8 - 8 - 8 - 8 - 8 - 8 - 8 - 8 - 8 - 8 - 8 - 8 - 8 - 8 - 8 - 8 - 8 - 8 - 8 - 8 - 8 - 8 - 8 - 8 - 8 - 8 - 8 < 8
  · rw [dif_pos h27]; exact row_congr I _ _ _ _ x (by omega)
  rw [dif_neg h27]
  by_cases h28 : r.val - 8 - 8 - 8 - 8 - 8 - 8 - 8 - 8 - 8 - 8 - 8 - 8 - 8 - 8 - 8 - 8 - 8 - 8 - 8 - 8 - 8 - 8 - 8 - 8 - 8 - 8 - 8 - 8 < 8
  · rw [dif_pos h28]; exact row_congr I _ _ _ _ x (by omega)
  rw [dif_neg h28]
  by_cases h29 : r.val - 8 - 8 - 8 - 8 - 8 - 8 - 8 - 8 - 8 - 8 - 8 - 8 - 8 - 8 - 8 - 8 - 8 - 8 - 8 - 8 - 8 - 8 - 8 - 8 - 8 - 8 - 8 - 8 - 8 < 8
  · rw [dif_pos h29]; exact row_congr I _ _ _ _ x (by omega)
  rw [dif_neg h29]
  by_cases h30 : r.val - 8 - 8 - 8 - 8 - 8 - 8 - 8 - 8 - 8 - 8 - 8 - 8 - 8 - 8 - 8 - 8 - 8 - 8 - 8 - 8 - 8 - 8 - 8 - 8 - 8 - 8 - 8 - 8 - 8 - 8 < 8
  · rw [dif_pos h30]; exact row_congr I _ _ _ _ x (by omega)
  rw [dif_neg h30]
  exact row_congr I _ _ _ _ x (by omega)

/-- The prefix sums at the ends of the blocks of 16 rows. -/
def end4 (I : TileIn) : FVec Ideal S256x256 .f32 := k0_pay105 (v516 I) (v519 I) (v522 I) (v525 I) (v528 I) (v531 I) (v534 I) (v537 I) (v540 I) (v543 I) (v546 I) (v549 I) (v552 I) (v555 I) (v558 I) (v559 I)

theorem v516_row (r : Fin 16) (x : Fin 256) : v516 I (ix2 r x) = v121 I (ix2 ⟨15, by omega⟩ x) := by
  unfold v516
  pointwise [k0_pay90]
  exact cumRow_apply I 15 _ (by omega) x
theorem v519_row (r : Fin 16) (x : Fin 256) : v519 I (ix2 r x) = v121 I (ix2 ⟨31, by omega⟩ x) := by
  unfold v519
  pointwise [k0_pay91]
  exact cumRow_apply I 31 _ (by omega) x
theorem v522_row (r : Fin 16) (x : Fin 256) : v522 I (ix2 r x) = v121 I (ix2 ⟨47, by omega⟩ x) := by
  unfold v522
  pointwise [k0_pay92]
  exact cumRow_apply I 47 _ (by omega) x
theorem v525_row (r : Fin 16) (x : Fin 256) : v525 I (ix2 r x) = v121 I (ix2 ⟨63, by omega⟩ x) := by
  unfold v525
  pointwise [k0_pay93]
  exact cumRow_apply I 63 _ (by omega) x
theorem v528_row (r : Fin 16) (x : Fin 256) : v528 I (ix2 r x) = v121 I (ix2 ⟨79, by omega⟩ x) := by
  unfold v528
  pointwise [k0_pay94]
  exact cumRow_apply I 79 _ (by omega) x
theorem v531_row (r : Fin 16) (x : Fin 256) : v531 I (ix2 r x) = v121 I (ix2 ⟨95, by omega⟩ x) := by
  unfold v531
  pointwise [k0_pay95]
  exact cumRow_apply I 95 _ (by omega) x
theorem v534_row (r : Fin 16) (x : Fin 256) : v534 I (ix2 r x) = v121 I (ix2 ⟨111, by omega⟩ x) := by
  unfold v534
  pointwise [k0_pay96]
  exact cumRow_apply I 111 _ (by omega) x
theorem v537_row (r : Fin 16) (x : Fin 256) : v537 I (ix2 r x) = v121 I (ix2 ⟨127, by omega⟩ x) := by
  unfold v537
  pointwise [k0_pay97]
  exact cumRow_apply I 127 _ (by omega) x
theorem v540_row (r : Fin 16) (x : Fin 256) : v540 I (ix2 r x) = v121 I (ix2 ⟨143, by omega⟩ x) := by
  unfold v540
  pointwise [k0_pay98]
  exact cumRow_apply I 143 _ (by omega) x
theorem v543_row (r : Fin 16) (x : Fin 256) : v543 I (ix2 r x) = v121 I (ix2 ⟨159, by omega⟩ x) := by
  unfold v543
  pointwise [k0_pay99]
  exact cumRow_apply I 159 _ (by omega) x
theorem v546_row (r : Fin 16) (x : Fin 256) : v546 I (ix2 r x) = v121 I (ix2 ⟨175, by omega⟩ x) := by
  unfold v546
  pointwise [k0_pay100]
  exact cumRow_apply I 175 _ (by omega) x
theorem v549_row (r : Fin 16) (x : Fin 256) : v549 I (ix2 r x) = v121 I (ix2 ⟨191, by omega⟩ x) := by
  unfold v549
  pointwise [k0_pay101]
  exact cumRow_apply I 191 _ (by omega) x
theorem v552_row (r : Fin 16) (x : Fin 256) : v552 I (ix2 r x) = v121 I (ix2 ⟨207, by omega⟩ x) := by
  unfold v552
  pointwise [k0_pay102]
  exact cumRow_apply I 207 _ (by omega) x
theorem v555_row (r : Fin 16) (x : Fin 256) : v555 I (ix2 r x) = v121 I (ix2 ⟨223, by omega⟩ x) := by
  unfold v555
  pointwise [k0_pay103]
  exact cumRow_apply I 223 _ (by omega) x
theorem v558_row (r : Fin 16) (x : Fin 256) : v558 I (ix2 r x) = v121 I (ix2 ⟨239, by omega⟩ x) := by
  unfold v558
  pointwise [k0_pay104]
  exact cumRow_apply I 239 _ (by omega) x
theorem v559_row (x : Fin 256) : v559 I (ix2 0 x) = v121 I (ix2 ⟨255, by omega⟩ x) := cumRow_apply I 255 _ (by omega) x

theorem end4_apply (r x : Fin 256) : end4 I (ix2 r x) = v121 I (ix2 ⟨16 * (r.val / 16) + 15, by omega⟩ x) := by
  unfold end4
  pointwise [k0_pay105]
  simp only [v516_row, v519_row, v522_row, v525_row, v528_row, v531_row, v534_row, v537_row, v540_row, v543_row, v546_row, v549_row, v552_row, v555_row, v558_row, v559_row]
  by_cases h0 : r.val < 16
  · rw [dif_pos h0]; exact row_congr I _ _ _ _ x (by omega)
  rw [dif_neg h0]
  by_cases h1 : r.val - 16 < 16
  · rw [dif_pos h1]; exact row_congr I _ _ _ _ x (by omega)
  rw [dif_neg h1]
  by_cases h2 : r.val - 16 - 16 < 16
  · rw [dif_pos h2]; exact row_congr I _ _ _ _ x (by omega)
  rw [dif_neg h2]
  by_cases h3 : r.val - 16 - 16 - 16 < 16
  · rw [dif_pos h3]; exact row_congr I _ _ _ _ x (by omega)
  rw [dif_neg h3]
  by_cases h4 : r.val - 16 - 16 - 16 - 16 < 16
  · rw [dif_pos h4]; exact row_congr I _ _ _ _ x (by omega)
  rw [dif_neg h4]
  by_cases h5 : r.val - 16 - 16 - 16 - 16 - 16 < 16
  · rw [dif_pos h5]; exact row_congr I _ _ _ _ x (by omega)
  rw [dif_neg h5]
  by_cases h6 : r.val - 16 - 16 - 16 - 16 - 16 - 16 < 16
  · rw [dif_pos h6]; exact row_congr I _ _ _ _ x (by omega)
  rw [dif_neg h6]
  by_cases h7 : r.val - 16 - 16 - 16 - 16 - 16 - 16 - 16 < 16
  · rw [dif_pos h7]; exact row_congr I _ _ _ _ x (by omega)
  rw [dif_neg h7]
  by_cases h8 : r.val - 16 - 16 - 16 - 16 - 16 - 16 - 16 - 16 < 16
  · rw [dif_pos h8]; exact row_congr I _ _ _ _ x (by omega)
  rw [dif_neg h8]
  by_cases h9 : r.val - 16 - 16 - 16 - 16 - 16 - 16 - 16 - 16 - 16 < 16
  · rw [dif_pos h9]; exact row_congr I _ _ _ _ x (by omega)
  rw [dif_neg h9]
  by_cases h10 : r.val - 16 - 16 - 16 - 16 - 16 - 16 - 16 - 16 - 16 - 16 < 16
  · rw [dif_pos h10]; exact row_congr I _ _ _ _ x (by omega)
  rw [dif_neg h10]
  by_cases h11 : r.val - 16 - 16 - 16 - 16 - 16 - 16 - 16 - 16 - 16 - 16 - 16 < 16
  · rw [dif_pos h11]; exact row_congr I _ _ _ _ x (by omega)
  rw [dif_neg h11]
  by_cases h12 : r.val - 16 - 16 - 16 - 16 - 16 - 16 - 16 - 16 - 16 - 16 - 16 - 16 < 16
  · rw [dif_pos h12]; exact row_congr I _ _ _ _ x (by omega)
  rw [dif_neg h12]
  by_cases h13 : r.val - 16 - 16 - 16 - 16 - 16 - 16 - 16 - 16 - 16 - 16 - 16 - 16 - 16 < 16
  · rw [dif_pos h13]; exact row_congr I _ _ _ _ x (by omega)
  rw [dif_neg h13]
  by_cases h14 : r.val - 16 - 16 - 16 - 16 - 16 - 16 - 16 - 16 - 16 - 16 - 16 - 16 - 16 - 16 < 16
  · rw [dif_pos h14]; exact row_congr I _ _ _ _ x (by omega)
  rw [dif_neg h14]
  exact row_congr I _ _ _ _ x (by omega)

/-- The prefix sums at the ends of the blocks of 32 rows. -/
def end5 (I : TileIn) : FVec Ideal S256x256 .f32 := k0_pay113 (v610 I) (v613 I) (v616 I) (v619 I) (v622 I) (v625 I) (v628 I) (v631 I)

theorem v610_row (x : Fin 256) : v610 I (ix2 0 x) = v121 I (ix2 ⟨31, by omega⟩ x) := cumRow_apply I 31 _ (by omega) x
theorem v613_row (x : Fin 256) : v613 I (ix2 0 x) = v121 I (ix2 ⟨63, by omega⟩ x) := cumRow_apply I 63 _ (by omega) x
theorem v616_row (x : Fin 256) : v616 I (ix2 0 x) = v121 I (ix2 ⟨95, by omega⟩ x) := cumRow_apply I 95 _ (by omega) x
theorem v619_row (x : Fin 256) : v619 I (ix2 0 x) = v121 I (ix2 ⟨127, by omega⟩ x) := cumRow_apply I 127 _ (by omega) x
theorem v622_row (x : Fin 256) : v622 I (ix2 0 x) = v121 I (ix2 ⟨159, by omega⟩ x) := cumRow_apply I 159 _ (by omega) x
theorem v625_row (x : Fin 256) : v625 I (ix2 0 x) = v121 I (ix2 ⟨191, by omega⟩ x) := cumRow_apply I 191 _ (by omega) x
theorem v628_row (x : Fin 256) : v628 I (ix2 0 x) = v121 I (ix2 ⟨223, by omega⟩ x) := cumRow_apply I 223 _ (by omega) x
theorem v631_row (x : Fin 256) : v631 I (ix2 0 x) = v121 I (ix2 ⟨255, by omega⟩ x) := cumRow_apply I 255 _ (by omega) x

theorem end5_apply (r x : Fin 256) : end5 I (ix2 r x) = v121 I (ix2 ⟨32 * (r.val / 32) + 31, by omega⟩ x) := by
  unfold end5
  pointwise [k0_pay113]
  simp only [v610_row, v613_row, v616_row, v619_row, v622_row, v625_row, v628_row, v631_row]
  by_cases h0 : r.val < 32
  · rw [dif_pos h0]; exact row_congr I _ _ _ _ x (by omega)
  rw [dif_neg h0]
  by_cases h1 : r.val - 32 < 32
  · rw [dif_pos h1]; exact row_congr I _ _ _ _ x (by omega)
  rw [dif_neg h1]
  by_cases h2 : r.val - 32 - 32 < 32
  · rw [dif_pos h2]; exact row_congr I _ _ _ _ x (by omega)
  rw [dif_neg h2]
  by_cases h3 : r.val - 32 - 32 - 32 < 32
  · rw [dif_pos h3]; exact row_congr I _ _ _ _ x (by omega)
  rw [dif_neg h3]
  by_cases h4 : r.val - 32 - 32 - 32 - 32 < 32
  · rw [dif_pos h4]; exact row_congr I _ _ _ _ x (by omega)
  rw [dif_neg h4]
  by_cases h5 : r.val - 32 - 32 - 32 - 32 - 32 < 32
  · rw [dif_pos h5]; exact row_congr I _ _ _ _ x (by omega)
  rw [dif_neg h5]
  by_cases h6 : r.val - 32 - 32 - 32 - 32 - 32 - 32 < 32
  · rw [dif_pos h6]; exact row_congr I _ _ _ _ x (by omega)
  rw [dif_neg h6]
  exact row_congr I _ _ _ _ x (by omega)

/-- The prefix sums at the ends of the blocks of 64 rows. -/
def end6 (I : TileIn) : FVec Ideal S256x256 .f32 := k0_pay124 (v682 I) (v685 I) (v688 I) (v691 I)

theorem v682_row (x : Fin 256) : v682 I (ix2 0 x) = v121 I (ix2 ⟨63, by omega⟩ x) := cumRow_apply I 63 _ (by omega) x
theorem v685_row (x : Fin 256) : v685 I (ix2 0 x) = v121 I (ix2 ⟨127, by omega⟩ x) := cumRow_apply I 127 _ (by omega) x
theorem v688_row (x : Fin 256) : v688 I (ix2 0 x) = v121 I (ix2 ⟨191, by omega⟩ x) := cumRow_apply I 191 _ (by omega) x
theorem v691_row (x : Fin 256) : v691 I (ix2 0 x) = v121 I (ix2 ⟨255, by omega⟩ x) := cumRow_apply I 255 _ (by omega) x

theorem end6_apply (r x : Fin 256) : end6 I (ix2 r x) = v121 I (ix2 ⟨64 * (r.val / 64) + 63, by omega⟩ x) := by
  unfold end6
  pointwise [k0_pay124]
  simp only [v682_row, v685_row, v688_row, v691_row]
  by_cases h0 : r.val < 64
  · rw [dif_pos h0]; exact row_congr I _ _ _ _ x (by omega)
  rw [dif_neg h0]
  by_cases h1 : r.val - 64 < 64
  · rw [dif_pos h1]; exact row_congr I _ _ _ _ x (by omega)
  rw [dif_neg h1]
  by_cases h2 : r.val - 64 - 64 < 64
  · rw [dif_pos h2]; exact row_congr I _ _ _ _ x (by omega)
  rw [dif_neg h2]
  exact row_congr I _ _ _ _ x (by omega)

/-- The prefix sums at the ends of the blocks of 128 rows. -/
def end7 (I : TileIn) : FVec Ideal S256x256 .f32 := k0_pay133 (v742 I) (v745 I)

theorem v742_row (x : Fin 256) : v742 I (ix2 0 x) = v121 I (ix2 ⟨127, by omega⟩ x) := cumRow_apply I 127 _ (by omega) x
theorem v745_row (x : Fin 256) : v745 I (ix2 0 x) = v121 I (ix2 ⟨255, by omega⟩ x) := cumRow_apply I 255 _ (by omega) x

theorem end7_apply (r x : Fin 256) : end7 I (ix2 r x) = v121 I (ix2 ⟨128 * (r.val / 128) + 127, by omega⟩ x) := by
  unfold end7
  pointwise [k0_pay133]
  simp only [v742_row, v745_row]
  by_cases h0 : r.val < 128
  · rw [dif_pos h0]; exact row_congr I _ _ _ _ x (by omega)
  rw [dif_neg h0]
  exact row_congr I _ _ _ _ x (by omega)

end Cert.Mix
end
end
-- ==== Proof.Mix.Recur.lean ====
module

public import Mathlib.Algebra.BigOperators.Fin
public import Mathlib.Analysis.SpecialFunctions.Exp

/-! The gated linear recurrence over the real numbers, one head and one value column at a time: what a token's output
    and the carried state are as plain sums over the tokens before it, and how a block of tokens is computed from the
    state at its start. The length of a block does not matter, so the kernel's tiles and the reference's chunks give
    the same sums. -/

@[expose] public section

noncomputable section

namespace Cert.Mix

/-- The sum of the first `n` terms. -/
def psum (a : ℕ → ℝ) (n : ℕ) : ℝ := ∑ u ∈ Finset.range n, a u

/-- The sequence from position `c` on. -/
def from' (c : ℕ) (a : ℕ → ℝ) (n : ℕ) : ℝ := a (c + n)

theorem psum_zero (a : ℕ → ℝ) : psum a 0 = 0 := by simp [psum]

theorem psum_succ (a : ℕ → ℝ) (n : ℕ) : psum a (n + 1) = psum a n + a n := Finset.sum_range_succ a n

theorem psum_from (c : ℕ) (a : ℕ → ℝ) (n : ℕ) : psum (from' c a) n = psum a (c + n) - psum a c := by
  unfold psum from'
  rw [Finset.sum_range_add]
  ring

variable {D : Type} [Fintype D]

/-- The state after `n` tokens. -/
def stateAt (k a : D → ℕ → ℝ) (v : ℕ → ℝ) (n : ℕ) (d : D) : ℝ :=
  ∑ s ∈ Finset.range n, k d s * Real.exp (psum (a d) n - psum (a d) (s + 1)) * v s

/-- One decayed score. -/
def score (q k a : D → ℕ → ℝ) (t s : ℕ) : ℝ :=
  ∑ d, q d t * k d s * Real.exp (psum (a d) (t + 1) - psum (a d) (s + 1))

/-- One token's output. -/
def outAt (q k a : D → ℕ → ℝ) (v : ℕ → ℝ) (t : ℕ) : ℝ :=
  ∑ s ∈ Finset.range (t + 1), score q k a t s * v s

theorem stateAt_zero (k a : D → ℕ → ℝ) (v : ℕ → ℝ) (d : D) : stateAt k a v 0 d = 0 := by simp [stateAt]

theorem score_from (q k a : D → ℕ → ℝ) (c t s : ℕ) :
    score (fun d => from' c (q d)) (fun d => from' c (k d)) (fun d => from' c (a d)) t s = score q k a (c + t) (c + s) := by
  unfold score
  refine Finset.sum_congr rfl fun d _ => ?_
  rw [psum_from, psum_from]
  simp only [from', Nat.add_assoc, sub_sub_sub_cancel_right]

/-- The state after one more block. -/
theorem stateAt_block (k a : D → ℕ → ℝ) (v : ℕ → ℝ) (c L : ℕ) (d : D) :
    stateAt k a v (c + L) d = Real.exp (psum (from' c (a d)) L) * stateAt k a v c d
      + ∑ s : Fin L, from' c (k d) s * Real.exp (psum (from' c (a d)) L - psum (from' c (a d)) (s + 1)) * from' c v s := by
  unfold stateAt
  rw [Finset.sum_range_add, Finset.mul_sum]
  congr 1
  · refine Finset.sum_congr rfl fun s _ => ?_
    rw [psum_from, show psum (a d) (c + L) - psum (a d) (s + 1)
      = (psum (a d) (c + L) - psum (a d) c) + (psum (a d) c - psum (a d) (s + 1)) by ring, Real.exp_add]
    ring
  · rw [Finset.sum_range]
    refine Finset.sum_congr rfl fun s _ => ?_
    rw [psum_from, psum_from, sub_sub_sub_cancel_right]
    simp only [from', Nat.add_assoc]

/-- A token's output from the state at the start of its block and the block's own scores. -/
theorem outAt_block (q k a : D → ℕ → ℝ) (v : ℕ → ℝ) (c L : ℕ) (r : Fin L) :
    outAt q k a v (c + r) = (∑ d, from' c (q d) r * Real.exp (psum (from' c (a d)) (r + 1)) * stateAt k a v c d)
      + ∑ s : Fin L, (if s.val ≤ r.val then
          score (fun d => from' c (q d)) (fun d => from' c (k d)) (fun d => from' c (a d)) r s else 0) * from' c v s := by
  unfold outAt
  rw [Nat.add_assoc, Finset.sum_range_add]
  congr 1
  · simp only [stateAt, score, Finset.mul_sum, Finset.sum_mul]
    rw [Finset.sum_comm]
    refine Finset.sum_congr rfl fun d _ => Finset.sum_congr rfl fun s _ => ?_
    rw [psum_from, show psum (a d) (c + r + 1) - psum (a d) (s + 1)
      = (psum (a d) (c + (r + 1)) - psum (a d) c) + (psum (a d) c - psum (a d) (s + 1)) by rw [Nat.add_assoc]; ring, Real.exp_add]
    simp only [from']
    ring
  · have h := Finset.sum_range (n := L) fun s => (if s ≤ r.val then
      score (fun d => from' c (q d)) (fun d => from' c (k d)) (fun d => from' c (a d)) r s else 0) * from' c v s
    rw [← h]
    rw [← Finset.sum_subset (s₁ := Finset.range (r.val + 1)) (s₂ := Finset.range L)]
    · refine Finset.sum_congr rfl fun s hs => ?_
      rw [if_pos (by have := Finset.mem_range.1 hs; omega), score_from]
      rfl
    · intro s hs
      have := Finset.mem_range.1 hs
      exact Finset.mem_range.2 (by omega)
    · intro s _ hs
      rw [if_neg (by intro h; exact hs (Finset.mem_range.2 (by omega))), zero_mul]

/-- Doubling the window of a running sum, as a shift and an addition. -/
theorem psum_double (a : ℕ → ℝ) (w r : ℕ) :
    (psum a (r + 1) - psum a (r + 1 - w)) + (if w ≤ r then psum a (r - w + 1) - psum a (r - w + 1 - w) else 0)
      = psum a (r + 1) - psum a (r + 1 - 2 * w) := by
  split
  · rw [show r - w + 1 = r + 1 - w by omega, show r + 1 - w - w = r + 1 - 2 * w by omega]; ring
  · rw [show r + 1 - w = 0 by omega, show r + 1 - 2 * w = 0 by omega]; ring

end Cert.Mix
end
-- ==== Proof.Mix.Levels.lean ====
module

public import proofs.«01_k».proof.Proof.Mix.Scores
public import proofs.«01_k».proof.Proof.Mix.Recur

/-! A tile whose queries, keys and log-decays are real numbers: its prefix sums by doubling, and the decayed queries and
    keys of each level, both as differences of prefix sums. -/

@[expose] public section

set_option maxRecDepth 16384

noncomputable section

namespace Cert.Mix

open Cert.Kernel2Ideal Cert.Kernel2Ideal.Gen Idealize.ShloMosaic Idealize.ShloMosaic.TcCoe Idealize.SL.Sem

theorem sel_of {α : Type} (b : BitVec 1) (p : Prop) [Decidable p] (h : b = if p then 1#1 else 0#1) (x y : α) :
    Scalar.select b x y = if p then x else y := by
  subst h
  unfold Scalar.select
  by_cases hp : p <;> simp [hp]

theorem sel_eq {α : Type} {w : ℕ} (a b : BitVec w) (x y : α) : Scalar.select (IntOp.cmpi .eq a b) x y = if a = b then x else y := by
  refine sel_of _ _ ?_ x y
  unfold IntOp.cmpi
  by_cases h : a = b
  · simp [h]
  · rw [if_neg h, beq_eq_false_iff_ne.mpr h]
    rfl

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem coe_ite (p : Prop) [Decidable p] (a b : ℝ) : (if p then (a : EReal) else (b : EReal)) = ((if p then a else b : ℝ) : EReal) := by
  split <;> rfl

theorem coe_ite_zero (p : Prop) [Decidable p] (a : ℝ) : (if p then (a : EReal) else 0) = ((if p then a else 0 : ℝ) : EReal) := by
  split <;> rfl

theorem ge_all : ∀ n : Fin 129, ∀ r : Fin 256,
    IntOp.cmpi .sge (BitVec.ofNat 32 r.val) (BitVec.ofNat 32 n.val) = if n.val ≤ r.val then 1#1 else 0#1 := by decide +kernel

theorem sel_ge {α : Type} (n : ℕ) (hn : n < 129) (r : Fin 256) (x y : α) :
    Scalar.select (IntOp.cmpi .sge (BitVec.ofNat 32 r.val) (BitVec.ofNat 32 n)) x y = if n ≤ r.val then x else y :=
  sel_of _ _ (ge_all ⟨n, hn⟩ r) x y

/-- Adding what stands `n` rows above. -/
def shiftAdd (n : BitVec 32) (z : FVec Ideal S256x256 .f32) : FVec Ideal S256x256 .f32 :=
  addf z (select (cmpi .sge (iota .tc S256x256 32 [0] iota_S256x256_d0_w32) (broadcast S256x256 n))
    (dynamicRotate 0 n none z rotates_S256x256_d0) (broadcast S256x256 (Scalar.ofBits .f32 0x00000000#32)))

variable (I : TileIn)

theorem v79_eq : v79 I = shiftAdd 1#32 (v47 I) := rfl

theorem v115_eq : v115 I = shiftAdd 64#32 (shiftAdd 32#32 (shiftAdd 16#32 (shiftAdd 8#32 (shiftAdd 4#32 (shiftAdd 2#32 (v79 I)))))) := rfl

theorem v121_eq : v121 I = shiftAdd 128#32 (v115 I) := rfl

theorem rot_eq (n : ℕ) (hn : n ≤ 256) (r : Fin 256) (h : n ≤ r.val) (hb : (r.val + 256 - n) % 256 < 256) :
    (⟨(r.val + 256 - n) % 256, hb⟩ : Fin 256) = ⟨r.val - n, by omega⟩ := Fin.ext (by show (r.val + 256 - n) % 256 = r.val - n; omega)

/-- One doubling step on windows of `w` rows. -/
theorem shiftAdd_real (a : Fin 256 → ℕ → ℝ) (w : ℕ) (hw : w < 129) (hw0 : w ≠ 0) (z : FVec Ideal S256x256 .f32)
    (hz : ∀ r x : Fin 256, z (ix2 r x) = ((psum (a x) (r.val + 1) - psum (a x) (r.val + 1 - w) : ℝ) : EReal)) (r x : Fin 256) :
    shiftAdd (BitVec.ofNat 32 w) z (ix2 r x) = ((psum (a x) (r.val + 1) - psum (a x) (r.val + 1 - 2 * w) : ℝ) : EReal) := by
  unfold shiftAdd
  pointwise
  simp only [BitVec.toNat_ofNat, show w % 2 ^ 32 % 256 = w by omega]
  rw [sel_ge w hw r]
  rw [← psum_double, EReal.coe_add, ← hz]
  congr 1
  split
  next h =>
    rw [rot_eq w (by omega) r h, hz]
  next h => rfl

variable {q k a : Fin 256 → ℕ → ℝ}

/-- The prefix sums over real log-decays. -/
theorem v121_real (ha : ∀ r x : Fin 256, v47 I (ix2 r x) = ((a x r.val : ℝ) : EReal)) (r x : Fin 256) :
    v121 I (ix2 r x) = ((psum (a x) (r.val + 1) : ℝ) : EReal) := by
  have h0 : ∀ r x : Fin 256, v47 I (ix2 r x) = ((psum (a x) (r.val + 1) - psum (a x) (r.val + 1 - 1) : ℝ) : EReal) := by
    intro r x
    rw [ha, Nat.add_sub_cancel, psum_succ, add_sub_cancel_left]
  have h1 := shiftAdd_real a 1 (by omega) (by omega) _ h0
  have h2 := shiftAdd_real a 2 (by omega) (by omega) _ h1
  have h3 := shiftAdd_real a 4 (by omega) (by omega) _ h2
  have h4 := shiftAdd_real a 8 (by omega) (by omega) _ h3
  have h5 := shiftAdd_real a 16 (by omega) (by omega) _ h4
  have h6 := shiftAdd_real a 32 (by omega) (by omega) _ h5
  have h7 := shiftAdd_real a 64 (by omega) (by omega) _ h6
  have h8 := shiftAdd_real a 128 (by omega) (by omega) _ h7 r x
  rw [v121_eq, v115_eq, v79_eq]
  refine h8.trans ?_
  rw [show r.val + 1 - 2 * 128 = 0 by omega, psum_zero, sub_zero]

/-- The exponent of a decayed query, its blocks being of `B` rows. -/
def dq (B : ℕ) (a : ℕ → ℝ) (t : ℕ) : ℝ := psum a (t + 1) - psum a (B * (t / B))

/-- The exponent of a decayed key. -/
def dk (B : ℕ) (a : ℕ → ℝ) (s : ℕ) : ℝ := psum a (B * (s / B) + B) - psum a (s + 1)

/-- The remainder with the divisor's sign, as the kernel computes it. -/
def pmod (r m : BitVec 32) : BitVec 32 :=
  Scalar.select
    (IntOp.andi
      (IntOp.xori (IntOp.cmpi .slt (IntOp.remsi .vector r (Scalar.select (Scalar.cmpi .eq m 0#32) 1#32 m)) 0#32)
        (Scalar.cmpi .slt (Scalar.select (Scalar.cmpi .eq m 0#32) 1#32 m) 0#32))
      (IntOp.cmpi .ne (IntOp.remsi .vector r (Scalar.select (Scalar.cmpi .eq m 0#32) 1#32 m)) 0#32))
    (IntOp.addi (IntOp.remsi .vector r (Scalar.select (Scalar.cmpi .eq m 0#32) 1#32 m)) (Scalar.select (Scalar.cmpi .eq m 0#32) 1#32 m))
    (IntOp.remsi .vector r (Scalar.select (Scalar.cmpi .eq m 0#32) 1#32 m))

theorem pmod_two : ∀ r : Fin 256, pmod (BitVec.ofNat 32 r.val) 2#32 = BitVec.ofNat 32 (r.val % 2) := by decide +kernel

theorem pmod_four : ∀ r : Fin 256, pmod (BitVec.ofNat 32 r.val) 4#32 = BitVec.ofNat 32 (r.val % 4) := by decide +kernel

theorem ge_small : ∀ n : Fin 4, ∀ r : Fin 4,
    IntOp.cmpi .sge (BitVec.ofNat 32 r.val) (BitVec.ofNat 32 n.val) = if n.val ≤ r.val then 1#1 else 0#1 := by decide +kernel

theorem le_small : ∀ n : Fin 4, ∀ r : Fin 4,
    IntOp.cmpi .sle (BitVec.ofNat 32 r.val) (BitVec.ofNat 32 n.val) = if r.val ≤ n.val then 1#1 else 0#1 := by decide +kernel

theorem sel_ge' {α : Type} (n r : ℕ) (hn : n < 4) (hr : r < 4) (x y : α) :
    Scalar.select (IntOp.cmpi .sge (BitVec.ofNat 32 r) (BitVec.ofNat 32 n)) x y = if n ≤ r then x else y :=
  sel_of _ _ (ge_small ⟨n, hn⟩ ⟨r, hr⟩) x y

theorem sel_le' {α : Type} (n r : ℕ) (hn : n < 4) (hr : r < 4) (x y : α) :
    Scalar.select (IntOp.cmpi .sle (BitVec.ofNat 32 r) (BitVec.ofNat 32 n)) x y = if r ≤ n then x else y :=
  sel_of _ _ (le_small ⟨n, hn⟩ ⟨r, hr⟩) x y

theorem v48_apply (r x : Fin 256) : v48 I (ix2 r x) = BitVec.ofNat 32 r.val := by
  unfold v48
  pointwise

theorem v239_apply (r x : Fin 256) : v239 I (ix2 r x) = v25 I (ix2 r x) * Ideal.exp (v47 I (ix2 r x)
    + Scalar.select (IntOp.cmpi .sge (pmod (BitVec.ofNat 32 r.val) 2#32) 1#32)
      (v47 I (ix2 ⟨(r.val + 256 - 1) % 256, Nat.mod_lt _ (by omega)⟩ x)) 0) := by
  unfold v239
  pointwise [k0_pay34, k0_pay33]
  rw [v48_apply]
  rfl

theorem v242_apply (r x : Fin 256) : v242 I (ix2 r x) = v26 I (ix2 r x) * Ideal.exp
    (Scalar.select (IntOp.cmpi .sle (pmod (BitVec.ofNat 32 r.val) 2#32) 0#32)
      (v47 I (ix2 ⟨(r.val + 256 - 255) % 256, Nat.mod_lt _ (by omega)⟩ x)) 0) := by
  unfold v242
  pointwise [k0_pay35, k0_pay33]
  rw [v48_apply]
  rfl

theorem mod4_apply (r x : Fin 256) : Scalar.select (v289 I (ix2 r x)) (IntOp.addi (v280 I (ix2 r x)) (v278 I)) (v280 I (ix2 r x))
    = pmod (BitVec.ofNat 32 r.val) 4#32 := by
  unfold v289 v280
  pointwise [k0_pay42, k0_pay43]
  rw [v48_apply]
  rfl

theorem q2_apply (r x : Fin 256) : q2 I (ix2 r x) = v25 I (ix2 r x) * Ideal.exp (v47 I (ix2 r x)
    + Scalar.select (IntOp.cmpi .sge (pmod (BitVec.ofNat 32 r.val) 4#32) 1#32)
      (v47 I (ix2 ⟨(r.val + 256 - 1) % 256, Nat.mod_lt _ (by omega)⟩ x)) 0
    + Scalar.select (IntOp.cmpi .sge (pmod (BitVec.ofNat 32 r.val) 4#32) 2#32)
      (v47 I (ix2 ⟨(r.val + 256 - 2) % 256, Nat.mod_lt _ (by omega)⟩ x)) 0
    + Scalar.select (IntOp.cmpi .sge (pmod (BitVec.ofNat 32 r.val) 4#32) 3#32)
      (v47 I (ix2 ⟨(r.val + 256 - 3) % 256, Nat.mod_lt _ (by omega)⟩ x)) 0) := by
  unfold q2
  pointwise [k0_pay47]
  unfold v330
  pointwise [k0_pay46, k0_pay44]
  rw [mod4_apply]

theorem k2_apply (r x : Fin 256) : k2 I (ix2 r x) = v26 I (ix2 r x) * Ideal.exp
    (Scalar.select (IntOp.cmpi .sle (pmod (BitVec.ofNat 32 r.val) 4#32) 2#32)
      (v47 I (ix2 ⟨(r.val + 256 - 255) % 256, Nat.mod_lt _ (by omega)⟩ x)) 0
    + Scalar.select (IntOp.cmpi .sle (pmod (BitVec.ofNat 32 r.val) 4#32) 1#32)
      (v47 I (ix2 ⟨(r.val + 256 - 254) % 256, Nat.mod_lt _ (by omega)⟩ x)) 0
    + Scalar.select (IntOp.cmpi .sle (pmod (BitVec.ofNat 32 r.val) 4#32) 0#32)
      (v47 I (ix2 ⟨(r.val + 256 - 253) % 256, Nat.mod_lt _ (by omega)⟩ x)) 0) := by
  unfold k2
  pointwise [k0_pay48]
  unfold v329
  pointwise [k0_pay45, k0_pay44]
  rw [mod4_apply]

theorem v476_apply (r x : Fin 256) : v476 I (ix2 r x) = v25 I (ix2 r x) * Ideal.exp (v121 I (ix2 r x)
    - Scalar.select (IntOp.cmpi .sge (BitVec.ofNat 32 r.val) 8#32)
      (end3 I (ix2 ⟨(r.val + 256 - 8) % 256, Nat.mod_lt _ (by omega)⟩ x)) 0) := by
  unfold v476
  pointwise [k0_pay82]
  rw [v48_apply]
  rfl

theorem v479_apply (r x : Fin 256) : v479 I (ix2 r x) = v26 I (ix2 r x) * Ideal.exp (end3 I (ix2 r x) - v121 I (ix2 r x)) := by
  unfold v479
  pointwise [k0_pay83]
  rfl

theorem v572_apply (r x : Fin 256) : v572 I (ix2 r x) = v25 I (ix2 r x) * Ideal.exp (v121 I (ix2 r x)
    - Scalar.select (IntOp.cmpi .sge (BitVec.ofNat 32 r.val) 16#32)
      (end4 I (ix2 ⟨(r.val + 256 - 16) % 256, Nat.mod_lt _ (by omega)⟩ x)) 0) := by
  unfold v572
  pointwise [k0_pay106]
  rw [v48_apply]
  rfl

theorem v575_apply (r x : Fin 256) : v575 I (ix2 r x) = v26 I (ix2 r x) * Ideal.exp (end4 I (ix2 r x) - v121 I (ix2 r x)) := by
  unfold v575
  pointwise [k0_pay107]
  rfl

theorem q5_apply (r x : Fin 256) : q5 I (ix2 r x) = v25 I (ix2 r x) * Ideal.exp (v121 I (ix2 r x)
    - Scalar.select (IntOp.cmpi .sge (BitVec.ofNat 32 r.val) 32#32)
      (end5 I (ix2 ⟨(r.val + 256 - 32) % 256, Nat.mod_lt _ (by omega)⟩ x)) 0) := by
  unfold q5
  pointwise [k0_pay117]
  unfold v636 v637 v638
  pointwise [k0_pay114, k0_pay115, k0_pay116]
  rw [v48_apply]
  rfl

theorem k5_apply (r x : Fin 256) : k5 I (ix2 r x) = v26 I (ix2 r x) * Ideal.exp (end5 I (ix2 r x) - v121 I (ix2 r x)) := by
  unfold k5
  pointwise [k0_pay118]
  rfl

theorem v704_apply (r x : Fin 256) : v704 I (ix2 r x) = v25 I (ix2 r x) * Ideal.exp (v121 I (ix2 r x)
    - Scalar.select (IntOp.cmpi .sge (BitVec.ofNat 32 r.val) 64#32)
      (end6 I (ix2 ⟨(r.val + 256 - 64) % 256, Nat.mod_lt _ (by omega)⟩ x)) 0) := by
  unfold v704
  pointwise [k0_pay125]
  rw [v48_apply]
  rfl

theorem v707_apply (r x : Fin 256) : v707 I (ix2 r x) = v26 I (ix2 r x) * Ideal.exp (end6 I (ix2 r x) - v121 I (ix2 r x)) := by
  unfold v707
  pointwise [k0_pay126]
  rfl

theorem v758_apply (r x : Fin 256) : v758 I (ix2 r x) = v25 I (ix2 r x) * Ideal.exp (v121 I (ix2 r x)
    - Scalar.select (IntOp.cmpi .sge (BitVec.ofNat 32 r.val) 128#32)
      (end7 I (ix2 ⟨(r.val + 256 - 128) % 256, Nat.mod_lt _ (by omega)⟩ x)) 0) := by
  unfold v758
  pointwise [k0_pay134]
  rw [v48_apply]
  rfl

theorem v761_apply (r x : Fin 256) : v761 I (ix2 r x) = v26 I (ix2 r x) * Ideal.exp (end7 I (ix2 r x) - v121 I (ix2 r x)) := by
  unfold v761
  pointwise [k0_pay135]
  rfl

/-- What the tile's queries, keys and log-decays are, as real numbers. -/
structure RealTile (q k a : Fin 256 → ℕ → ℝ) : Prop where
  hq : ∀ r x : Fin 256, v25 I (ix2 r x) = ((q x r.val : ℝ) : EReal)
  hk : ∀ r x : Fin 256, v26 I (ix2 r x) = ((k x r.val : ℝ) : EReal)
  ha : ∀ r x : Fin 256, v47 I (ix2 r x) = ((a x r.val : ℝ) : EReal)

variable {I}

theorem sel_real (p : Prop) [Decidable p] (f : ℝ) (e : EReal) (h : p → e = (f : EReal)) :
    (if p then e else 0) = ((if p then f else 0 : ℝ) : EReal) := by
  split
  next hp => exact h hp
  next => rfl

theorem RealTile.up (H : RealTile I q k a) (n : ℕ) (hn : n ≤ 256) (r x : Fin 256) (h : n ≤ r.val) :
    v47 I (ix2 ⟨(r.val + 256 - n) % 256, Nat.mod_lt _ (by omega)⟩ x) = ((a x (r.val - n) : ℝ) : EReal) := by
  rw [rot_eq n hn r h, H.ha]

theorem RealTile.down (H : RealTile I q k a) (n : ℕ) (hn : n ≤ 256) (r x : Fin 256) (h : r.val + n < 256) :
    v47 I (ix2 ⟨(r.val + 256 - (256 - n)) % 256, Nat.mod_lt _ (by omega)⟩ x) = ((a x (r.val + n) : ℝ) : EReal) := by
  rw [show (⟨(r.val + 256 - (256 - n)) % 256, Nat.mod_lt _ (by omega)⟩ : Fin 256) = ⟨r.val + n, h⟩ from
    Fin.ext (by show (r.val + 256 - (256 - n)) % 256 = r.val + n; omega), H.ha]

theorem q0_real (H : RealTile I q k a) (r x : Fin 256) : q0 I (ix2 r x) = ((q x r.val * Real.exp (dq 1 (a x) r.val) : ℝ) : EReal) := by
  unfold q0
  pointwise [k0_pay24]
  rw [H.hq, H.ha, Ideal.exp_coe, ← EReal.coe_mul]
  congr 3
  unfold dq
  rw [psum_succ, Nat.div_one, one_mul, add_sub_cancel_left]

theorem k0_real (H : RealTile I q k a) (r x : Fin 256) : k0 I (ix2 r x) = ((k x r.val * Real.exp (dk 1 (a x) r.val) : ℝ) : EReal) := by
  unfold k0
  pointwise [k0_pay25]
  rw [H.hk, show (0 : EReal) = ((0 : ℝ) : EReal) from rfl, Ideal.exp_coe, ← EReal.coe_mul]
  congr 3
  unfold dk
  rw [Nat.div_one, one_mul, sub_self]

theorem q1_real (H : RealTile I q k a) (r x : Fin 256) : v239 I (ix2 r x) = ((q x r.val * Real.exp (dq 2 (a x) r.val) : ℝ) : EReal) := by
  have hm : r.val % 2 < 2 := Nat.mod_lt _ (by omega)
  rw [v239_apply, pmod_two, sel_ge' 1 _ (by omega) (by omega), sel_real _ _ _ (fun h => H.up 1 (by omega) r x (by omega)), H.hq, H.ha,
    ← EReal.coe_add, Ideal.exp_coe, ← EReal.coe_mul]
  congr 3
  unfold dq
  by_cases h : 1 ≤ r.val % 2
  · rw [if_pos h, show 2 * (r.val / 2) = r.val - 1 by omega]
    obtain ⟨n, hn⟩ : ∃ n, r.val = n + 1 := ⟨r.val - 1, by omega⟩
    rw [hn, Nat.add_sub_cancel, psum_succ, psum_succ]
    ring
  · rw [if_neg h, show 2 * (r.val / 2) = r.val by omega, psum_succ]
    ring

theorem k1_real (H : RealTile I q k a) (r x : Fin 256) : v242 I (ix2 r x) = ((k x r.val * Real.exp (dk 2 (a x) r.val) : ℝ) : EReal) := by
  have hm : r.val % 2 < 2 := Nat.mod_lt _ (by omega)
  rw [v242_apply, pmod_two, sel_le' 0 _ (by omega) (by omega), sel_real _ _ _ (fun h => H.down 1 (by omega) r x (by omega)), H.hk,
    Ideal.exp_coe, ← EReal.coe_mul]
  congr 3
  unfold dk
  by_cases h : r.val % 2 ≤ 0
  · rw [if_pos h, show 2 * (r.val / 2) + 2 = r.val + 1 + 1 by omega, psum_succ]
    ring
  · rw [if_neg h, show 2 * (r.val / 2) + 2 = r.val + 1 by omega]
    ring

theorem q2_real (H : RealTile I q k a) (r x : Fin 256) : q2 I (ix2 r x) = ((q x r.val * Real.exp (dq 4 (a x) r.val) : ℝ) : EReal) := by
  have hm : r.val % 4 < 4 := Nat.mod_lt _ (by omega)
  rw [q2_apply, pmod_four, sel_ge' 1 _ (by omega) hm, sel_ge' 2 _ (by omega) hm, sel_ge' 3 _ (by omega) hm,
    sel_real _ _ _ (fun h => H.up 1 (by omega) r x (by omega)), sel_real _ _ _ (fun h => H.up 2 (by omega) r x (by omega)),
    sel_real _ _ _ (fun h => H.up 3 (by omega) r x (by omega)), H.hq, H.ha,
    ← EReal.coe_add, ← EReal.coe_add, ← EReal.coe_add, Ideal.exp_coe, ← EReal.coe_mul]
  congr 3
  unfold dq
  obtain h | h | h | h : r.val % 4 = 0 ∨ r.val % 4 = 1 ∨ r.val % 4 = 2 ∨ r.val % 4 = 3 := by omega
  · rw [h, show 4 * (r.val / 4) = r.val by omega, psum_succ]; norm_num
  · obtain ⟨n, hn⟩ : ∃ n, r.val = n + 1 := ⟨r.val - 1, by omega⟩
    rw [h, show 4 * (r.val / 4) = n by omega, hn, psum_succ, psum_succ]; norm_num; ring
  · obtain ⟨n, hn⟩ : ∃ n, r.val = n + 2 := ⟨r.val - 2, by omega⟩
    rw [h, show 4 * (r.val / 4) = n by omega, hn, psum_succ, psum_succ, psum_succ]; norm_num; ring
  · obtain ⟨n, hn⟩ : ∃ n, r.val = n + 3 := ⟨r.val - 3, by omega⟩
    rw [h, show 4 * (r.val / 4) = n by omega, hn, psum_succ, psum_succ, psum_succ, psum_succ, show n + 3 - 2 = n + 1 from rfl]; norm_num; ring

theorem k2_real (H : RealTile I q k a) (r x : Fin 256) : k2 I (ix2 r x) = ((k x r.val * Real.exp (dk 4 (a x) r.val) : ℝ) : EReal) := by
  have hm : r.val % 4 < 4 := Nat.mod_lt _ (by omega)
  rw [k2_apply, pmod_four, sel_le' 2 _ (by omega) hm, sel_le' 1 _ (by omega) hm, sel_le' 0 _ (by omega) hm,
    sel_real _ _ _ (fun h => H.down 1 (by omega) r x (by omega)), sel_real _ _ _ (fun h => H.down 2 (by omega) r x (by omega)),
    sel_real _ _ _ (fun h => H.down 3 (by omega) r x (by omega)), H.hk,
    ← EReal.coe_add, ← EReal.coe_add, Ideal.exp_coe, ← EReal.coe_mul]
  congr 3
  unfold dk
  obtain h | h | h | h : r.val % 4 = 0 ∨ r.val % 4 = 1 ∨ r.val % 4 = 2 ∨ r.val % 4 = 3 := by omega
  · rw [h, show 4 * (r.val / 4) + 4 = r.val + 1 + 1 + 1 + 1 by omega, psum_succ, psum_succ, psum_succ]; norm_num; ring
  · rw [h, show 4 * (r.val / 4) + 4 = r.val + 1 + 1 + 1 by omega, psum_succ, psum_succ]; norm_num; ring
  · rw [h, show 4 * (r.val / 4) + 4 = r.val + 1 + 1 by omega, psum_succ]; norm_num
  · rw [h, show 4 * (r.val / 4) + 4 = r.val + 1 by omega]; norm_num

/-- Queries decayed from the end of the block before. -/
theorem qB_real (H : RealTile I q k a) (B : ℕ) (hB : 0 < B) (hB' : B < 129) (E : FVec Ideal S256x256 .f32) (r x : Fin 256)
    (hE : ∀ r x : Fin 256, E (ix2 r x) = ((psum (a x) (B * (r.val / B) + B) : ℝ) : EReal)) :
    v25 I (ix2 r x) * Ideal.exp (v121 I (ix2 r x) - Scalar.select (IntOp.cmpi .sge (BitVec.ofNat 32 r.val) (BitVec.ofNat 32 B))
      (E (ix2 ⟨(r.val + 256 - B) % 256, Nat.mod_lt _ (by omega)⟩ x)) 0) = ((q x r.val * Real.exp (dq B (a x) r.val) : ℝ) : EReal) := by
  rw [sel_ge B hB', sel_real _ (psum (a x) (B * (r.val / B))) _ (fun h => by
    rw [rot_eq B (by omega) r h, hE]
    congr 2
    show B * ((r.val - B) / B) + B = B * (r.val / B)
    obtain ⟨m, hm⟩ : ∃ m, r.val = m + B := ⟨r.val - B, by omega⟩
    rw [hm, Nat.add_sub_cancel, Nat.add_div_right _ hB]
    ring), v121_real I H.ha, H.hq, ← EReal.coe_sub, Ideal.exp_coe, ← EReal.coe_mul]
  congr 3
  unfold dq
  by_cases h : B ≤ r.val
  · rw [if_pos h]
  · rw [if_neg h, Nat.div_eq_of_lt (by omega), Nat.mul_zero, psum_zero]

/-- Keys decayed to the end of their block. -/
theorem kB_real (H : RealTile I q k a) (B : ℕ) (E : FVec Ideal S256x256 .f32) (r x : Fin 256)
    (hE : ∀ r x : Fin 256, E (ix2 r x) = ((psum (a x) (B * (r.val / B) + B) : ℝ) : EReal)) :
    v26 I (ix2 r x) * Ideal.exp (E (ix2 r x) - v121 I (ix2 r x)) = ((k x r.val * Real.exp (dk B (a x) r.val) : ℝ) : EReal) := by
  rw [hE, v121_real I H.ha, H.hk, ← EReal.coe_sub, Ideal.exp_coe, ← EReal.coe_mul]
  rfl

theorem end3_real (H : RealTile I q k a) (r x : Fin 256) : end3 I (ix2 r x) = ((psum (a x) (8 * (r.val / 8) + 8) : ℝ) : EReal) := by
  rw [end3_apply, v121_real I H.ha]

theorem q3_real (H : RealTile I q k a) (r x : Fin 256) : v476 I (ix2 r x) = ((q x r.val * Real.exp (dq 8 (a x) r.val) : ℝ) : EReal) := by
  rw [v476_apply]
  exact qB_real H 8 (by omega) (by omega) _ r x (end3_real H)

theorem k3_real (H : RealTile I q k a) (r x : Fin 256) : v479 I (ix2 r x) = ((k x r.val * Real.exp (dk 8 (a x) r.val) : ℝ) : EReal) := by
  rw [v479_apply]
  exact kB_real H 8 _ r x (end3_real H)

theorem end4_real (H : RealTile I q k a) (r x : Fin 256) : end4 I (ix2 r x) = ((psum (a x) (16 * (r.val / 16) + 16) : ℝ) : EReal) := by
  rw [end4_apply, v121_real I H.ha]

theorem q4_real (H : RealTile I q k a) (r x : Fin 256) : v572 I (ix2 r x) = ((q x r.val * Real.exp (dq 16 (a x) r.val) : ℝ) : EReal) := by
  rw [v572_apply]
  exact qB_real H 16 (by omega) (by omega) _ r x (end4_real H)

theorem k4_real (H : RealTile I q k a) (r x : Fin 256) : v575 I (ix2 r x) = ((k x r.val * Real.exp (dk 16 (a x) r.val) : ℝ) : EReal) := by
  rw [v575_apply]
  exact kB_real H 16 _ r x (end4_real H)

theorem end5_real (H : RealTile I q k a) (r x : Fin 256) : end5 I (ix2 r x) = ((psum (a x) (32 * (r.val / 32) + 32) : ℝ) : EReal) := by
  rw [end5_apply, v121_real I H.ha]

theorem q5_real (H : RealTile I q k a) (r x : Fin 256) : q5 I (ix2 r x) = ((q x r.val * Real.exp (dq 32 (a x) r.val) : ℝ) : EReal) := by
  rw [q5_apply]
  exact qB_real H 32 (by omega) (by omega) _ r x (end5_real H)

theorem k5_real (H : RealTile I q k a) (r x : Fin 256) : k5 I (ix2 r x) = ((k x r.val * Real.exp (dk 32 (a x) r.val) : ℝ) : EReal) := by
  rw [k5_apply]
  exact kB_real H 32 _ r x (end5_real H)

theorem end6_real (H : RealTile I q k a) (r x : Fin 256) : end6 I (ix2 r x) = ((psum (a x) (64 * (r.val / 64) + 64) : ℝ) : EReal) := by
  rw [end6_apply, v121_real I H.ha]

theorem q6_real (H : RealTile I q k a) (r x : Fin 256) : v704 I (ix2 r x) = ((q x r.val * Real.exp (dq 64 (a x) r.val) : ℝ) : EReal) := by
  rw [v704_apply]
  exact qB_real H 64 (by omega) (by omega) _ r x (end6_real H)

theorem k6_real (H : RealTile I q k a) (r x : Fin 256) : v707 I (ix2 r x) = ((k x r.val * Real.exp (dk 64 (a x) r.val) : ℝ) : EReal) := by
  rw [v707_apply]
  exact kB_real H 64 _ r x (end6_real H)

theorem end7_real (H : RealTile I q k a) (r x : Fin 256) : end7 I (ix2 r x) = ((psum (a x) (128 * (r.val / 128) + 128) : ℝ) : EReal) := by
  rw [end7_apply, v121_real I H.ha]

theorem q7_real (H : RealTile I q k a) (r x : Fin 256) : v758 I (ix2 r x) = ((q x r.val * Real.exp (dq 128 (a x) r.val) : ℝ) : EReal) := by
  rw [v758_apply]
  exact qB_real H 128 (by omega) (by omega) _ r x (end7_real H)

theorem k7_real (H : RealTile I q k a) (r x : Fin 256) : v761 I (ix2 r x) = ((k x r.val * Real.exp (dk 128 (a x) r.val) : ℝ) : EReal) := by
  rw [v761_apply]
  exact kB_real H 128 _ r x (end7_real H)

theorem q8_real (H : RealTile I q k a) (r x : Fin 256) : v796 I (ix2 r x) = ((q x r.val : ℝ) : EReal) := by
  unfold v796
  pointwise [k0_pay142]
  exact H.hq r x

theorem k8_real (H : RealTile I q k a) (r x : Fin 256) : v797 I (ix2 r x) = ((k x r.val : ℝ) : EReal) := by
  unfold v797
  pointwise [k0_pay143]
  exact H.hk r x
end Cert.Mix
end
end
-- ==== Proof.Mix.Heads.lean ====
module

public import proofs.«01_k».proof.Proof.Mix.Levels

/-! A tile's scores, outputs and new state, head by head, over real numbers. -/

@[expose] public section

set_option maxRecDepth 16384

noncomputable section

namespace Cert.Mix

open Cert.Kernel2Ideal Cert.Kernel2Ideal.Gen Idealize.ShloMosaic Idealize.ShloMosaic.TcCoe Idealize.SL.Sem

/-- How many of the powers of two from 2 to 128 a number reaches. -/
def reach (x : BitVec 32) : BitVec 32 :=
  IntOp.addi (IntOp.addi (IntOp.addi (IntOp.addi (IntOp.addi (IntOp.addi (IntOp.addi (0#32)
    (BitVec.setWidth 32 (IntOp.cmpi .sge x 2#32))) (BitVec.setWidth 32 (IntOp.cmpi .sge x 4#32)))
    (BitVec.setWidth 32 (IntOp.cmpi .sge x 8#32))) (BitVec.setWidth 32 (IntOp.cmpi .sge x 16#32)))
    (BitVec.setWidth 32 (IntOp.cmpi .sge x 32#32))) (BitVec.setWidth 32 (IntOp.cmpi .sge x 64#32)))
    (BitVec.setWidth 32 (IntOp.cmpi .sge x 128#32))

theorem reach_eq : ∀ x : Fin 256, reach (BitVec.ofNat 32 x.val) = BitVec.ofNat 32 (Nat.log2 x.val) := by decide +kernel

theorem log2_lt : ∀ x : Fin 256, Nat.log2 x.val < 8 := by decide +kernel

theorem split_all : ∀ t s : Fin 256, s.val < t.val →
    t.val / 2 ^ Nat.log2 (t.val ^^^ s.val) = s.val / 2 ^ Nat.log2 (t.val ^^^ s.val) + 1 := by decide +kernel

theorem xor_lt (t s : Fin 256) : t.val ^^^ s.val < 256 := Nat.xor_lt_two_pow (n := 8) t.isLt s.isLt

theorem sel_gt {α : Type} (t s : ℕ) (ht : t < 2 ^ 31) (hs : s < 2 ^ 31) (x y : α) :
    Scalar.select (IntOp.cmpi .sgt (BitVec.ofNat 32 t) (BitVec.ofNat 32 s)) x y = if s < t then x else y := by
  refine sel_of _ _ ?_ x y
  have e : (BitVec.ofNat 32 s).slt (BitVec.ofNat 32 t) = decide (s < t) := by
    rw [BitVec.slt_eq_decide]
    have h1 : (BitVec.ofNat 32 s).toInt = s := by
      rw [BitVec.toInt_eq_toNat_of_lt (by rw [BitVec.toNat_ofNat]; omega), BitVec.toNat_ofNat, Nat.mod_eq_of_lt (by omega)]
    have h2 : (BitVec.ofNat 32 t).toInt = t := by
      rw [BitVec.toInt_eq_toNat_of_lt (by rw [BitVec.toNat_ofNat]; omega), BitVec.toNat_ofNat, Nat.mod_eq_of_lt (by omega)]
    rw [h1, h2]
    simp
  show BitVec.ofBool ((BitVec.ofNat 32 s).slt (BitVec.ofNat 32 t)) = _
  rw [e]
  by_cases h : s < t <;> simp [h]

variable (I : TileIn)

theorem v162_apply (t s : Fin 256) : v162 I (ix2 t s) = if s.val < t.val then BitVec.ofNat 32 (Nat.log2 (t.val ^^^ s.val))
    else if s = t then 8#32 else 4294967295#32 := by
  have e : v162 I (ix2 t s) = Scalar.select (IntOp.cmpi .sgt (BitVec.ofNat 32 t.val) (BitVec.ofNat 32 s.val))
      (reach (IntOp.xori (BitVec.ofNat 32 t.val) (BitVec.ofNat 32 s.val)))
      (Scalar.select (IntOp.cmpi .eq (BitVec.ofNat 32 t.val) (BitVec.ofNat 32 s.val)) 8#32 4294967295#32) := by
    unfold v162
    pointwise [k0_pay20]
    rfl
  rw [e, sel_gt _ _ (by omega) (by omega), sel_eq]
  have hx : IntOp.xori (BitVec.ofNat 32 t.val) (BitVec.ofNat 32 s.val) = BitVec.ofNat 32 (t.val ^^^ s.val) := by
    apply BitVec.eq_of_toNat_eq
    have := xor_lt t s
    show ((BitVec.ofNat 32 t.val) ^^^ (BitVec.ofNat 32 s.val)).toNat = _
    rw [BitVec.toNat_xor, BitVec.toNat_ofNat, BitVec.toNat_ofNat, BitVec.toNat_ofNat, Nat.mod_eq_of_lt (by omega), Nat.mod_eq_of_lt (by omega),
      Nat.mod_eq_of_lt (by omega)]
  rw [hx, reach_eq ⟨_, xor_lt t s⟩]
  have he : (BitVec.ofNat 32 t.val = BitVec.ofNat 32 s.val) ↔ s = t := by
    constructor
    · intro h
      have := congrArg BitVec.toNat h
      rw [BitVec.toNat_ofNat, BitVec.toNat_ofNat, Nat.mod_eq_of_lt (by omega), Nat.mod_eq_of_lt (by omega)] at this
      exact Fin.ext this.symm
    · rintro rfl
      rfl
  simp only [he]

/-- The quotient rounded down, as the kernel computes it. -/
def headOf (x : BitVec 32) : BitVec 32 :=
  Scalar.select
    (IntOp.andi
      (IntOp.cmpi .ne
        (IntOp.subi (BitVec.setWidth 32 (IntOp.cmpi .sgt x 0#32)) (BitVec.setWidth 32 (IntOp.cmpi .slt x 0#32)))
        (Scalar.subi (Scalar.extui (Scalar.cmpi .sgt 64#32 0#32)) (Scalar.extui (Scalar.cmpi .slt 64#32 0#32))))
      (IntOp.cmpi .ne (IntOp.remsi .vector x 64#32) 0#32))
    (IntOp.subi (IntOp.divsi .vector x 64#32) 1#32) (IntOp.divsi .vector x 64#32)

theorem headOf_eq : ∀ x : Fin 256, headOf (BitVec.ofNat 32 x.val) = BitVec.ofNat 32 (x.val / 64) := by decide +kernel

theorem v73_apply (t x : Fin 256) : v73 I (ix2 t x) = BitVec.ofNat 32 (x.val / 64) := by
  rw [← headOf_eq]
  unfold v73
  pointwise [k0_pay13]
  rfl

theorem v870_apply (e : Fin 128) (x : Fin 256) : v870 I (ix2 e x) = BitVec.ofNat 32 (x.val / 64) := by
  rw [← headOf_eq]
  unfold v870
  pointwise [k0_pay155]
  unfold v846 v847 c64_i32_356
  pointwise [k0_pay154]
  rfl

theorem small_eq (a b : ℕ) (ha : a < 256) (hb : b < 256) : (BitVec.ofNat 32 a = BitVec.ofNat 32 b) ↔ a = b := by
  constructor
  · intro h
    have := congrArg BitVec.toNat h
    rwa [BitVec.toNat_ofNat, BitVec.toNat_ofNat, Nat.mod_eq_of_lt (by omega), Nat.mod_eq_of_lt (by omega)] at this
  · rintro rfl
    rfl

/-- One head's contribution of one level, over real numbers. -/
def lvl (B : ℕ) (q k a : Fin 256 → ℕ → ℝ) (h t s : ℕ) : ℝ :=
  ∑ x : Fin 256, if x.val / 64 = h then q x t * Real.exp (dq B (a x) t) * (k x s * Real.exp (dk B (a x) s)) else 0

/-- One head's score. -/
def sc (q k a : Fin 256 → ℕ → ℝ) (h t s : ℕ) : ℝ :=
  ∑ x : Fin 256, if x.val / 64 = h then q x t * k x s * Real.exp (psum (a x) (t + 1) - psum (a x) (s + 1)) else 0

theorem lvl_eq (B : ℕ) (q k a : Fin 256 → ℕ → ℝ) (h t s : ℕ) (e : t / B = s / B + 1) : lvl B q k a h t s = sc q k a h t s := by
  unfold lvl sc
  refine Finset.sum_congr rfl fun x _ => ?_
  split
  next =>
    rw [show psum (a x) (t + 1) - psum (a x) (s + 1) = dq B (a x) t + dk B (a x) s by
      unfold dq dk
      rw [e, Nat.mul_add, Nat.mul_one]
      ring, Real.exp_add]
    ring
  next => rfl

variable {I} {q k a : Fin 256 → ℕ → ℝ}

theorem levV_real (l h : ℕ) (hh : h < 4) (Q K : FVec Ideal S256x256 .bf16) (acc : FVec Ideal S256x256 .f32) (A : ℝ)
    (t s : Fin 256) (f g : Fin 256 → ℝ) (hQ : ∀ x, Q (ix2 t x) = ((f x : ℝ) : EReal)) (hK : ∀ x, K (ix2 s x) = ((g x : ℝ) : EReal))
    (hA : acc (ix2 t s) = (A : EReal)) :
    levV (BitVec.ofNat 32 l) (BitVec.ofNat 32 h) (v162 I) (v73 I) Q K acc (ix2 t s)
      = ((A + (if v162 I (ix2 t s) = BitVec.ofNat 32 l then ∑ x : Fin 256, (if x.val / 64 = h then f x * g x else 0) else 0) : ℝ) : EReal) := by
  rw [levV_apply, hA, sel_eq, EReal.coe_add, ← coe_ite_zero]
  congr 2
  rw [← coe_sum]
  refine Finset.sum_congr rfl fun x _ => ?_
  rw [hQ, hK, sel_eq, v73_apply, ← EReal.coe_mul]
  have : (BitVec.ofNat 32 (x.val / 64) = BitVec.ofNat 32 h) ↔ x.val / 64 = h := small_eq _ _ (by omega) (by omega)
  simp only [this]
  exact coe_ite_zero _ _

/-- One head's scores from its nine contributions. -/
def scoreV (I : TileIn) (h : BitVec 32) : FVec Ideal S256x256 .f32 :=
  levV 8#32 h (v162 I) (v73 I) (v796 I) (v797 I) (levV 7#32 h (v162 I) (v73 I) (v758 I) (v761 I)
    (levV 6#32 h (v162 I) (v73 I) (v704 I) (v707 I) (levV 5#32 h (v162 I) (v73 I) (q5 I) (k5 I)
    (levV 4#32 h (v162 I) (v73 I) (v572 I) (v575 I) (levV 3#32 h (v162 I) (v73 I) (v476 I) (v479 I)
    (levV 2#32 h (v162 I) (v73 I) (q2 I) (k2 I) (levV 1#32 h (v162 I) (v73 I) (v239 I) (v242 I)
    (levV 0#32 h (v162 I) (v73 I) (q0 I) (k0 I) (constant S256x256 .f32 0x00000000#32)))))))))

theorem scoreV_real (H : RealTile I q k a) (h : ℕ) (hh : h < 4) (t s : Fin 256) :
    scoreV I (BitVec.ofNat 32 h) (ix2 t s) = ((if s.val ≤ t.val then sc q k a h t s else 0 : ℝ) : EReal) := by
  have z : (constant S256x256 .f32 0x00000000#32 : FVec Ideal S256x256 .f32) (ix2 t s) = ((0 : ℝ) : EReal) := Ideal.ofBits_zero_f32
  have h0 := levV_real (I := I) 0 h hh _ _ _ _ t s _ _ (q0_real H t) (k0_real H s) z
  have h1 := levV_real (I := I) 1 h hh _ _ _ _ t s _ _ (q1_real H t) (k1_real H s) h0
  have h2 := levV_real (I := I) 2 h hh _ _ _ _ t s _ _ (q2_real H t) (k2_real H s) h1
  have h3 := levV_real (I := I) 3 h hh _ _ _ _ t s _ _ (q3_real H t) (k3_real H s) h2
  have h4 := levV_real (I := I) 4 h hh _ _ _ _ t s _ _ (q4_real H t) (k4_real H s) h3
  have h5 := levV_real (I := I) 5 h hh _ _ _ _ t s _ _ (q5_real H t) (k5_real H s) h4
  have h6 := levV_real (I := I) 6 h hh _ _ _ _ t s _ _ (q6_real H t) (k6_real H s) h5
  have h7 := levV_real (I := I) 7 h hh _ _ _ _ t s _ _ (q7_real H t) (k7_real H s) h6
  have h8 := levV_real (I := I) 8 h hh _ _ _ _ t s _ _ (q8_real H t) (k8_real H s) h7
  refine h8.trans (congrArg _ ?_)
  clear h0 h1 h2 h3 h4 h5 h6 h7 h8
  have L : ∀ B, (∑ x : Fin 256, if x.val / 64 = h then q x t * Real.exp (dq B (a x) t) * (k x s * Real.exp (dk B (a x) s)) else 0)
    = lvl B q k a h t s := fun _ => rfl
  simp only [L]
  rw [v162_apply]
  by_cases hlt : s.val < t.val
  · rw [if_pos hlt, if_pos hlt.le]
    have hl := log2_lt ⟨_, xor_lt t s⟩
    have hs := split_all t s hlt
    simp only at hl
    generalize Nat.log2 (t.val ^^^ s.val) = l at hl hs
    interval_cases l
    all_goals (simp only [show ∀ a b : ℕ, (BitVec.ofNat 32 a = BitVec.ofNat 32 b) ↔ (BitVec.ofNat 32 a).toNat = (BitVec.ofNat 32 b).toNat from fun a b => BitVec.toNat_inj.symm, BitVec.toNat_ofNat]; norm_num; exact lvl_eq _ _ _ _ _ _ _ (by simpa using hs))
  · rw [if_neg hlt]
    by_cases he : s = t
    · subst he
      rw [if_pos rfl, if_pos (le_refl _)]
      simp only [show ∀ a b : ℕ, (BitVec.ofNat 32 a = BitVec.ofNat 32 b) ↔ (BitVec.ofNat 32 a).toNat = (BitVec.ofNat 32 b).toNat from fun a b => BitVec.toNat_inj.symm, BitVec.toNat_ofNat]
      norm_num
      unfold sc
      refine Finset.sum_congr rfl fun x _ => ?_
      rw [sub_self, Real.exp_zero, mul_one]
    · have hn : ¬ s.val ≤ t.val := fun h => he (Fin.ext (by omega))
      rw [if_neg he, if_neg hn]
      simp only [show ∀ a b : ℕ, (BitVec.ofNat 32 a = BitVec.ofNat 32 b) ↔ (BitVec.ofNat 32 a).toNat = (BitVec.ofNat 32 b).toNat from fun a b => BitVec.toNat_inj.symm, BitVec.toNat_ofNat]
      norm_num

theorem v807_eq' : v807 I = scoreV I 0#32 := rfl
theorem v815_eq' : v815 I = scoreV I 1#32 := rfl
theorem v823_eq' : v823 I = scoreV I 2#32 := rfl
theorem v831_eq' : v831 I = scoreV I 3#32 := rfl

end Cert.Mix
end
end
-- ==== Proof.Mix.Outs.lean ====
module

public import proofs.«01_k».proof.Proof.Mix.Heads

/-! A tile's outputs and new state from its scores, the carried state and the values. -/

@[expose] public section

set_option maxRecDepth 16384

noncomputable section

namespace Cert.Mix

open Cert.Kernel2Ideal Cert.Kernel2Ideal.Gen Idealize.ShloMosaic Idealize.ShloMosaic.TcCoe Idealize.SL.Sem

/-- A tile whose values and carried state are real numbers too. -/
structure RealTileS (I : TileIn) (q k a : Fin 256 → ℕ → ℝ) (v : Fin 512 → ℕ → ℝ) (S : Fin 128 → Fin 256 → ℝ) : Prop where
  base : RealTile I q k a
  hv : ∀ (r : Fin 256) (j : Fin 512), v27 I (ix2 r j) = ((v j r : ℝ) : EReal)
  hS : ∀ (e : Fin 128) (x : Fin 256), I.st (ix2 e x) = ((S e x : ℝ) : EReal)

variable {I : TileIn} {q k a : Fin 256 → ℕ → ℝ} {v : Fin 512 → ℕ → ℝ} {S : Fin 128 → Fin 256 → ℝ}

theorem v832_real (H : RealTileS I q k a v S) (x : Fin 256) : v832 I (ix2 0 x) = ((psum (a x) 256 : ℝ) : EReal) := by
  show cumRow I 255 _ (ix2 0 x) = _
  rw [cumRow_apply I 255 _ (by decide), v121_real I H.base.ha]

theorem v835_real (H : RealTileS I q k a v S) (t x : Fin 256) :
    v835 I (ix2 t x) = ((q x t * Real.exp (psum (a x) (t + 1)) : ℝ) : EReal) := by
  have e : v835 I (ix2 t x) = v25 I (ix2 t x) * Ideal.exp (v121 I (ix2 t x)) := by
    unfold v835
    pointwise [k0_pay150]
  rw [e, H.base.hq, v121_real I H.base.ha, Ideal.exp_coe, ← EReal.coe_mul]

theorem v840_real (H : RealTileS I q k a v S) (s x : Fin 256) :
    v840 I (ix2 s x) = ((k x s * Real.exp (psum (a x) 256 - psum (a x) (s + 1)) : ℝ) : EReal) := by
  have e : v840 I (ix2 s x) = v26 I (ix2 s x) * Ideal.exp (v832 I (ix2 0 x) - v121 I (ix2 s x)) := by
    unfold v840
    pointwise [k0_pay151]
  rw [e, H.base.hk, v121_real I H.base.ha, v832_real H, ← EReal.coe_sub, Ideal.exp_coe, ← EReal.coe_mul]

theorem v842_real (H : RealTileS I q k a v S) (e : Fin 128) (x : Fin 256) : v842 I (ix2 e x) = ((S e x : ℝ) : EReal) := by
  have h : v842 I (ix2 e x) = I.st (ix2 e x) := by
    unfold v842 v841
    pointwise [k0_pay152]
  rw [h, H.hS]

theorem v845_real (H : RealTileS I q k a v S) (e : Fin 128) (x : Fin 256) :
    v845 I (ix2 e x) = ((S e x * Real.exp (psum (a x) 256) : ℝ) : EReal) := by
  have h : v845 I (ix2 e x) = I.st (ix2 e x) * Ideal.exp (v832 I (ix2 0 x)) := by
    unfold v845 v841
    pointwise [k0_pay153]
  rw [h, H.hS, v832_real H, Ideal.exp_coe, ← EReal.coe_mul]

/-- One head's output before its normalisation. -/
def headO (I : TileIn) (h : ℕ) (j : Fin 512) (t : Fin 256) (e : Fin 128) : EReal :=
  ∑ x : Fin 256, scoreV I (BitVec.ofNat 32 h) (ix2 t x) * v27 I (ix2 x j)
    + ∑ x : Fin 256, Scalar.select (IntOp.cmpi .eq (v73 I (ix2 t x)) (BitVec.ofNat 32 h)) (v835 I (ix2 t x) * v842 I (ix2 e x)) 0

theorem headO_real (H : RealTileS I q k a v S) (h : ℕ) (hh : h < 4) (j : Fin 512) (t : Fin 256) (e : Fin 128) :
    headO I h j t e = (((∑ s : Fin 256, (if s.val ≤ t.val then sc q k a h t s else 0) * v j s)
      + ∑ x : Fin 256, (if x.val / 64 = h then q x t * Real.exp (psum (a x) (t + 1)) * S e x else 0) : ℝ) : EReal) := by
  unfold headO
  rw [EReal.coe_add, ← coe_sum, ← coe_sum]
  congr 1
  · refine Finset.sum_congr rfl fun s _ => ?_
    rw [scoreV_real H.base h hh, H.hv, ← EReal.coe_mul]
  · refine Finset.sum_congr rfl fun x _ => ?_
    rw [v835_real H, v842_real H, sel_eq, v73_apply, ← EReal.coe_mul]
    have : (BitVec.ofNat 32 (x.val / 64) = BitVec.ofNat 32 h) ↔ x.val / 64 = h := small_eq _ _ (by omega) (by omega)
    simp only [this]
    exact coe_ite_zero _ _

theorem v882_apply (t : Fin 256) (e : Fin 128) : v882 I (ix2 t e) = headO I 0 ⟨e.val, by omega⟩ t e := by
  unfold v882
  pointwise [k0_pay158, k0_pay157]
  rfl

theorem v892_apply (t : Fin 256) (e : Fin 128) : v892 I (ix2 t e) = headO I 0 ⟨e.val, by omega⟩ t e * headO I 0 ⟨e.val, by omega⟩ t e := by
  unfold v892
  pointwise [k0_pay161, k0_pay158, k0_pay157]
  rfl

theorem v984_apply (t : Fin 256) (e : Fin 128) : v984 I (ix2 t e) = headO I 3 ⟨384 + e.val, by omega⟩ t e := by
  unfold v984
  pointwise [k0_pay172, k0_pay171]
  rfl

/-- One head's output normalised, scaled and gated. -/
def gated (o w g : Fin 128 → EReal) (e : Fin 128) : EReal :=
  o e * Ideal.rsqrt (Ideal.div (∑ x, o x * o x) (Ideal.ofBits .f32 0x43000000#32) + Ideal.ofBits .f32 0x358637BD#32) * w e
    * (g e * Ideal.logistic (g e))

theorem v872_apply (e : Fin 128) : v872 I (ix2 0 e) = I.x7 (ix2 0 e) := by
  unfold v872 v871
  pointwise [k0_pay156]

/-- A tile's gated output, one head. -/
def tileG (I : TileIn) (h : Fin 4) (t : Fin 256) (e : Fin 128) : EReal :=
  gated (fun e => headO I h ⟨128 * h.val + e.val, by omega⟩ t e) (fun e => I.x7 (ix2 0 e))
    (fun e => v28 I (ix2 t ⟨128 * h.val + e.val, by omega⟩)) e

theorem v906_apply (t : Fin 256) (e : Fin 128) : v906 I (ix2 t e) = tileG I 0 t e := by
  unfold v906 v891
  pointwise [k0_pay162, k0_pay160, v892_apply, v882_apply, v872_apply]
  simp only [tileG, gated, v872_apply, v882_apply, v892_apply, Fin.val_zero, Nat.mul_zero, Nat.zero_add]
theorem v940_apply (t : Fin 256) (e : Fin 128) : v940 I (ix2 t e) = tileG I 1 t e := by
  have h9 : v937 I (ix2 t e) = headO I 1 ⟨128 + e.val, by omega⟩ t e * Ideal.rsqrt (Ideal.div (∑ x : Fin 128, headO I 1 ⟨128 + x.val, by omega⟩ t x * headO I 1 ⟨128 + x.val, by omega⟩ t x) (Ideal.ofBits .f32 0x43000000#32) + Ideal.ofBits .f32 0x358637BD#32) * v872 I (ix2 0 e) := by
    unfold v937
    pointwise [k0_pay165, k0_pay164, k0_pay163]
    rfl
  unfold v940 v939
  pointwise [k0_pay167, k0_pay166]
  rw [h9, v872_apply]
  rfl
theorem v974_apply (t : Fin 256) (e : Fin 128) : v974 I (ix2 t e) = tileG I 2 t e := by
  have h9 : v974 I (ix2 t e) = headO I 2 ⟨256 + e.val, by omega⟩ t e * Ideal.rsqrt (Ideal.div (∑ x : Fin 128, headO I 2 ⟨256 + x.val, by omega⟩ t x * headO I 2 ⟨256 + x.val, by omega⟩ t x) (Ideal.ofBits .f32 0x43000000#32) + Ideal.ofBits .f32 0x358637BD#32) * v872 I (ix2 0 e)
      * (v28 I (ix2 t ⟨256 + e.val, by omega⟩) * Ideal.logistic (v28 I (ix2 t ⟨256 + e.val, by omega⟩))) := by
    unfold v974
    pointwise [k0_pay170, k0_pay168]
    rfl
  rw [h9, v872_apply]
  rfl
theorem v1008_apply (t : Fin 256) (e : Fin 128) : v1008 I (ix2 t e) = tileG I 3 t e := by
  have h9 : v1008 I (ix2 t e) = v984 I (ix2 t e) * Ideal.rsqrt (Ideal.div (∑ x : Fin 128, v984 I (ix2 t x) * v984 I (ix2 t x)) (Ideal.ofBits .f32 0x43000000#32) + Ideal.ofBits .f32 0x358637BD#32) * v872 I (ix2 0 e)
      * (v28 I (ix2 t ⟨384 + e.val, by omega⟩) * Ideal.logistic (v28 I (ix2 t ⟨384 + e.val, by omega⟩))) := by
    unfold v1008
    pointwise [k0_pay174, k0_pay172]
  rw [h9, v872_apply]
  simp only [v984_apply]
  rfl

end Cert.Mix
end
end
-- ==== Proof.Mix.Proj.lean ====
module

public import proofs.«01_k».proof.Proof.Mix.Chain
public import Idealize.ShloMosaic.Lib.Pointwise

/-! A tile's projections. -/

@[expose] public section

set_option maxRecDepth 16384

noncomputable section

namespace Cert.Mix

open Cert.Kernel2Ideal Cert.Kernel2Ideal.Gen Idealize.ShloMosaic Idealize.ShloMosaic.TcCoe Idealize.SL.Sem

variable (I : TileIn)

/-- A row's normalised elements. -/
def nrm (x g : Fin 1024 → EReal) (j : Fin 1024) : EReal :=
  x j * Ideal.rsqrt (Ideal.div (∑ k, x k * x k) (Ideal.ofBits .f32 0x44800000#32) + Ideal.ofBits .f32 0x358637BD#32) * g j

/-- Row `t` of a tile, normalised. -/
def hrow (t : Fin 256) : Fin 1024 → EReal := nrm (fun j => I.x0 (ix3 0 t j)) (fun j => I.x1 (ix2 0 j))

theorem v4_apply (t : Fin 256) (j : Fin 1024) : v4 I (ix2 t j) = I.x0 (ix3 0 t j) := by
  unfold v4 v3
  pointwise [k0_pay4]
theorem v19_apply (t : Fin 256) (j : Fin 1024) : v19 I (ix2 t j) = hrow I t j := by
  unfold v19 v3 v5
  pointwise [k0_pay5, k0_pay4]
  rfl
theorem v25_apply (t : Fin 256) (x : Fin 256) : v25 I (ix2 t x)
    = (∑ j, hrow I t j * I.x2 (ix2 j ⟨x.val, by omega⟩)) * Ideal.ofBits .f32 0x3E000000#32 := by
  unfold v25 v3 v5 v20
  pointwise [k0_pay7, k0_pay6, k0_pay5, k0_pay4]
  rfl
theorem v26_apply (t : Fin 256) (x : Fin 256) : v26 I (ix2 t x) = ∑ j, hrow I t j * I.x2 (ix2 j ⟨256 + x.val, by omega⟩) := by
  unfold v26 v3 v5 v20
  pointwise [k0_pay8, k0_pay6, k0_pay5, k0_pay4]
  rfl
theorem v27_apply (t : Fin 256) (x : Fin 512) : v27 I (ix2 t x) = ∑ j, hrow I t j * I.x2 (ix2 j ⟨512 + x.val, by omega⟩) := by
  unfold v27 v3 v5 v20
  pointwise [k0_pay9, k0_pay6, k0_pay5, k0_pay4]
  rfl
theorem v28_apply (t : Fin 256) (x : Fin 512) : v28 I (ix2 t x) = ∑ j, hrow I t j * I.x2 (ix2 j ⟨1024 + x.val, by omega⟩) := by
  unfold v28 v3 v5 v20
  pointwise [k0_pay10, k0_pay6, k0_pay5, k0_pay4]
  rfl
theorem v33_apply (t : Fin 256) (x : Fin 256) : v33 I (ix2 t x) = ∑ r : Fin 16, (∑ j, hrow I t j * I.x3 (ix2 j r)) * I.x5 (ix2 r x) := by
  unfold v33 v3 v5 v29 v32
  pointwise [k0_pay11, k0_pay5, k0_pay4]
  rfl
theorem v47_apply (t : Fin 256) (x : Fin 256) : v47 I (ix2 t x)
    = (min (v33 I (ix2 t x) + I.x6 (ix2 0 x)) 0
      - Ideal.log1p (Ideal.exp (0 - max (v33 I (ix2 t x) + I.x6 (ix2 0 x)) (-(v33 I (ix2 t x) + I.x6 (ix2 0 x)))))) * Ideal.ofBits .f32 0x3D800000#32 := by
  unfold v47 v34
  pointwise [k0_pay12]
  rfl
theorem v1015_apply (t : Fin 256) (x : Fin 512) : v1015 I (ix2 t x) = ∑ j, hrow I t j * I.x4 (ix2 j ⟨x.val, by omega⟩) := by
  unfold v1015 v1012
  pointwise [k0_pay177, k0_pay176, v19_apply]
theorem v1018_apply (t : Fin 256) (x : Fin 512) : v1018 I (ix2 t x)
    = (∑ j, hrow I t j * I.x4 (ix2 j ⟨512 + x.val, by omega⟩)) * (∑ j, hrow I t j * I.x4 (ix2 j ⟨1024 + x.val, by omega⟩)) := by
  unfold v1018 v1012
  pointwise [k0_pay178, k0_pay176, v19_apply]

end Cert.Mix
end
end
-- ==== Proof.Mix.OutsS.lean ====
module

public import proofs.«01_k».proof.Proof.Mix.Outs
public import proofs.«01_k».proof.Proof.Mix.Proj

/-! A tile's new state and its rows of the result. -/

@[expose] public section

set_option maxRecDepth 16384

noncomputable section

namespace Cert.Mix

open Cert.Kernel2Ideal Cert.Kernel2Ideal.Gen Idealize.ShloMosaic Idealize.ShloMosaic.TcCoe Idealize.SL.Sem

variable {I : TileIn} {q k a : Fin 256 → ℕ → ℝ} {v : Fin 512 → ℕ → ℝ} {S : Fin 128 → Fin 256 → ℝ}

/-- The new state, over real numbers. -/
theorem outS_real (H : RealTileS I q k a v S) (e : Fin 128) (x : Fin 256) :
    outS I (ix2 e x) = ((S e x * Real.exp (psum (a x) 256)
      + ∑ s : Fin 256, v ⟨128 * (x.val / 64) + e.val, by omega⟩ s * (k x s * Real.exp (psum (a x) 256 - psum (a x) (s + 1))) : ℝ) : EReal) := by
  have d : ∀ h, h < 4 → ((BitVec.ofNat 32 (x.val / 64) = BitVec.ofNat 32 h) ↔ x.val / 64 = h) := fun h hh => small_eq _ _ (by omega) (by omega)
  have t : ∀ (j : Fin 512), (∑ s : Fin 256, v27 I (ix2 s j) * v840 I (ix2 s x))
      = ((∑ s : Fin 256, v j s * (k x s * Real.exp (psum (a x) 256 - psum (a x) (s + 1))) : ℝ) : EReal) := fun j => by
    rw [← coe_sum]
    exact Finset.sum_congr rfl fun s _ => by rw [H.hv, v840_real H, ← EReal.coe_mul]
  have e0 : v890 I (ix2 e x) = v845 I (ix2 e x) + Scalar.select (IntOp.cmpi .eq (v870 I (ix2 e x)) (BitVec.ofNat 32 0))
      (∑ s : Fin 256, v27 I (ix2 s ⟨e.val, by omega⟩) * v840 I (ix2 s x)) 0 := by
    unfold v890
    pointwise [k0_pay159, k0_pay157]
    rfl
  have e1 : v924 I (ix2 e x) = v890 I (ix2 e x) + Scalar.select (IntOp.cmpi .eq (v870 I (ix2 e x)) (BitVec.ofNat 32 1))
      (∑ s : Fin 256, v27 I (ix2 s ⟨128 + e.val, by omega⟩) * v840 I (ix2 s x)) 0 := by
    unfold v924
    pointwise [k0_pay164, k0_pay163]
  have e2 : v958 I (ix2 e x) = v924 I (ix2 e x) + Scalar.select (IntOp.cmpi .eq (v870 I (ix2 e x)) (BitVec.ofNat 32 2))
      (∑ s : Fin 256, v27 I (ix2 s ⟨256 + e.val, by omega⟩) * v840 I (ix2 s x)) 0 := by
    unfold v958
    pointwise [k0_pay169, k0_pay168]
  have e3 : outS I (ix2 e x) = v958 I (ix2 e x) + Scalar.select (IntOp.cmpi .eq (v870 I (ix2 e x)) (BitVec.ofNat 32 3))
      (∑ s : Fin 256, v27 I (ix2 s ⟨384 + e.val, by omega⟩) * v840 I (ix2 s x)) 0 := by
    unfold outS v985
    pointwise [k0_pay175, k0_pay173, k0_pay171]
  rw [e3, e2, e1, e0, v845_real H, t, t, t, t, v870_apply, sel_eq, sel_eq, sel_eq, sel_eq]
  simp only [d 0 (by omega), d 1 (by omega), d 2 (by omega), d 3 (by omega)]
  have hx : x.val / 64 = 0 ∨ x.val / 64 = 1 ∨ x.val / 64 = 2 ∨ x.val / 64 = 3 := by omega
  rcases hx with hx | hx | hx | hx <;>
    (simp only [hx, ← EReal.coe_add, reduceIte, add_zero, Nat.reduceMul, Nat.zero_add, one_ne_zero, Nat.reduceEqDiff, OfNat.zero_ne_ofNat, OfNat.ofNat_ne_zero, OfNat.one_ne_ofNat, OfNat.ofNat_ne_one, zero_ne_one])

theorem v1027_apply (t : Fin 256) (j : Fin 512) : v1027 I (ix2 t j) = if t.val = 0 then I.c1 (ix2 0 j) else v1018 I (ix2 ⟨t.val - 1, by omega⟩ j) := by
  unfold v1027
  pointwise [k0_pay179]
  rw [sel_eq]
  by_cases h : t.val = 0
  · rw [if_pos (by rw [h]), if_pos h]
    rfl
  · rw [if_neg (fun e => h ((small_eq _ _ (by omega) (by omega)).1 e)), if_neg h]
    exact congrArg (fun z => v1018 I (ix2 z j)) (Fin.ext (by show (t.val + 256 - 1) % 256 = t.val - 1; omega))

/-- A tile's convolution branch. -/
def convI (I : TileIn) (t : Fin 256) (y : Fin 512) : EReal :=
  v1015 I (ix2 t y) * (I.x8 (ix2 0 y) * (if t.val = 0 then I.c0 (ix2 0 y) else if t.val = 1 then I.c1 (ix2 0 y) else v1018 I (ix2 ⟨t.val - 2, by omega⟩ y))
    + I.x8 (ix2 1 y) * (if t.val = 0 then I.c1 (ix2 0 y) else v1018 I (ix2 ⟨t.val - 1, by omega⟩ y))
    + I.x8 (ix2 2 y) * v1018 I (ix2 t y))

/-- A tile's two branches side by side. -/
def mixI (I : TileIn) (t : Fin 256) (x : Fin 1024) : EReal :=
  if h : x.val < 512 then tileG I ⟨x.val / 128, by omega⟩ t ⟨x.val % 128, by omega⟩ else convI I t ⟨x.val - 512, by omega⟩

theorem tileG_congr (t : Fin 256) {h h' : Fin 4} {e e' : Fin 128} (hh : h.val = h'.val) (he : e.val = e'.val) : tileG I h t e = tileG I h' t e' := by
  obtain rfl := Fin.ext hh
  obtain rfl := Fin.ext he
  rfl

theorem v1061_apply (t : Fin 256) (j : Fin 1024) : v1061 I (ix2 t j) = v4 I (ix2 t j) + ∑ x : Fin 1024, mixI I t x * I.x9 (ix2 x j) := by
  unfold v1061
  pointwise [k0_pay181]
  refine congrArg (v4 I (ix2 t j) + ·) (Finset.sum_congr rfl fun x _ => congrArg₂ (· * ·) ?_ rfl)
  unfold mixI
  have hx := x.isLt
  by_cases h1 : x.val < 128
  · rw [dif_pos h1, dif_pos (by omega), v906_apply]
    exact tileG_congr t (by show 0 = x.val / 128; omega) (by show x.val = x.val % 128; omega)
  rw [dif_neg h1]
  by_cases h2 : x.val - 128 < 128
  · rw [dif_pos h2, dif_pos (by omega), v940_apply]
    exact tileG_congr t (by show 1 = x.val / 128; omega) (by show x.val - 128 = x.val % 128; omega)
  rw [dif_neg h2]
  by_cases h3 : x.val - 128 - 128 < 128
  · rw [dif_pos h3, dif_pos (by omega), v974_apply]
    exact tileG_congr t (by show 2 = x.val / 128; omega) (by show x.val - 128 - 128 = x.val % 128; omega)
  rw [dif_neg h3]
  by_cases h4 : x.val - 128 - 128 - 128 < 128
  · rw [dif_pos h4, dif_pos (by omega), v1008_apply]
    exact tileG_congr t (by show 3 = x.val / 128; omega) (by show x.val - 128 - 128 - 128 = x.val % 128; omega)
  rw [dif_neg h4, dif_neg (by omega)]
  have e : ∀ p, (⟨x.val - 128 - 128 - 128 - 128, p⟩ : Fin 512) = ⟨x.val - 512, by omega⟩ := fun p => Fin.ext (by show x.val - 128 - 128 - 128 - 128 = x.val - 512; omega)
  rw [e]
  generalize (⟨x.val - 512, _⟩ : Fin 512) = y
  unfold convI
  have i19 : v1019 I (ix2 t y) = BitVec.ofNat 32 t.val := by
    unfold v1019
    pointwise
  rw [i19, sel_eq, sel_eq, v1027_apply]
  refine congrArg (v1015 I (ix2 t y) * ·) (congrArg₂ (· + ·) (congrArg₂ (· + ·) (congrArg (v1039 I (ix2 0 y) * ·) ?_) rfl) rfl)
  by_cases g0 : t.val = 0
  · rw [if_pos (by rw [g0]), if_pos g0]
    rfl
  rw [if_neg (fun e => g0 ((small_eq _ _ (by omega) (by omega)).1 e)), if_neg g0]
  by_cases g1 : t.val = 1
  · rw [if_pos (by rw [g1]), if_pos g1]
    rfl
  rw [if_neg (fun e => g1 ((small_eq _ _ (by omega) (by omega)).1 e)), if_neg g1]
  exact congrArg (fun z => v1018 I (ix2 z y)) (Fin.ext (by show (t.val + 256 - 2) % 256 = t.val - 2; omega))

theorem outX_apply (t : Fin 256) (j : Fin 1024) : outX I (ix3 0 t j) = v1061 I (ix2 t j) := by
  unfold outX v1061
  pointwise [k0_pay182, k0_pay181]

end Cert.Mix
end
end
-- ==== Proof.Mix.Model.lean ====
module

public import proofs.«01_k».proof.Proof.Mix.Outs
public import proofs.«01_k».proof.Proof.Mix.Proj
public import proofs.«01_k».proof.Proof.Mix.Recur

/-! The mixer's first result as a function of its arguments: one batch row at a time, by position. -/

@[expose] public section

set_option maxRecDepth 16384

noncomputable section

namespace Cert.Mix

open Idealize.ShloMosaic

/-- One batch row's arguments: the tokens by position, and the parameters. -/
structure Par where
  X : ℕ → Fin 1024 → EReal
  gm : Fin 1024 → EReal
  win : Fin 1024 → Fin 3088 → EReal
  wg : Fin 16 → Fin 256 → EReal
  bg : Fin 256 → EReal
  go : Fin 128 → EReal
  wc : Fin 3 → Fin 512 → EReal
  wo : Fin 1024 → Fin 1024 → EReal

/-- A real number, seen as an extended one. -/
def IsR (x : EReal) : Prop := ∃ r : ℝ, x = (r : EReal)

theorem IsR.eq {x : EReal} (h : IsR x) : x = ((x.toReal : ℝ) : EReal) := by
  obtain ⟨r, rfl⟩ := h
  rw [EReal.toReal_coe]
theorem IsR.add {x y : EReal} (hx : IsR x) (hy : IsR y) : IsR (x + y) := by
  obtain ⟨r, rfl⟩ := hx
  obtain ⟨s, rfl⟩ := hy
  exact ⟨r + s, (EReal.coe_add r s).symm⟩
theorem IsR.mul {x y : EReal} (hx : IsR x) (hy : IsR y) : IsR (x * y) := by
  obtain ⟨r, rfl⟩ := hx
  obtain ⟨s, rfl⟩ := hy
  exact ⟨r * s, (EReal.coe_mul r s).symm⟩
theorem IsR.sum {ι : Type} [Fintype ι] {f : ι → EReal} (h : ∀ i, IsR (f i)) : IsR (∑ i, f i) := by
  choose g hg using h
  exact ⟨∑ i, g i, by rw [← coe_sum]; exact Finset.sum_congr rfl fun i _ => hg i⟩

/-- The arguments the recurrence reads are real numbers. -/
structure Par.Real (P : Par) : Prop where
  X : ∀ T j, IsR (P.X T j)
  gm : ∀ j, IsR (P.gm j)
  win : ∀ j c, IsR (P.win j c)
  wg : ∀ r x, IsR (P.wg r x)
  bg : ∀ x, IsR (P.bg x)

variable (P : Par)

/-- One column of a token's projection. -/
def proj (T : ℕ) (c : Fin 3088) : EReal := ∑ j, nrm (P.X T) P.gm j * P.win j c

/-- The decay's argument. -/
def zv (T : ℕ) (x : Fin 256) : EReal := (∑ r : Fin 16, proj P T ⟨1536 + r.val, by omega⟩ * P.wg r x) + P.bg x

/-- A sixteenth of the logarithm of the sigmoid. -/
def lsg (z : EReal) : EReal := (min z 0 - Ideal.log1p (Ideal.exp (0 - max z (-z)))) * Ideal.ofBits .f32 0x3D800000#32

def qv (x : Fin 256) (T : ℕ) : EReal := proj P T ⟨x.val, by omega⟩ * Ideal.ofBits .f32 0x3E000000#32
def kv (x : Fin 256) (T : ℕ) : EReal := proj P T ⟨256 + x.val, by omega⟩
def vv (x : Fin 512) (T : ℕ) : EReal := proj P T ⟨512 + x.val, by omega⟩
def av (x : Fin 256) (T : ℕ) : EReal := lsg (zv P T x)

def qr (x : Fin 256) (T : ℕ) : ℝ := (qv P x T).toReal
def kr (x : Fin 256) (T : ℕ) : ℝ := (kv P x T).toReal
def vr (x : Fin 512) (T : ℕ) : ℝ := (vv P x T).toReal
def ar (x : Fin 256) (T : ℕ) : ℝ := (av P x T).toReal

/-- A head's output element. -/
def oR (h : Fin 4) (e : Fin 128) (T : ℕ) : ℝ :=
  outAt (fun (x : Fin 256) T => if x.val / 64 = h.val then qr P x T else 0) (kr P) (ar P) (vr P ⟨128 * h.val + e.val, by omega⟩) T

/-- The carried state's element. -/
def sR (e : Fin 128) (x : Fin 256) (n : ℕ) : ℝ := stateAt (kr P) (ar P) (vr P ⟨128 * (x.val / 64) + e.val, by omega⟩) n x

/-- The convolution's input, and its value `d` positions back. -/
def cuv (T : ℕ) (y : Fin 512) : EReal := proj P T ⟨2064 + y.val, by omega⟩ * proj P T ⟨2576 + y.val, by omega⟩
def cm (d T : ℕ) (y : Fin 512) : EReal := if d ≤ T then cuv P (T - d) y else 0

def conv (T : ℕ) (y : Fin 512) : EReal :=
  proj P T ⟨1552 + y.val, by omega⟩ * (P.wc 0 y * cm P 2 T y + P.wc 1 y * cm P 1 T y + P.wc 2 y * cuv P T y)

/-- The two branches side by side. -/
def mix (T : ℕ) (x : Fin 1024) : EReal :=
  if h : x.val < 512 then gated (fun e => ((oR P ⟨x.val / 128, by omega⟩ e T : ℝ) : EReal)) P.go
      (fun e => proj P T ⟨1024 + (128 * (x.val / 128) + e.val), by omega⟩) ⟨x.val % 128, by omega⟩
    else conv P T ⟨x.val - 512, by omega⟩

/-- The layer's first residual. -/
def x1 (T : ℕ) (j : Fin 1024) : EReal := P.X T j + ∑ x, mix P T x * P.wo x j

/-- The arguments of batch row `b` from the arrays. -/
def parOf (a0 : Fin 2 → Fin 8192 → Fin 1024 → EReal) (a1 : Fin 1024 → EReal) (a2 : Fin 1024 → Fin 3088 → EReal) (a3 : Fin 16 → Fin 256 → EReal)
    (a4 : Fin 256 → EReal) (a5 : Fin 128 → EReal) (a6 : Fin 3 → Fin 512 → EReal) (a7 : Fin 1024 → Fin 1024 → EReal) (b : Fin 2) : Par :=
  ⟨fun T j => if h : T < 8192 then a0 b ⟨T, h⟩ j else 0, a1, a2, a3, a4, a5, a6, a7⟩

theorem parOf_X {a0 : Fin 2 → Fin 8192 → Fin 1024 → EReal} {a1 : Fin 1024 → EReal} {a2 : Fin 1024 → Fin 3088 → EReal} {a3 : Fin 16 → Fin 256 → EReal}
    {a4 : Fin 256 → EReal} {a5 : Fin 128 → EReal} {a6 : Fin 3 → Fin 512 → EReal} {a7 : Fin 1024 → Fin 1024 → EReal} {b : Fin 2} {T : ℕ} {j : Fin 1024} (h : T < 8192) :
    (parOf a0 a1 a2 a3 a4 a5 a6 a7 b).X T j = a0 b ⟨T, h⟩ j := dif_pos h

theorem parOf_real (a0 : Fin 2 → Fin 8192 → Fin 1024 → EReal) (a1 : Fin 1024 → EReal) (a2 : Fin 1024 → Fin 3088 → EReal) (a3 : Fin 16 → Fin 256 → EReal)
    (a4 : Fin 256 → EReal) (a5 : Fin 128 → EReal) (a6 : Fin 3 → Fin 512 → EReal) (a7 : Fin 1024 → Fin 1024 → EReal) (b : Fin 2)
    (h0 : ∀ b T j, IsR (a0 b T j)) (h1 : ∀ j, IsR (a1 j)) (h2 : ∀ j c, IsR (a2 j c)) (h3 : ∀ r x, IsR (a3 r x)) (h4 : ∀ x, IsR (a4 x)) :
    (parOf a0 a1 a2 a3 a4 a5 a6 a7 b).Real where
  X T j := by
    show IsR (if h : T < 8192 then a0 b ⟨T, h⟩ j else 0)
    split
    · exact h0 _ _ _
    · exact ⟨0, EReal.coe_zero.symm⟩
  gm := h1
  win := h2
  wg := h3
  bg := h4

theorem ofBits_1024 : Ideal.ofBits .f32 0x44800000#32 = ((1024 : ℝ) : EReal) := by
  simp [Ideal.ofBits, Ideal.ieee]
  rw [← EReal.coe_mul]
  norm_num
theorem ofBits_eps : ∃ r : ℝ, 0 < r ∧ Ideal.ofBits .f32 0x358637BD#32 = (r : EReal) := by
  refine ⟨_, ?_, by simp [Ideal.ofBits, Ideal.ieee]; rfl⟩
  positivity
theorem ofBits_eighth : Ideal.ofBits .f32 0x3E000000#32 = ((1 / 8 : ℝ) : EReal) := by
  simp [Ideal.ofBits, Ideal.ieee]
  rw [← EReal.coe_mul]
  norm_num
theorem ofBits_sixteenth : Ideal.ofBits .f32 0x3D800000#32 = ((1 / 16 : ℝ) : EReal) := by
  simp [Ideal.ofBits, Ideal.ieee]
  rw [← EReal.coe_mul]
  norm_num

theorem nrm_real {x g : Fin 1024 → EReal} (hx : ∀ j, IsR (x j)) (hg : ∀ j, IsR (g j)) (j : Fin 1024) : IsR (nrm x g j) := by
  unfold nrm
  refine ((hx j).mul ?_).mul (hg j)
  choose y hy using hx
  obtain ⟨e, he, hb⟩ := ofBits_eps
  have hs : (∑ k, x k * x k) = ((∑ k, y k * y k : ℝ) : EReal) := by
    rw [← coe_sum]
    exact Finset.sum_congr rfl fun k _ => by rw [hy k, EReal.coe_mul]
  have hp : 0 < (∑ k, y k * y k) * (1 / 1024) + e := by
    have : 0 ≤ ∑ k, y k * y k := Finset.sum_nonneg fun k _ => mul_self_nonneg (y k)
    positivity
  rw [hs, hb, ofBits_1024, Ideal.div_coe (by norm_num), ← EReal.coe_mul, ← EReal.coe_add, Ideal.rsqrt_coe, if_neg (not_lt.2 hp.le), if_neg hp.ne']
  exact ⟨_, rfl⟩

theorem proj_real (H : P.Real) (T : ℕ) (c : Fin 3088) : IsR (proj P T c) :=
  IsR.sum fun j => (nrm_real (H.X T) H.gm j).mul (H.win j c)

theorem zv_real (H : P.Real) (T : ℕ) (x : Fin 256) : IsR (zv P T x) :=
  (IsR.sum fun r => (proj_real P H T _).mul (H.wg r x)).add (H.bg x)

/-- The softplus term of the logarithm of the sigmoid. -/
theorem soft_real (r : ℝ) : Ideal.log1p (Ideal.exp (-((max r (-r) : ℝ) : EReal))) = ((Real.log (1 + Real.exp (-max r (-r))) : ℝ) : EReal) := by
  rw [← EReal.coe_neg, Ideal.exp_coe]
  unfold Ideal.log1p
  rw [← EReal.coe_one, ← EReal.coe_add, Ideal.log_coe, if_neg]
  have := Real.exp_pos (-max r (-r))
  exact not_le.2 (by positivity)

theorem lsg_real (r : ℝ) : lsg (r : EReal) = (((min r 0 - Real.log (1 + Real.exp (-max r (-r)))) * (1 / 16) : ℝ) : EReal) := by
  unfold lsg
  have e : max (r : EReal) (-(r : EReal)) = ((max r (-r) : ℝ) : EReal) := by
    rw [← EReal.coe_neg]
    exact (Monotone.map_max EReal.coe_strictMono.monotone).symm
  have e' : min (r : EReal) 0 = ((min r 0 : ℝ) : EReal) := by
    rw [← EReal.coe_zero]
    exact (Monotone.map_min EReal.coe_strictMono.monotone).symm
  rw [e, e', zero_sub, soft_real, ofBits_sixteenth, ← EReal.coe_sub, ← EReal.coe_mul]

/-- The other way of writing it. -/
theorem lsg_neg (r : ℝ) : Ideal.div (-(max (-(r : EReal)) 0 + Ideal.log1p (Ideal.exp (-(max (-(r : EReal)) (-(-(r : EReal)))))))) ((16 : ℝ) : EReal) = lsg (r : EReal) := by
  rw [lsg_real]
  have e : max (-(r : EReal)) (-(-(r : EReal))) = ((max r (-r) : ℝ) : EReal) := by
    rw [neg_neg, max_comm, ← EReal.coe_neg]
    exact (Monotone.map_max EReal.coe_strictMono.monotone).symm
  have e' : max (-(r : EReal)) 0 = ((max (-r) 0 : ℝ) : EReal) := by
    rw [← EReal.coe_zero, ← EReal.coe_neg]
    exact (Monotone.map_max EReal.coe_strictMono.monotone).symm
  have e2 : min r 0 = -max (-r) 0 := by
    rcases le_total r 0 with h | h
    · rw [min_eq_left h, max_eq_left (by linarith), neg_neg]
    · rw [min_eq_right h, max_eq_right (by linarith), neg_zero]
  rw [e, e', soft_real, Ideal.div_coe (by norm_num), ← EReal.coe_add, ← EReal.coe_neg, ← EReal.coe_mul, e2]
  congr 1
  ring

theorem qv_eq (H : P.Real) (x : Fin 256) (T : ℕ) : qv P x T = ((qr P x T : ℝ) : EReal) :=
  IsR.eq ((proj_real P H T _).mul ⟨_, ofBits_eighth⟩)
theorem kv_eq (H : P.Real) (x : Fin 256) (T : ℕ) : kv P x T = ((kr P x T : ℝ) : EReal) := IsR.eq (proj_real P H T _)
theorem vv_eq (H : P.Real) (x : Fin 512) (T : ℕ) : vv P x T = ((vr P x T : ℝ) : EReal) := IsR.eq (proj_real P H T _)
theorem av_eq (H : P.Real) (x : Fin 256) (T : ℕ) : av P x T = ((ar P x T : ℝ) : EReal) := by
  refine IsR.eq ?_
  obtain ⟨r, hr⟩ := zv_real P H T x
  unfold av
  rw [hr, lsg_real]
  exact ⟨_, rfl⟩

/-- A sum over all columns that keeps one head's is a sum over that head's. -/
theorem sum_head (h : Fin 4) (f : Fin 256 → ℝ) : (∑ x : Fin 256, if x.val / 64 = h.val then f x else 0) = ∑ d : Fin 64, f ⟨64 * h.val + d.val, by omega⟩ := by
  rw [← Finset.sum_filter]
  refine Finset.sum_nbij' (fun x => ⟨x.val % 64, by omega⟩) (fun d => ⟨64 * h.val + d.val, by omega⟩) ?_ ?_ ?_ ?_ ?_
  · intro x _
    exact Finset.mem_univ _
  · intro d _
    simp only [Finset.mem_filter, Finset.mem_univ, true_and]
    omega
  · intro x hx
    simp only [Finset.mem_filter, Finset.mem_univ, true_and] at hx
    exact Fin.ext (by show 64 * h.val + x.val % 64 = x.val; omega)
  · intro d _
    exact Fin.ext (by show (64 * h.val + d.val) % 64 = d.val; omega)
  · intro x hx
    simp only [Finset.mem_filter, Finset.mem_univ, true_and] at hx
    exact congrArg f (Fin.ext (by show x.val = 64 * h.val + x.val % 64; omega))

/-- A head's output from its own columns alone. -/
theorem oR_head (h : Fin 4) (e : Fin 128) (T : ℕ) : oR P h e T
    = outAt (fun (d : Fin 64) => qr P ⟨64 * h.val + d.val, by omega⟩) (fun d => kr P ⟨64 * h.val + d.val, by omega⟩) (fun d => ar P ⟨64 * h.val + d.val, by omega⟩)
      (vr P ⟨128 * h.val + e.val, by omega⟩) T := by
  unfold oR outAt
  refine Finset.sum_congr rfl fun s _ => congrArg (· * _) ?_
  unfold score
  rw [← sum_head h (fun x => qr P x T * kr P x s * Real.exp (psum (ar P x) (T + 1) - psum (ar P x) (s + 1)))]
  refine Finset.sum_congr rfl fun x _ => ?_
  by_cases hx : x.val / 64 = h.val
  · simp only [if_pos hx]
  · simp only [if_neg hx, zero_mul]

end Cert.Mix
end
end
-- ==== Proof.Mix.Step.lean ====
module

public import proofs.«01_k».proof.Proof.Mix.OutsS
public import proofs.«01_k».proof.Proof.Mix.Model

/-! One tile: from the arguments' elements and the recurrence's state to its rows of the result and the next state. -/

@[expose] public section

set_option maxRecDepth 16384

noncomputable section

namespace Cert.Mix

open Cert.Kernel2Ideal Cert.Kernel2Ideal.Gen Idealize.ShloMosaic Idealize.ShloMosaic.TcCoe Idealize.SL.Sem

variable {P : Par} {i : ℕ} {I : TileIn}

/-- A tile's inputs are the arguments' elements, and what it carries in is the recurrence's state and the two rows before it. -/
structure IsTile (P : Par) (i : ℕ) (I : TileIn) : Prop where
  x0 : ∀ (r : Fin 256) (j : Fin 1024), I.x0 (ix3 0 r j) = P.X (256 * i + r.val) j
  x1 : ∀ j : Fin 1024, I.x1 (ix2 0 j) = P.gm j
  x2 : ∀ (j : Fin 1024) (x : Fin 1536), I.x2 (ix2 j x) = P.win j ⟨x.val, by omega⟩
  x3 : ∀ (j : Fin 1024) (x : Fin 16), I.x3 (ix2 j x) = P.win j ⟨1536 + x.val, by omega⟩
  x4 : ∀ (j : Fin 1024) (x : Fin 1536), I.x4 (ix2 j x) = P.win j ⟨1552 + x.val, by omega⟩
  x5 : ∀ (r : Fin 16) (x : Fin 256), I.x5 (ix2 r x) = P.wg r x
  x6 : ∀ x : Fin 256, I.x6 (ix2 0 x) = P.bg x
  x7 : ∀ e : Fin 128, I.x7 (ix2 0 e) = P.go e
  x8 : ∀ (d : Fin 3) (y : Fin 512), I.x8 (ix2 d y) = P.wc d y
  x9 : ∀ x j : Fin 1024, I.x9 (ix2 x j) = P.wo x j
  st : ∀ (e : Fin 128) (x : Fin 256), I.st (ix2 e x) = ((sR P e x (256 * i) : ℝ) : EReal)
  c0 : ∀ y : Fin 512, I.c0 (ix2 0 y) = cm P 2 (256 * i) y
  c1 : ∀ y : Fin 512, I.c1 (ix2 0 y) = cm P 1 (256 * i) y

theorem hrow_eq (H : IsTile P i I) (t : Fin 256) : hrow I t = nrm (P.X (256 * i + t.val)) P.gm := by
  unfold hrow
  rw [show (fun j => I.x0 (ix3 0 t j)) = P.X (256 * i + t.val) from funext fun j => H.x0 t j, show (fun j => I.x1 (ix2 0 j)) = P.gm from funext fun j => H.x1 j]

theorem v28_eq (H : IsTile P i I) (t : Fin 256) (x : Fin 512) : v28 I (ix2 t x) = proj P (256 * i + t.val) ⟨1024 + x.val, by omega⟩ := by
  rw [v28_apply, hrow_eq H]
  exact Finset.sum_congr rfl fun j _ => by rw [H.x2]
theorem v1015_eq (H : IsTile P i I) (t : Fin 256) (x : Fin 512) : v1015 I (ix2 t x) = proj P (256 * i + t.val) ⟨1552 + x.val, by omega⟩ := by
  rw [v1015_apply, hrow_eq H]
  exact Finset.sum_congr rfl fun j _ => by rw [H.x4]
theorem v1018_eq (H : IsTile P i I) (t : Fin 256) (x : Fin 512) : v1018 I (ix2 t x) = cuv P (256 * i + t.val) x := by
  rw [v1018_apply, hrow_eq H]
  unfold cuv proj
  refine congrArg₂ (· * ·) (Finset.sum_congr rfl fun j _ => ?_) (Finset.sum_congr rfl fun j _ => ?_)
  · rw [H.x4]
    exact congrArg (_ * P.win j ·) (Fin.ext (by show 1552 + (512 + x.val) = 2064 + x.val; omega))
  · rw [H.x4]
    exact congrArg (_ * P.win j ·) (Fin.ext (by show 1552 + (1024 + x.val) = 2576 + x.val; omega))
theorem v25_eq (H : IsTile P i I) (t x : Fin 256) : v25 I (ix2 t x) = qv P x (256 * i + t.val) := by
  rw [v25_apply, hrow_eq H]
  exact congrArg (· * _) (Finset.sum_congr rfl fun j _ => by rw [H.x2])
theorem v26_eq (H : IsTile P i I) (t x : Fin 256) : v26 I (ix2 t x) = kv P x (256 * i + t.val) := by
  rw [v26_apply, hrow_eq H]
  unfold kv proj
  exact Finset.sum_congr rfl fun j _ => by rw [H.x2]
theorem v27_eq (H : IsTile P i I) (t : Fin 256) (x : Fin 512) : v27 I (ix2 t x) = vv P x (256 * i + t.val) := by
  rw [v27_apply, hrow_eq H]
  unfold vv proj
  exact Finset.sum_congr rfl fun j _ => by rw [H.x2]
theorem v47_eq (H : IsTile P i I) (t x : Fin 256) : v47 I (ix2 t x) = av P x (256 * i + t.val) := by
  have e : v33 I (ix2 t x) + I.x6 (ix2 0 x) = zv P (256 * i + t.val) x := by
    rw [v33_apply, hrow_eq H, H.x6]
    refine congrArg (· + _) (Finset.sum_congr rfl fun r _ => ?_)
    rw [H.x5]
    exact congrArg (· * _) (Finset.sum_congr rfl fun j _ => by rw [H.x3])
  rw [v47_apply, e]
  rfl

/-- The tile's own sequences. -/
theorem isTile_real (R : P.Real) (H : IsTile P i I) : RealTileS I (fun x => from' (256 * i) (qr P x)) (fun x => from' (256 * i) (kr P x)) (fun x => from' (256 * i) (ar P x))
    (fun y => from' (256 * i) (vr P y)) (fun e x => sR P e x (256 * i)) where
  base := ⟨fun r x => by rw [v25_eq H, qv_eq P R]; rfl, fun r x => by rw [v26_eq H, kv_eq P R]; rfl, fun r x => by rw [v47_eq H, av_eq P R]; rfl⟩
  hv r j := by rw [v27_eq H, vv_eq P R]; rfl
  hS e x := H.st e x

theorem head_eq (R : P.Real) (H : IsTile P i I) (h : Fin 4) (t : Fin 256) (e : Fin 128) :
    headO I h.val ⟨128 * h.val + e.val, by omega⟩ t e = ((oR P h e (256 * i + t.val) : ℝ) : EReal) := by
  rw [headO_real (isTile_real R H) h.val h.isLt]
  refine congrArg _ ?_
  unfold oR
  rw [outAt_block _ _ _ _ (256 * i) 256 t, add_comm]
  refine congrArg₂ (· + ·) (Finset.sum_congr rfl fun x _ => ?_) (Finset.sum_congr rfl fun s _ => ?_)
  · by_cases hx : x.val / 64 = h.val
    · simp only [from', if_pos hx]
      refine congrArg₂ (· * ·) rfl ?_
      unfold sR
      exact congrArg (fun z => stateAt (kr P) (ar P) (vr P z) (256 * i) x) (Fin.ext (by show 128 * (x.val / 64) + e.val = 128 * h.val + e.val; rw [hx]))
    · simp only [from', if_neg hx, zero_mul]
  · refine congrArg (· * _) ?_
    split
    · unfold sc score
      refine Finset.sum_congr rfl fun x _ => ?_
      by_cases hx : x.val / 64 = h.val
      · simp only [from', if_pos hx]
      · simp only [from', if_neg hx, zero_mul]
    · rfl

theorem outS_eq (R : P.Real) (H : IsTile P i I) (e : Fin 128) (x : Fin 256) : outS I (ix2 e x) = ((sR P e x (256 * (i + 1)) : ℝ) : EReal) := by
  rw [outS_real (isTile_real R H)]
  refine congrArg _ ?_
  unfold sR
  rw [show 256 * (i + 1) = 256 * i + 256 by ring, stateAt_block _ _ _ (256 * i) 256 x, mul_comm]
  refine congrArg₂ (· + ·) rfl (Finset.sum_congr rfl fun s _ => ?_)
  rw [mul_comm]

theorem conv_eq (H : IsTile P i I) (t : Fin 256) (y : Fin 512) : convI I t y = conv P (256 * i + t.val) y := by
  unfold convI conv
  have ht := t.isLt
  have e1 : (if t.val = 0 then I.c1 (ix2 0 y) else v1018 I (ix2 ⟨t.val - 1, by omega⟩ y)) = cm P 1 (256 * i + t.val) y := by
    split
    · next h => rw [H.c1, h, Nat.add_zero]
    · next h =>
      rw [v1018_eq H]
      unfold cm
      rw [if_pos (by omega)]
      exact congrArg (cuv P · y) (by show 256 * i + (t.val - 1) = 256 * i + t.val - 1; omega)
  have e2 : (if t.val = 0 then I.c0 (ix2 0 y) else if t.val = 1 then I.c1 (ix2 0 y) else v1018 I (ix2 ⟨t.val - 2, by omega⟩ y)) = cm P 2 (256 * i + t.val) y := by
    split
    · next h => rw [H.c0, h, Nat.add_zero]
    · split
      · next h =>
        rw [H.c1, h]
        unfold cm
        by_cases g : 1 ≤ 256 * i
        · rw [if_pos g, if_pos (by omega)]
          exact congrArg (cuv P · y) (by omega)
        · rw [if_neg g, if_neg (by omega)]
      · next h =>
        rw [v1018_eq H]
        unfold cm
        rw [if_pos (by omega)]
        exact congrArg (cuv P · y) (by show 256 * i + (t.val - 2) = 256 * i + t.val - 2; omega)
  rw [e1, e2, v1015_eq H, v1018_eq H, H.x8, H.x8, H.x8]

theorem outX_eq (R : P.Real) (H : IsTile P i I) (t : Fin 256) (j : Fin 1024) : outX I (ix3 0 t j) = Mix.x1 P (256 * i + t.val) j := by
  rw [outX_apply, v1061_apply, v4_apply, H.x0]
  refine congrArg (_ + ·) (Finset.sum_congr rfl fun x _ => ?_)
  rw [H.x9]
  refine congrArg (· * _) ?_
  unfold mixI mix
  by_cases h : x.val < 512
  · rw [dif_pos h, dif_pos h]
    unfold tileG
    have e1 : (fun e => headO I (⟨x.val / 128, by omega⟩ : Fin 4).val ⟨128 * (⟨x.val / 128, by omega⟩ : Fin 4).val + e.val, by omega⟩ t e)
      = fun e : Fin 128 => ((oR P ⟨x.val / 128, by omega⟩ e (256 * i + t.val) : ℝ) : EReal) := funext fun e => head_eq R H _ t e
    have e2 : (fun e : Fin 128 => I.x7 (ix2 0 e)) = P.go := funext fun e => H.x7 e
    have e3 : (fun e : Fin 128 => v28 I (ix2 t ⟨128 * (⟨x.val / 128, by omega⟩ : Fin 4).val + e.val, by omega⟩))
      = fun e => proj P (256 * i + t.val) ⟨1024 + (128 * (x.val / 128) + e.val), by omega⟩ := funext fun e => v28_eq H t _
    rw [e1, e2, e3]
  · rw [dif_neg h, dif_neg h]
    exact conv_eq H t _

/-- The two rows a tile leaves for the next. -/
theorem carry_eq (H : IsTile P i I) (d : ℕ) (hd : d = 1 ∨ d = 2) (y : Fin 512) :
    v1018 I (ix2 ⟨256 - d, by omega⟩ y) = cm P d (256 * (i + 1)) y := by
  rw [v1018_eq H]
  unfold cm
  rw [if_pos (by omega)]
  exact congrArg (cuv P · y) (by show 256 * i + (256 - d) = 256 * (i + 1) - d; omega)

end Cert.Mix
end
end
-- ==== Proof.Mix.Tiles.lean ====
module

public import proofs.«01_k».proof.Proof.Mix.Scores
public import Idealize.ShloMosaic.Lib.WritesUnit
public import Idealize.ShloMosaic.Lib.Pipeline.ReadBack
public import Idealize.ShloMosaic.Lib.Pipeline.ValueKit
public import Idealize.ShloMosaic.Lib.Pipeline.ValueKit.Held
public import proofs.«01_k».proof.Proof.Gen.Kernel2Ideal.Value

/-! What a grid point leaves — the two result blocks, the state, the two carried rows — is the tile computation at what
    the point reads: zeros for the state and the rows at the first point of a batch row, what the point before it left at
    the others. -/

@[expose] public section

set_option maxRecDepth 16384

noncomputable section

namespace Cert.Mix

open Cert.Kernel2Ideal Cert.Kernel2Ideal.Gen Idealize.ShloMosaic Idealize.ShloMosaic.TcCoe Idealize.SL.Sem
variable (m : (ℓ : Loc nD τ sig) → Buf (Elt Ideal) ℓ) (c : Dev nD)

/-- A grid point's input blocks over a given state and given carried rows. -/
def tileOf (t : Fin cfg0.N) (st : Vec Ideal S128x256 .f32) (c0 c1 : Vec Ideal S1x512 .f32) : TileIn where
  x0 := iblk m c 0 t
  x1 := iblk m c 1 t
  x2 := iblk m c 2 t
  x3 := iblk m c 3 t
  x4 := iblk m c 4 t
  x5 := iblk m c 5 t
  x6 := iblk m c 6 t
  x7 := iblk m c 7 t
  x8 := iblk m c 8 t
  x9 := iblk m c 9 t
  x10 := iblk m c 10 t
  x11 := iblk m c 11 t
  x12 := iblk m c 12 t
  st := st
  c0 := c0
  c1 := c1

theorem zeros8 : (![0, 0] : Fin S8x512.rank → ℕ) = fun _ => 0 := by funext i; fin_cases i <;> rfl

theorem carry_read (w : S8x512.Idx → Elt Ideal .f32) (r : Rect S8x512) :
    (View.whole cc0_scratch1).readCov (Val := Elt Ideal) [⟨Rect.unit (s := S8x512) ![0, 0] S8x512.size inb_S8x512_S8x512_0_0, w⟩] r.toLoadRect
      = View.ld w r :=
  readCov_one (S := S8x512) (View.whole cc0_scratch1) zeros8 inb_S8x512_S8x512_0_0 w r

/-- A row of the carried rows just after they are zeroed. -/
def rowA (k : ℕ) (inb : ∀ a, (![k, 0] : Fin 2 → ℕ) a + S1x512.size a ≤ S8x512.size a) : Vec Ideal S1x512 .f32 :=
  (View.whole cc0_scratch1).readCov (Val := Elt Ideal)
    [⟨Rect.unit (s := S8x512) ![0, 0] S8x512.size inb_S8x512_S8x512_0_0, k0_pay3 (F := Ideal)⟩]
    (Rect.unit (s := S8x512) ![k, 0] S1x512.size inb).toLoadRect

/-- A row of the carried rows. -/
def rowB (w : Vec Ideal S8x512 .f32) (k : ℕ) (inb : ∀ a, (![k, 0] : Fin 2 → ℕ) a + S1x512.size a ≤ S8x512.size a) :
    Vec Ideal S1x512 .f32 :=
  View.ld w (Rect.unit (s := S8x512) ![k, 0] S1x512.size inb)

theorem rowA_apply (k : ℕ) (inb : ∀ a, (![k, 0] : Fin 2 → ℕ) a + S1x512.size a ≤ S8x512.size a) (x : Fin 512) :
    rowA k inb (ix2 0 x) = 0 := by
  unfold rowA
  refine (congrFun (carry_read _ (Rect.unit (s := S8x512) ![k, 0] S1x512.size inb)) (ix2 0 x)).trans ?_
  show k0_pay3 (F := Ideal) _ = 0
  exact Ideal.ofBits_zero_f32

theorem rowB_apply (w : Vec Ideal S8x512 .f32) (k : ℕ) (inb : ∀ a, (![k, 0] : Fin 2 → ℕ) a + S1x512.size a ≤ S8x512.size a)
    (hk : k < 8) (x : Fin 512) : rowB w k inb (ix2 0 x) = w (ix2 ⟨k, hk⟩ x) := by
  unfold rowB
  refine congrArg w ?_
  funext i
  apply Fin.ext
  fin_cases i
  · show k + 1 * 0 = k; omega
  · show 0 + 1 * x.val = x.val; omega

/-- The tile at the first point of a batch row. -/
def tileA (t : Fin cfg0.N) : TileIn := tileOf m c t (k0_pay2 (F := Ideal)) (rowA 0 inb_S8x512_S1x512_0_0) (rowA 1 inb_S8x512_S1x512_1_0)

/-- The tile at a later point of a batch row. -/
def tileB (t : Fin cfg0.N) : TileIn :=
  tileOf m c t (outsAt0 m c (t.val - 1) (Nat.lt_of_le_of_lt (Nat.sub_le _ _) t.isLt)).2.2.1
    (rowB (outsAt0 m c (t.val - 1) (Nat.lt_of_le_of_lt (Nat.sub_le _ _) t.isLt)).2.2.2 0 inb_S8x512_S1x512_0_0)
    (rowB (outsAt0 m c (t.val - 1) (Nat.lt_of_le_of_lt (Nat.sub_le _ _) t.isLt)).2.2.2 1 inb_S8x512_S1x512_1_0)

set_option maxHeartbeats 1000000 in
theorem stB (t : Fin cfg0.N) (h : ¬t.val % 32 = 0) : (outsAt0 m c t.val t.isLt).2.2.1 = outS (tileB m c t) := by
  rw [outsAt0_B m c t h]
  frame_out
  simp only [read_unread_whole]
  simp only [tileB, tileOf, rowA, rowB, v3, v5, v20, v29, v32, v34, v4, v19, v25, v26, v27, v28, v33, v48, v47, v73, v79, v80, v115, v120, cumRow, cst_58,
    v121, v162, v163, v164, v166, v175, v183, v191, v199, v204, v205, cst_92, v207, v239, v242, v244, v248, v277, v278,
    v252, v260, v268, v276, v280, v289, v329, v330, v370, v345, v353, v361, v369, v371, v373, v376, v379, v382, v385,
    v388, v391, v394, v397, v400, v403, v406, v372, v375, v378, v381, v384, v387, v390, v393, v396, v399, v402, v405,
    v407, v409, v412, v415, v418, v421, v424, v427, v430, v433, v436, v439, v442, v408, v411, v414, v417, v420, v423,
    v426, v429, v432, v435, v438, v441, v443, v445, v448, v451, v454, v457, v460, v463, cst_183, v476, v479, v481,
    v483, v514, v517, v520, v489, v497, v505, v513, v516, v519, v522, v523, v526, v529, v532, v535, v538, v541, v544,
    v547, v550, v553, v556, v525, v528, v531, v534, v537, v540, v543, v546, v549, v552, v555, v558, v559, v572, v575,
    v577, v585, v593, v601, v610, v613, v616, v619, v622, v625, v628, v631, v609, v634, v636, v637, v638, v657, v665,
    v673, v681, v682, v685, v688, v691, v704, v707, v709, v717, v722, v742, v745, v725, v733, v741, v758, v761, v763,
    v764, cst_339, v771, v779, v787, v795, v796, v797, v799, v804, v832, v841, v846, v807, v815, v823, v831, v835,
    v840, v842, v845, c64_i32_356, v847, v871, v870, v872, v882, v890, v891, v892, v906, v924, v937, v939, v940, v958,
    v974, v984, v985, v1009, v1012, v1019, v1020, v1021, v1008, v1015, v1018, v1027, v1039, v1058, v1065, v1061,
    v1066, v1069, v1079, v1082, cst_443, v1085, v1105, v1116, v1141, v1160, c3_i32_459, v1166, v1191, v1204,
    c2_i32_475, v1219, v1230, v1234, v1238, v1242, v1249, v1260, v1265, v1269, v1272, outX, outR, outS, cumRow]

set_option maxHeartbeats 1000000 in
theorem xB (t : Fin cfg0.N) (h : ¬t.val % 32 = 0) : (outsAt0 m c t.val t.isLt).1 = outX (tileB m c t) := by
  rw [outsAt0_B m c t h]
  frame_out
  simp only [read_unread_whole]
  simp only [tileB, tileOf, rowA, rowB, v3, v5, v20, v29, v32, v34, v4, v19, v25, v26, v27, v28, v33, v48, v47, v73, v79, v80, v115, v120, cumRow, cst_58,
    v121, v162, v163, v164, v166, v175, v183, v191, v199, v204, v205, cst_92, v207, v239, v242, v244, v248, v277, v278,
    v252, v260, v268, v276, v280, v289, v329, v330, v370, v345, v353, v361, v369, v371, v373, v376, v379, v382, v385,
    v388, v391, v394, v397, v400, v403, v406, v372, v375, v378, v381, v384, v387, v390, v393, v396, v399, v402, v405,
    v407, v409, v412, v415, v418, v421, v424, v427, v430, v433, v436, v439, v442, v408, v411, v414, v417, v420, v423,
    v426, v429, v432, v435, v438, v441, v443, v445, v448, v451, v454, v457, v460, v463, cst_183, v476, v479, v481,
    v483, v514, v517, v520, v489, v497, v505, v513, v516, v519, v522, v523, v526, v529, v532, v535, v538, v541, v544,
    v547, v550, v553, v556, v525, v528, v531, v534, v537, v540, v543, v546, v549, v552, v555, v558, v559, v572, v575,
    v577, v585, v593, v601, v610, v613, v616, v619, v622, v625, v628, v631, v609, v634, v636, v637, v638, v657, v665,
    v673, v681, v682, v685, v688, v691, v704, v707, v709, v717, v722, v742, v745, v725, v733, v741, v758, v761, v763,
    v764, cst_339, v771, v779, v787, v795, v796, v797, v799, v804, v832, v841, v846, v807, v815, v823, v831, v835,
    v840, v842, v845, c64_i32_356, v847, v871, v870, v872, v882, v890, v891, v892, v906, v924, v937, v939, v940, v958,
    v974, v984, v985, v1009, v1012, v1019, v1020, v1021, v1008, v1015, v1018, v1027, v1039, v1058, v1065, v1061,
    v1066, v1069, v1079, v1082, cst_443, v1085, v1105, v1116, v1141, v1160, c3_i32_459, v1166, v1191, v1204,
    c2_i32_475, v1219, v1230, v1234, v1238, v1242, v1249, v1260, v1265, v1269, v1272, outX, outR, outS, cumRow]
  rfl

set_option maxHeartbeats 1000000 in
theorem rB (t : Fin cfg0.N) (h : ¬t.val % 32 = 0) : (outsAt0 m c t.val t.isLt).2.1 = outR (tileB m c t) := by
  rw [outsAt0_B m c t h]
  frame_out
  simp only [read_unread_whole]
  simp only [tileB, tileOf, rowA, rowB, v3, v5, v20, v29, v32, v34, v4, v19, v25, v26, v27, v28, v33, v48, v47, v73, v79, v80, v115, v120, cumRow, cst_58,
    v121, v162, v163, v164, v166, v175, v183, v191, v199, v204, v205, cst_92, v207, v239, v242, v244, v248, v277, v278,
    v252, v260, v268, v276, v280, v289, v329, v330, v370, v345, v353, v361, v369, v371, v373, v376, v379, v382, v385,
    v388, v391, v394, v397, v400, v403, v406, v372, v375, v378, v381, v384, v387, v390, v393, v396, v399, v402, v405,
    v407, v409, v412, v415, v418, v421, v424, v427, v430, v433, v436, v439, v442, v408, v411, v414, v417, v420, v423,
    v426, v429, v432, v435, v438, v441, v443, v445, v448, v451, v454, v457, v460, v463, cst_183, v476, v479, v481,
    v483, v514, v517, v520, v489, v497, v505, v513, v516, v519, v522, v523, v526, v529, v532, v535, v538, v541, v544,
    v547, v550, v553, v556, v525, v528, v531, v534, v537, v540, v543, v546, v549, v552, v555, v558, v559, v572, v575,
    v577, v585, v593, v601, v610, v613, v616, v619, v622, v625, v628, v631, v609, v634, v636, v637, v638, v657, v665,
    v673, v681, v682, v685, v688, v691, v704, v707, v709, v717, v722, v742, v745, v725, v733, v741, v758, v761, v763,
    v764, cst_339, v771, v779, v787, v795, v796, v797, v799, v804, v832, v841, v846, v807, v815, v823, v831, v835,
    v840, v842, v845, c64_i32_356, v847, v871, v870, v872, v882, v890, v891, v892, v906, v924, v937, v939, v940, v958,
    v974, v984, v985, v1009, v1012, v1019, v1020, v1021, v1008, v1015, v1018, v1027, v1039, v1058, v1065, v1061,
    v1066, v1069, v1079, v1082, cst_443, v1085, v1105, v1116, v1141, v1160, c3_i32_459, v1166, v1191, v1204,
    c2_i32_475, v1219, v1230, v1234, v1238, v1242, v1249, v1260, v1265, v1269, v1272, outX, outR, outS, cumRow]
  rfl

set_option maxHeartbeats 1000000 in
theorem stA (t : Fin cfg0.N) (h : t.val % 32 = 0) : (outsAt0 m c t.val t.isLt).2.2.1 = outS (tileA m c t) := by
  rw [outsAt0_A m c t h]
  frame_out
  simp only [tileA, tileOf, rowA, rowB, v3, v5, v20, v29, v32, v34, v4, v19, v25, v26, v27, v28, v33, v48, v47, v73, v79, v80, v115, v120, cumRow, cst_58,
    v121, v162, v163, v164, v166, v175, v183, v191, v199, v204, v205, cst_92, v207, v239, v242, v244, v248, v277, v278,
    v252, v260, v268, v276, v280, v289, v329, v330, v370, v345, v353, v361, v369, v371, v373, v376, v379, v382, v385,
    v388, v391, v394, v397, v400, v403, v406, v372, v375, v378, v381, v384, v387, v390, v393, v396, v399, v402, v405,
    v407, v409, v412, v415, v418, v421, v424, v427, v430, v433, v436, v439, v442, v408, v411, v414, v417, v420, v423,
    v426, v429, v432, v435, v438, v441, v443, v445, v448, v451, v454, v457, v460, v463, cst_183, v476, v479, v481,
    v483, v514, v517, v520, v489, v497, v505, v513, v516, v519, v522, v523, v526, v529, v532, v535, v538, v541, v544,
    v547, v550, v553, v556, v525, v528, v531, v534, v537, v540, v543, v546, v549, v552, v555, v558, v559, v572, v575,
    v577, v585, v593, v601, v610, v613, v616, v619, v622, v625, v628, v631, v609, v634, v636, v637, v638, v657, v665,
    v673, v681, v682, v685, v688, v691, v704, v707, v709, v717, v722, v742, v745, v725, v733, v741, v758, v761, v763,
    v764, cst_339, v771, v779, v787, v795, v796, v797, v799, v804, v832, v841, v846, v807, v815, v823, v831, v835,
    v840, v842, v845, c64_i32_356, v847, v871, v870, v872, v882, v890, v891, v892, v906, v924, v937, v939, v940, v958,
    v974, v984, v985, v1009, v1012, v1019, v1020, v1021, v1008, v1015, v1018, v1027, v1039, v1058, v1065, v1061,
    v1066, v1069, v1079, v1082, cst_443, v1085, v1105, v1116, v1141, v1160, c3_i32_459, v1166, v1191, v1204,
    c2_i32_475, v1219, v1230, v1234, v1238, v1242, v1249, v1260, v1265, v1269, v1272, outX, outR, outS, cumRow]

set_option maxHeartbeats 1000000 in
theorem xA (t : Fin cfg0.N) (h : t.val % 32 = 0) : (outsAt0 m c t.val t.isLt).1 = outX (tileA m c t) := by
  rw [outsAt0_A m c t h]
  frame_out
  simp only [tileA, tileOf, rowA, rowB, v3, v5, v20, v29, v32, v34, v4, v19, v25, v26, v27, v28, v33, v48, v47, v73, v79, v80, v115, v120, cumRow, cst_58,
    v121, v162, v163, v164, v166, v175, v183, v191, v199, v204, v205, cst_92, v207, v239, v242, v244, v248, v277, v278,
    v252, v260, v268, v276, v280, v289, v329, v330, v370, v345, v353, v361, v369, v371, v373, v376, v379, v382, v385,
    v388, v391, v394, v397, v400, v403, v406, v372, v375, v378, v381, v384, v387, v390, v393, v396, v399, v402, v405,
    v407, v409, v412, v415, v418, v421, v424, v427, v430, v433, v436, v439, v442, v408, v411, v414, v417, v420, v423,
    v426, v429, v432, v435, v438, v441, v443, v445, v448, v451, v454, v457, v460, v463, cst_183, v476, v479, v481,
    v483, v514, v517, v520, v489, v497, v505, v513, v516, v519, v522, v523, v526, v529, v532, v535, v538, v541, v544,
    v547, v550, v553, v556, v525, v528, v531, v534, v537, v540, v543, v546, v549, v552, v555, v558, v559, v572, v575,
    v577, v585, v593, v601, v610, v613, v616, v619, v622, v625, v628, v631, v609, v634, v636, v637, v638, v657, v665,
    v673, v681, v682, v685, v688, v691, v704, v707, v709, v717, v722, v742, v745, v725, v733, v741, v758, v761, v763,
    v764, cst_339, v771, v779, v787, v795, v796, v797, v799, v804, v832, v841, v846, v807, v815, v823, v831, v835,
    v840, v842, v845, c64_i32_356, v847, v871, v870, v872, v882, v890, v891, v892, v906, v924, v937, v939, v940, v958,
    v974, v984, v985, v1009, v1012, v1019, v1020, v1021, v1008, v1015, v1018, v1027, v1039, v1058, v1065, v1061,
    v1066, v1069, v1079, v1082, cst_443, v1085, v1105, v1116, v1141, v1160, c3_i32_459, v1166, v1191, v1204,
    c2_i32_475, v1219, v1230, v1234, v1238, v1242, v1249, v1260, v1265, v1269, v1272, outX, outR, outS, cumRow]
  rfl

set_option maxHeartbeats 1000000 in
theorem rA (t : Fin cfg0.N) (h : t.val % 32 = 0) : (outsAt0 m c t.val t.isLt).2.1 = outR (tileA m c t) := by
  rw [outsAt0_A m c t h]
  frame_out
  simp only [tileA, tileOf, rowA, rowB, v3, v5, v20, v29, v32, v34, v4, v19, v25, v26, v27, v28, v33, v48, v47, v73, v79, v80, v115, v120, cumRow, cst_58,
    v121, v162, v163, v164, v166, v175, v183, v191, v199, v204, v205, cst_92, v207, v239, v242, v244, v248, v277, v278,
    v252, v260, v268, v276, v280, v289, v329, v330, v370, v345, v353, v361, v369, v371, v373, v376, v379, v382, v385,
    v388, v391, v394, v397, v400, v403, v406, v372, v375, v378, v381, v384, v387, v390, v393, v396, v399, v402, v405,
    v407, v409, v412, v415, v418, v421, v424, v427, v430, v433, v436, v439, v442, v408, v411, v414, v417, v420, v423,
    v426, v429, v432, v435, v438, v441, v443, v445, v448, v451, v454, v457, v460, v463, cst_183, v476, v479, v481,
    v483, v514, v517, v520, v489, v497, v505, v513, v516, v519, v522, v523, v526, v529, v532, v535, v538, v541, v544,
    v547, v550, v553, v556, v525, v528, v531, v534, v537, v540, v543, v546, v549, v552, v555, v558, v559, v572, v575,
    v577, v585, v593, v601, v610, v613, v616, v619, v622, v625, v628, v631, v609, v634, v636, v637, v638, v657, v665,
    v673, v681, v682, v685, v688, v691, v704, v707, v709, v717, v722, v742, v745, v725, v733, v741, v758, v761, v763,
    v764, cst_339, v771, v779, v787, v795, v796, v797, v799, v804, v832, v841, v846, v807, v815, v823, v831, v835,
    v840, v842, v845, c64_i32_356, v847, v871, v870, v872, v882, v890, v891, v892, v906, v924, v937, v939, v940, v958,
    v974, v984, v985, v1009, v1012, v1019, v1020, v1021, v1008, v1015, v1018, v1027, v1039, v1058, v1065, v1061,
    v1066, v1069, v1079, v1082, cst_443, v1085, v1105, v1116, v1141, v1160, c3_i32_459, v1166, v1191, v1204,
    c2_i32_475, v1219, v1230, v1234, v1238, v1242, v1249, v1260, v1265, v1269, v1272, outX, outR, outS, cumRow]
  rfl

theorem cB (t : Fin cfg0.N) (h : ¬t.val % 32 = 0) (i : Fin 2) (k : Fin 512) :
    (outsAt0 m c t.val t.isLt).2.2.2 (ix2 ⟨i.val, by omega⟩ k) = v1018 (tileB m c t) (ix2 ⟨254 + i.val, by omega⟩ k) := by
  rw [outsAt0_B m c t h]
  frame_out
  refine (View.read_writes_cons_rows_of_mem (o := 0) (v := View.whole cc0_scratch1) (L := []) (y := ix2 ⟨i.val, by omega⟩ k) (x := ix2 i k)
    (hoff := rfl) (hx0 := by show i.val = 0 + i.val; omega) (hx1 := rfl) ..).trans ?_
  unfold v1018
  pointwise [k0_pay180]
  try rfl

theorem cA (t : Fin cfg0.N) (h : t.val % 32 = 0) (i : Fin 2) (k : Fin 512) :
    (outsAt0 m c t.val t.isLt).2.2.2 (ix2 ⟨i.val, by omega⟩ k) = v1018 (tileA m c t) (ix2 ⟨254 + i.val, by omega⟩ k) := by
  rw [outsAt0_A m c t h]
  frame_out
  have e : (Rect.unit (s := S8x512) ![0, 0] S2x512.size inb_S8x512_S2x512_0_0).emb (ix2 i k) = ix2 ⟨i.val, by omega⟩ k := by
    funext a
    apply Fin.ext
    fin_cases a
    · show 0 + 1 * i.val = i.val; omega
    · show 0 + 1 * k.val = k.val; omega
  rw [← e]
  refine (View.canon_cons_emb (Val := Elt Ideal) (Rect.unit (s := S8x512) ![0, 0] S2x512.size inb_S8x512_S2x512_0_0) _ _ (ix2 i k)).trans ?_
  unfold v1018
  pointwise [k0_pay180]
  rfl

end Cert.Mix
end
end
-- ==== Proof.Mix.KBlocks.lean ====
module

public import proofs.«01_k».proof.Proof.Mix.Step
public import proofs.«01_k».proof.Proof.Mix.Tiles
public import proofs.«01_k».proof.Proof.Gen.Kernel2Ideal.Value
public import Idealize.ShloMosaic.Lib.Pointwise
public import Idealize.ShloMosaic.Lib.Pipeline.ValueKit

/-! The kernel's run: each point's tile reads the arguments' elements, and by induction over the points the result array holds the residual. -/

@[expose] public section

set_option maxRecDepth 16384

noncomputable section

namespace Cert.Mix

open Cert.Kernel2Ideal Cert.Kernel2Ideal.Gen Idealize.ShloMosaic Idealize.ShloMosaic.TcCoe Idealize.SL.Sem

variable (m : (ℓ : Loc nD τ sig) → Buf (Elt Ideal) ℓ) (c : Dev nD)

theorem idx0 : ∀ t : Fin grid0.N, win0_0.index t = ![t.val / 32, t.val % 32, 0] := by decide +kernel
theorem idx1 : ∀ t : Fin grid0.N, win0_1.index t = ![0, 0] := by decide +kernel
theorem idx2 : ∀ t : Fin grid0.N, win0_2.index t = ![0, 0] := by decide +kernel
theorem idx3 : ∀ t : Fin grid0.N, win0_3.index t = ![0, 0] := by decide +kernel
theorem idx4 : ∀ t : Fin grid0.N, win0_4.index t = ![0, 0] := by decide +kernel
theorem idx5 : ∀ t : Fin grid0.N, win0_5.index t = ![0, 0] := by decide +kernel
theorem idx6 : ∀ t : Fin grid0.N, win0_6.index t = ![0, 0] := by decide +kernel
theorem idx7 : ∀ t : Fin grid0.N, win0_7.index t = ![0, 0] := by decide +kernel
theorem idx8 : ∀ t : Fin grid0.N, win0_8.index t = ![0, 0] := by decide +kernel
theorem idx9 : ∀ t : Fin grid0.N, win0_9.index t = ![0, 0] := by decide +kernel
theorem idx13 : ∀ t : Fin grid0.N, win0_13.index t = ![t.val / 32, t.val % 32, 0] := by decide +kernel

theorem point_lt (t : Fin cfg0.N) : t.val < 64 := lt_of_lt_of_eq t.isLt N_0

/-- A point's batch row, and its rows' positions. -/
def batchOf (t : Fin cfg0.N) : Fin 2 := ⟨t.val / 32, by have := point_lt t; omega⟩
def posOf (t : Fin cfg0.N) (r : Fin 256) : Fin 8192 := ⟨t.val % 32 * 256 + r.val, by omega⟩

variable (t : Fin cfg0.N)

theorem blk0 (r : Fin 256) (j : Fin 1024) : iblk m c 0 t (ix3 0 r j) = m ((c.tc : Thread nD τ).loc main_arg0) (ix3 (batchOf t) (posOf t r) j) := by
  blk_ext [iblk, V, idx0 t, batchOf, posOf]
theorem blk1 (j : Fin 1024) : iblk m c 1 t (ix2 0 j) = m ((c.tc : Thread nD τ).loc main_arg1) (ix1 j) := by
  blk_ext! [iblk, V, idx1 t]
theorem blk2 (j : Fin 1024) (x : Fin 1536) : iblk m c 2 t (ix2 j x) = m ((c.tc : Thread nD τ).loc main_arg2) (ix2 j ⟨x.val, by omega⟩) := by
  blk_ext! [iblk, V, idx2 t]
theorem blk3 (j : Fin 1024) (x : Fin 16) : iblk m c 3 t (ix2 j x) = m ((c.tc : Thread nD τ).loc main_arg2) (ix2 j ⟨1536 + x.val, by omega⟩) := by
  blk_ext! [iblk, V, idx3 t]
theorem blk4 (j : Fin 1024) (x : Fin 1536) : iblk m c 4 t (ix2 j x) = m ((c.tc : Thread nD τ).loc main_arg2) (ix2 j ⟨1552 + x.val, by omega⟩) := by
  blk_ext! [iblk, V, idx4 t]
theorem blk5 (r : Fin 16) (x : Fin 256) : iblk m c 5 t (ix2 r x) = m ((c.tc : Thread nD τ).loc main_arg3) (ix2 r x) := by
  blk_ext [iblk, V, idx5 t]
theorem blk6 (x : Fin 256) : iblk m c 6 t (ix2 0 x) = m ((c.tc : Thread nD τ).loc main_arg4) (ix1 x) := by
  blk_ext! [iblk, V, idx6 t]
theorem blk7 (x : Fin 128) : iblk m c 7 t (ix2 0 x) = m ((c.tc : Thread nD τ).loc main_arg5) (ix1 x) := by
  blk_ext! [iblk, V, idx7 t]
theorem blk8 (d : Fin 3) (y : Fin 512) : iblk m c 8 t (ix2 d y) = m ((c.tc : Thread nD τ).loc main_arg6) (ix2 d y) := by
  blk_ext [iblk, V, idx8 t]
theorem blk9 (x j : Fin 1024) : iblk m c 9 t (ix2 x j) = m ((c.tc : Thread nD τ).loc main_arg7) (ix2 x j) := by
  blk_ext! [iblk, V, idx9 t]

/-- The arguments of one batch row. -/
def parK (b : Fin 2) : Par :=
  parOf (fun b T j => m ((c.tc : Thread nD τ).loc main_arg0) (ix3 b T j)) (fun j => m ((c.tc : Thread nD τ).loc main_arg1) (ix1 j))
    (fun j x => m ((c.tc : Thread nD τ).loc main_arg2) (ix2 j x)) (fun r x => m ((c.tc : Thread nD τ).loc main_arg3) (ix2 r x))
    (fun x => m ((c.tc : Thread nD τ).loc main_arg4) (ix1 x)) (fun x => m ((c.tc : Thread nD τ).loc main_arg5) (ix1 x))
    (fun d y => m ((c.tc : Thread nD τ).loc main_arg6) (ix2 d y)) (fun x j => m ((c.tc : Thread nD τ).loc main_arg7) (ix2 x j)) b

variable {m c t}

set_option maxHeartbeats 2000000 in
theorem x0_of {st : Vec Ideal S128x256 .f32} {c0 c1 : Vec Ideal S1x512 .f32} (r : Fin 256) (j : Fin 1024) :
    (tileOf m c t st c0 c1).x0 (ix3 0 r j) = (parK m c (batchOf t)).X (256 * (t.val % 32) + r.val) j := by
  refine (blk0 m c t r j).trans ?_
  have ep : posOf t r = ⟨256 * (t.val % 32) + r.val, by omega⟩ := Fin.ext (by show t.val % 32 * 256 + r.val = 256 * (t.val % 32) + r.val; omega)
  rw [ep]
  unfold parK
  rw [parOf_X (by omega)]

set_option maxHeartbeats 2000000 in
theorem isTile_of {st : Vec Ideal S128x256 .f32} {c0 c1 : Vec Ideal S1x512 .f32}
    (hs : ∀ (e : Fin 128) (x : Fin 256), st (ix2 e x) = ((sR (parK m c (batchOf t)) e x (256 * (t.val % 32)) : ℝ) : EReal))
    (h0 : ∀ y : Fin 512, c0 (ix2 0 y) = cm (parK m c (batchOf t)) 2 (256 * (t.val % 32)) y)
    (h1 : ∀ y : Fin 512, c1 (ix2 0 y) = cm (parK m c (batchOf t)) 1 (256 * (t.val % 32)) y) :
    IsTile (parK m c (batchOf t)) (t.val % 32) (tileOf m c t st c0 c1) where
  x0 r j := x0_of r j
  x1 j := blk1 m c t j
  x2 j x := blk2 m c t j x
  x3 j x := blk3 m c t j x
  x4 j x := blk4 m c t j x
  x5 r x := blk5 m c t r x
  x6 x := blk6 m c t x
  x7 e := blk7 m c t e
  x8 d y := blk8 m c t d y
  x9 x j := blk9 m c t x j
  st := hs
  c0 := h0
  c1 := h1

variable (m c)

/-- What point `t` leaves: the state and the carried rows after its tile, and its rows of the result. -/
structure Left (t : Fin cfg0.N) : Prop where
  st : ∀ (e : Fin 128) (x : Fin 256), (outsAt0 m c t.val t.isLt).2.2.1 (ix2 e x) = ((sR (parK m c (batchOf t)) e x (256 * (t.val % 32 + 1)) : ℝ) : EReal)
  c0 : ∀ y : Fin 512, (outsAt0 m c t.val t.isLt).2.2.2 (ix2 0 y) = cm (parK m c (batchOf t)) 2 (256 * (t.val % 32 + 1)) y
  c1 : ∀ y : Fin 512, (outsAt0 m c t.val t.isLt).2.2.2 (ix2 1 y) = cm (parK m c (batchOf t)) 1 (256 * (t.val % 32 + 1)) y
  x1 : ∀ (r : Fin 256) (j : Fin 1024), (outsAt0 m c t.val t.isLt).1 (ix3 0 r j) = Mix.x1 (parK m c (batchOf t)) (256 * (t.val % 32) + r.val) j

variable {m c}

theorem left_first (R : ∀ b, (parK m c b).Real) (t : Fin cfg0.N) (h : t.val % 32 = 0) : Left m c t := by
  have H : IsTile (parK m c (batchOf t)) (t.val % 32) (tileA m c t) := by
    refine isTile_of (fun e x => ?_) (fun y => ?_) (fun y => ?_)
    · rw [h]
      unfold sR
      rw [Nat.mul_zero, stateAt_zero]
      exact Ideal.ofBits_zero_f32
    · rw [rowA_apply, h]
      rfl
    · rw [rowA_apply, h]
      rfl
  exact ⟨fun e x => by rw [stA m c t h]; exact outS_eq (R _) H e x, fun y => (cA m c t h 0 y).trans (carry_eq H 2 (Or.inr rfl) y),
    fun y => (cA m c t h 1 y).trans (carry_eq H 1 (Or.inl rfl) y), fun r j => by rw [xA m c t h]; exact outX_eq (R _) H r j⟩

theorem left_next (R : ∀ b, (parK m c b).Real) (t : Fin cfg0.N) (h : ¬t.val % 32 = 0)
    (L : Left m c ⟨t.val - 1, Nat.lt_of_le_of_lt (Nat.sub_le _ _) t.isLt⟩) : Left m c t := by
  have eb : batchOf ⟨t.val - 1, Nat.lt_of_le_of_lt (Nat.sub_le _ _) t.isLt⟩ = batchOf t := Fin.ext (by show (t.val - 1) / 32 = t.val / 32; omega)
  have ei : (t.val - 1) % 32 + 1 = t.val % 32 := by omega
  have H : IsTile (parK m c (batchOf t)) (t.val % 32) (tileB m c t) := by
    refine isTile_of (fun e x => ?_) (fun y => ?_) (fun y => ?_)
    · refine (L.st e x).trans ?_
      rw [eb, ei]
    · refine (rowB_apply _ 0 _ (by omega) y).trans ((L.c0 y).trans ?_)
      rw [eb, ei]
    · refine (rowB_apply _ 1 _ (by omega) y).trans ((L.c1 y).trans ?_)
      rw [eb, ei]
  exact ⟨fun e x => by rw [stB m c t h]; exact outS_eq (R _) H e x, fun y => (cB m c t h 0 y).trans (carry_eq H 2 (Or.inr rfl) y),
    fun y => (cB m c t h 1 y).trans (carry_eq H 1 (Or.inl rfl) y), fun r j => by rw [xB m c t h]; exact outX_eq (R _) H r j⟩

theorem left_all (R : ∀ b, (parK m c b).Real) : ∀ (n : ℕ) (hn : n < cfg0.N), Left m c ⟨n, hn⟩ := by
  intro n
  induction n with
  | zero => exact fun hn => left_first R ⟨0, hn⟩ rfl
  | succ n ih =>
    intro hn
    by_cases h : (n + 1) % 32 = 0
    · exact left_first R ⟨n + 1, hn⟩ h
    · exact left_next R ⟨n + 1, hn⟩ h (ih (Nat.lt_of_succ_lt hn))

theorem out_block (R : ∀ b, (parK m c b).Real) (t : Fin cfg0.N) (y : S1x256x1024.Idx) : (outsAt0 m c t.val t.isLt).1 y
    = Mix.x1 (parK m c ((win0_13.blk t).view.emb y 0)) ((win0_13.blk t).view.emb y 1).val ((win0_13.blk t).view.emb y 2) := by
  obtain ⟨z, r, j, rfl⟩ : ∃ (z : Fin 1) (r : Fin 256) (j : Fin 1024), y = ix3 z r j := ⟨y 0, y 1, y 2, eq_ix3 y⟩
  obtain rfl : z = 0 := Subsingleton.elim _ _
  have e0 : (win0_13.blk t).view.emb (ix3 0 r j) 0 = batchOf t := by
    apply Fin.ext
    show win0_13.index t (0 : Fin 3) * 1 + 1 * 0 = t.val / 32
    rw [idx13 t]
    simp
  have e1 : ((win0_13.blk t).view.emb (ix3 0 r j) 1).val = 256 * (t.val % 32) + r.val := by
    show win0_13.index t (1 : Fin 3) * 256 + 1 * r.val = 256 * (t.val % 32) + r.val
    rw [idx13 t]
    simp
    omega
  have e2 : (win0_13.blk t).view.emb (ix3 0 r j) 2 = j := by
    apply Fin.ext
    show win0_13.index t (2 : Fin 3) * 1024 + 1 * j.val = j.val
    rw [idx13 t]
    simp
  rw [e0, e1, e2]
  exact (left_all R t.val t.isLt).x1 r j

/-- The whole result array. -/
theorem result (R : ∀ b, (parK m c b).Real) : (dats m 0 c).arrAt 13 cfg0.N = (fun i : S2x8192x1024.Idx => Mix.x1 (parK m c (i 0)) (i 1).val (i 2)) := by
  refine (dats m 0 c).arrAt_eq_of_covers 13 _ (by decide +kernel) fun t hf y => ?_
  blk_simp
  rw [after0_13]
  refine (out_block R t y).trans (congrArg (fun z => Mix.x1 _ z _) ?_)
  show win0_13.index t (1 : Fin 3) * 256 + 1 * (y 1).val = _
  rw [Nat.one_mul]

end Cert.Mix
end
end
-- ==== Proof.Mix.RefOps.lean ====
module

public import proofs.«01_k».proof.Proof.Gen.Reference2Ideal.Run
public import proofs.«01_k».proof.Proof.Mix.Model
public import Idealize.ShloMosaic.Lib.Pointwise
public import Idealize.ShloMosaic.Lib.DynamicIndex
public import Idealize.ShloMosaic.Lib.Pipeline.Value

/-! The reference's chunk reads and writes and its running sums, element by element. -/

@[expose] public section

set_option maxRecDepth 16384

noncomputable section

namespace Cert.RMix

open Cert.Mix Cert.Reference2Ideal Cert.Reference2Ideal.Gen Cert.Reference2Ideal.Value Idealize.ShloMosaic Idealize.ShloMosaic.TcCoe Idealize.SL.Sem

theorem cl0 (n : Fin 128) : (min (max ((BitVec.ofNat 32 n.val).toInt) 0) ((128 - 1 : ℕ) : ℤ)).toNat = n.val := by
  rw [BitVec.toInt_eq_toNat_of_lt (by rw [BitVec.toNat_ofNat]; omega), BitVec.toNat_ofNat, Nat.mod_eq_of_lt (by omega)]
  omega

theorem chunkA (A : FVec Ideal S128x2x4x64x64 .f32) (i : IVec S_ 32) (n : Fin 128) (hi : i = fun _ => BitVec.ofNat 32 n.val)
    (b : Fin 2) (h : Fin 4) (t d : Fin 64) :
    shapeCast S2x4x64x64 (Host.dynamicSlice S1x2x4x64x64 A (fun k => (((![i, constantI S_ 32 0#32, constantI S_ 32 0#32, constantI S_ 32 0#32, constantI S_ 32 0#32] : Fin 5 → IVec S_ 32)) k (Shape.Idx.first h_S_)).toInt) sliceFits_S128x2x4x64x64_S1x2x4x64x64) shapeCasts_S1x2x4x64x64_S2x4x64x64 (ix4 b h t d) = A (ix5 n b h t d) := by
  have e := Host.dynamicSlice_eq_extractStridedSlice_of_clamp S1x2x4x64x64 A (fun k => (((![i, constantI S_ 32 0#32, constantI S_ 32 0#32, constantI S_ 32 0#32, constantI S_ 32 0#32] : Fin 5 → IVec S_ 32)) k (Shape.Idx.first h_S_)).toInt) sliceFits_S128x2x4x64x64_S1x2x4x64x64 ![n.val, 0, 0, 0, 0] (by
    intro a
    match a with
    | ⟨0, _⟩ => subst hi; exact cl0 n
    | ⟨1, _⟩ => rfl
    | ⟨2, _⟩ => rfl
    | ⟨3, _⟩ => rfl
    | ⟨4, _⟩ => rfl) ⟨rfl, by
    intro a
    match a with
    | ⟨0, _⟩ => show n.val + 1 ≤ 128; omega
    | ⟨1, _⟩ => show 0 + 2 ≤ 2; omega
    | ⟨2, _⟩ => show 0 + 4 ≤ 4; omega
    | ⟨3, _⟩ => show 0 + 64 ≤ 64; omega
    | ⟨4, _⟩ => show 0 + 64 ≤ 64; omega⟩
  refine (congrArg (fun z => shapeCast S2x4x64x64 z shapeCasts_S1x2x4x64x64_S2x4x64x64 (ix4 b h t d)) e).trans ?_
  pointwise

theorem chunkV (A : FVec Ideal S128x2x4x64x128 .f32) (i : IVec S_ 32) (n : Fin 128) (hi : i = fun _ => BitVec.ofNat 32 n.val)
    (b : Fin 2) (h : Fin 4) (t : Fin 64) (d : Fin 128) :
    shapeCast S2x4x64x128 (Host.dynamicSlice S1x2x4x64x128 A (fun k => (((![i, constantI S_ 32 0#32, constantI S_ 32 0#32, constantI S_ 32 0#32, constantI S_ 32 0#32] : Fin 5 → IVec S_ 32)) k (Shape.Idx.first h_S_)).toInt) sliceFits_S128x2x4x64x128_S1x2x4x64x128) shapeCasts_S1x2x4x64x128_S2x4x64x128 (ix4 b h t d) = A (ix5 n b h t d) := by
  have e := Host.dynamicSlice_eq_extractStridedSlice_of_clamp S1x2x4x64x128 A (fun k => (((![i, constantI S_ 32 0#32, constantI S_ 32 0#32, constantI S_ 32 0#32, constantI S_ 32 0#32] : Fin 5 → IVec S_ 32)) k (Shape.Idx.first h_S_)).toInt) sliceFits_S128x2x4x64x128_S1x2x4x64x128 ![n.val, 0, 0, 0, 0] (by
    intro a
    match a with
    | ⟨0, _⟩ => subst hi; exact cl0 n
    | ⟨1, _⟩ => rfl
    | ⟨2, _⟩ => rfl
    | ⟨3, _⟩ => rfl
    | ⟨4, _⟩ => rfl) ⟨rfl, by
    intro a
    match a with
    | ⟨0, _⟩ => show n.val + 1 ≤ 128; omega
    | ⟨1, _⟩ => show 0 + 2 ≤ 2; omega
    | ⟨2, _⟩ => show 0 + 4 ≤ 4; omega
    | ⟨3, _⟩ => show 0 + 64 ≤ 64; omega
    | ⟨4, _⟩ => show 0 + 128 ≤ 128; omega⟩
  refine (congrArg (fun z => shapeCast S2x4x64x128 z shapeCasts_S1x2x4x64x128_S2x4x64x128 (ix4 b h t d)) e).trans ?_
  pointwise

theorem chunkG (A : FVec Ideal S128x2x64x512 .f32) (i : IVec S_ 32) (n : Fin 128) (hi : i = fun _ => BitVec.ofNat 32 n.val)
    (b : Fin 2) (t : Fin 64) (d : Fin 512) :
    shapeCast S2x64x512 (Host.dynamicSlice S1x2x64x512 A (fun k => (((![i, constantI S_ 32 0#32, constantI S_ 32 0#32, constantI S_ 32 0#32] : Fin 4 → IVec S_ 32)) k (Shape.Idx.first h_S_)).toInt) sliceFits_S128x2x64x512_S1x2x64x512) shapeCasts_S1x2x64x512_S2x64x512 (ix3 b t d) = A (ix4 n b t d) := by
  have e := Host.dynamicSlice_eq_extractStridedSlice_of_clamp S1x2x64x512 A (fun k => (((![i, constantI S_ 32 0#32, constantI S_ 32 0#32, constantI S_ 32 0#32] : Fin 4 → IVec S_ 32)) k (Shape.Idx.first h_S_)).toInt) sliceFits_S128x2x64x512_S1x2x64x512 ![n.val, 0, 0, 0] (by
    intro a
    match a with
    | ⟨0, _⟩ => subst hi; exact cl0 n
    | ⟨1, _⟩ => rfl
    | ⟨2, _⟩ => rfl
    | ⟨3, _⟩ => rfl) ⟨rfl, by
    intro a
    match a with
    | ⟨0, _⟩ => show n.val + 1 ≤ 128; omega
    | ⟨1, _⟩ => show 0 + 2 ≤ 2; omega
    | ⟨2, _⟩ => show 0 + 64 ≤ 64; omega
    | ⟨3, _⟩ => show 0 + 512 ≤ 512; omega⟩
  refine (congrArg (fun z => shapeCast S2x64x512 z shapeCasts_S1x2x64x512_S2x64x512 (ix3 b t d)) e).trans ?_
  pointwise

theorem chunkX (A : FVec Ideal S128x2x64x1024 .f32) (i : IVec S_ 32) (n : Fin 128) (hi : i = fun _ => BitVec.ofNat 32 n.val)
    (b : Fin 2) (t : Fin 64) (d : Fin 1024) :
    shapeCast S2x64x1024 (Host.dynamicSlice S1x2x64x1024 A (fun k => (((![i, constantI S_ 32 0#32, constantI S_ 32 0#32, constantI S_ 32 0#32] : Fin 4 → IVec S_ 32)) k (Shape.Idx.first h_S_)).toInt) sliceFits_S128x2x64x1024_S1x2x64x1024) shapeCasts_S1x2x64x1024_S2x64x1024 (ix3 b t d) = A (ix4 n b t d) := by
  have e := Host.dynamicSlice_eq_extractStridedSlice_of_clamp S1x2x64x1024 A (fun k => (((![i, constantI S_ 32 0#32, constantI S_ 32 0#32, constantI S_ 32 0#32] : Fin 4 → IVec S_ 32)) k (Shape.Idx.first h_S_)).toInt) sliceFits_S128x2x64x1024_S1x2x64x1024 ![n.val, 0, 0, 0] (by
    intro a
    match a with
    | ⟨0, _⟩ => subst hi; exact cl0 n
    | ⟨1, _⟩ => rfl
    | ⟨2, _⟩ => rfl
    | ⟨3, _⟩ => rfl) ⟨rfl, by
    intro a
    match a with
    | ⟨0, _⟩ => show n.val + 1 ≤ 128; omega
    | ⟨1, _⟩ => show 0 + 2 ≤ 2; omega
    | ⟨2, _⟩ => show 0 + 64 ≤ 64; omega
    | ⟨3, _⟩ => show 0 + 1024 ≤ 1024; omega⟩
  refine (congrArg (fun z => shapeCast S2x64x1024 z shapeCasts_S1x2x64x1024_S2x64x1024 (ix3 b t d)) e).trans ?_
  pointwise

theorem putX (A : FVec Ideal S128x2x64x1024 .f32) (u : FVec Ideal S2x64x1024 .f32) (i : IVec S_ 32) (n : Fin 128) (hi : i = fun _ => BitVec.ofNat 32 n.val)
    (k : Fin 128) (b : Fin 2) (t : Fin 64) (d : Fin 1024) :
    Host.dynamicUpdateSlice A (broadcastInDim S1x2x64x1024 ![1, 2, 3] bcast_S2x64x1024_S1x2x64x1024_1_2_3 u) (fun k => (((![i, constantI S_ 32 0#32, constantI S_ 32 0#32, constantI S_ 32 0#32] : Fin 4 → IVec S_ 32)) k (Shape.Idx.first h_S_)).toInt) updateFits_S128x2x64x1024_S1x2x64x1024 (ix4 k b t d) = if k = n then u (ix3 b t d) else A (ix4 k b t d) := by
  have e := Host.dynamicUpdateSlice_eq_updateSlice A (broadcastInDim S1x2x64x1024 ![1, 2, 3] bcast_S2x64x1024_S1x2x64x1024_1_2_3 u) (fun k => (((![i, constantI S_ 32 0#32, constantI S_ 32 0#32, constantI S_ 32 0#32] : Fin 4 → IVec S_ 32)) k (Shape.Idx.first h_S_)).toInt) updateFits_S128x2x64x1024_S1x2x64x1024 ![n.val, 0, 0, 0] (by
    intro a
    match a with
    | ⟨0, _⟩ => subst hi; exact cl0 n
    | ⟨1, _⟩ => rfl
    | ⟨2, _⟩ => rfl
    | ⟨3, _⟩ => rfl) ⟨rfl, by
    intro a
    match a with
    | ⟨0, _⟩ => show n.val + 1 ≤ 128; omega
    | ⟨1, _⟩ => show 0 + 2 ≤ 2; omega
    | ⟨2, _⟩ => show 0 + 64 ≤ 64; omega
    | ⟨3, _⟩ => show 0 + 1024 ≤ 1024; omega⟩
  refine (congrFun e (ix4 k b t d)).trans ?_
  clear e
  pointwise
  by_cases hk : k = n
  · subst hk
    rw [dif_pos ⟨le_refl _, Nat.lt_succ_self _⟩, if_pos rfl]
  · have : ¬ (n.val ≤ k.val ∧ k.val < n.val + 1) := fun h => hk (Fin.ext (by omega))
    rw [dif_neg this, if_neg hk]

theorem foldl_sum {N : ℕ} (g : Fin N → EReal) (v : EReal) : (List.finRange N).foldl (fun r n => r + g n) v = v + ∑ n, g n := by
  rw [Fin.sum_univ_def]
  generalize List.finRange N = l
  induction l generalizing v with
  | nil => simp
  | cons a l ih => rw [List.foldl_cons, ih, List.map_cons, List.sum_cons, add_assoc]

theorem win_pos : ∀ n : Fin (⟨4, ![1, 1, 64, 1]⟩ : Shape).numel, (((⟨4, ![1, 1, 64, 1]⟩ : Shape).rowMajor.symm n) 0).val = 0 ∧ (((⟨4, ![1, 1, 64, 1]⟩ : Shape).rowMajor.symm n) 1).val = 0
    ∧ (((⟨4, ![1, 1, 64, 1]⟩ : Shape).rowMajor.symm n) 2).val = n.val ∧ (((⟨4, ![1, 1, 64, 1]⟩ : Shape).rowMajor.symm n) 3).val = 0 := by
  decide +kernel

theorem window_psum (f : ℕ → ℝ) (t : ℕ) (ht : t < 64) : (∑ n ∈ Finset.range 64, if 63 ≤ t + n then f (t + n - 63) else 0) = psum f (t + 1) := by
  rw [← Finset.sum_filter]
  unfold psum
  refine Finset.sum_nbij' (fun n => t + n - 63) (fun u => u + 63 - t) ?_ ?_ ?_ ?_ ?_
  · intro n hn
    simp only [Finset.mem_filter, Finset.mem_range] at hn ⊢
    omega
  · intro n hn
    simp only [Finset.mem_filter, Finset.mem_range] at hn ⊢
    omega
  · intro n hn
    simp only [Finset.mem_filter, Finset.mem_range] at hn ⊢
    omega
  · intro n hn
    simp only [Finset.mem_range] at hn ⊢
    omega
  · intro n _
    rfl

theorem cum_apply (x : FVec Ideal S2x4x64x64 .f32) (b : Fin 2) (h : Fin 4) (d : Fin 64) (f : ℕ → ℝ)
    (hx : ∀ t : Fin 64, x (ix4 b h t d) = ((f t.val : ℝ) : EReal)) (t : Fin 64) :
    (Host.reduceWindowAdd ![1, 1, 64, 1] ![1, 1, 1, 1] ![0, 0, 63, 0] ![0, 0, 0, 0] x (broadcastInDim S_ ![] bcast_S_S_ (constant S_ .f32 0x00000000#32)) reduceWindows_S2x4x64x64_S2x4x64x64_w1s1p0_0_w1s1p0_0_w64s1p63_0_w1s1p0_0 h_S_ : FVec Ideal S2x4x64x64 .f32) (ix4 b h t d)
      = ((psum f (t.val + 1) : ℝ) : EReal) := by
  have z : (broadcastInDim S_ ![] bcast_S_S_ (constant S_ .f32 0x00000000#32) : FVec Ideal S_ .f32) (Shape.Idx.first h_S_) = (0 : EReal) := Ideal.ofBits_zero_f32
  have hN : (⟨4, ![1, 1, 64, 1]⟩ : Shape).numel = 64 := by decide +kernel
  unfold Host.reduceWindowAdd
  show Host.reduceWindow (α := EReal) (· + ·) ![1, 1, 64, 1] ![1, 1, 1, 1] ![0, 0, 63, 0] ![0, 0, 0, 0] x (fun _ : (⟨0, ![]⟩ : Shape).Idx => _) reduceWindows_S2x4x64x64_S2x4x64x64_w1s1p0_0_w1s1p0_0_w64s1p63_0_w1s1p0_0 _ (ix4 b h t d) = _
  unfold Host.reduceWindow
  rw [foldl_sum]
  refine (congrArg₂ (· + ·) z (Finset.sum_congr rfl fun n _ => (?_ : _ = (((if 63 ≤ t.val + n.val then f (t.val + n.val - 63) else 0 : ℝ)) : EReal)))).trans ?_
  · obtain ⟨w0, w1, w2, w3⟩ := win_pos n
    dsimp only
    split
    · next hin =>
      have h2 := (hin 2).1
      change 63 ≤ t.val * 1 + (((⟨4, ![1, 1, 64, 1]⟩ : Shape).rowMajor.symm n) 2).val at h2
      rw [w2, Nat.mul_one] at h2
      rw [if_pos h2]
      have ht := t.isLt
      have hn : n.val < 64 := lt_of_lt_of_eq n.isLt hN
      refine (congrArg x (funext fun a => Fin.ext ?_)).trans (hx ⟨t.val + n.val - 63, by omega⟩)
      match a with
      | ⟨0, _⟩ =>
        show b.val * 1 + (((⟨4, ![1, 1, 64, 1]⟩ : Shape).rowMajor.symm n) 0).val - 0 = b.val
        rw [w0]; omega
      | ⟨1, _⟩ =>
        show h.val * 1 + (((⟨4, ![1, 1, 64, 1]⟩ : Shape).rowMajor.symm n) 1).val - 0 = h.val
        rw [w1]; omega
      | ⟨2, _⟩ =>
        show t.val * 1 + (((⟨4, ![1, 1, 64, 1]⟩ : Shape).rowMajor.symm n) 2).val - 63 = t.val + n.val - 63
        rw [w2]; omega
      | ⟨3, _⟩ =>
        show d.val * 1 + (((⟨4, ![1, 1, 64, 1]⟩ : Shape).rowMajor.symm n) 3).val - 0 = d.val
        rw [w3]; omega
    · next hin =>
      rw [if_neg fun hle => hin fun a => by
        have hb := b.isLt
        have hh := h.isLt
        have ht := t.isLt
        have hn : n.val < 64 := lt_of_lt_of_eq n.isLt hN
        have hd := d.isLt
        match a with
        | ⟨0, _⟩ =>
          show 0 ≤ b.val * 1 + (((⟨4, ![1, 1, 64, 1]⟩ : Shape).rowMajor.symm n) 0).val ∧ b.val * 1 + (((⟨4, ![1, 1, 64, 1]⟩ : Shape).rowMajor.symm n) 0).val - 0 < 2
          rw [w0]; omega
        | ⟨1, _⟩ =>
          show 0 ≤ h.val * 1 + (((⟨4, ![1, 1, 64, 1]⟩ : Shape).rowMajor.symm n) 1).val ∧ h.val * 1 + (((⟨4, ![1, 1, 64, 1]⟩ : Shape).rowMajor.symm n) 1).val - 0 < 4
          rw [w1]; omega
        | ⟨2, _⟩ =>
          show 63 ≤ t.val * 1 + (((⟨4, ![1, 1, 64, 1]⟩ : Shape).rowMajor.symm n) 2).val ∧ t.val * 1 + (((⟨4, ![1, 1, 64, 1]⟩ : Shape).rowMajor.symm n) 2).val - 63 < 64
          rw [w2]; omega
        | ⟨3, _⟩ =>
          show 0 ≤ d.val * 1 + (((⟨4, ![1, 1, 64, 1]⟩ : Shape).rowMajor.symm n) 3).val ∧ d.val * 1 + (((⟨4, ![1, 1, 64, 1]⟩ : Shape).rowMajor.symm n) 3).val - 0 < 64
          rw [w3]; omega]
      exact z
  · rw [zero_add, coe_sum, Fin.sum_univ_eq_sum_range (fun n => if 63 ≤ t.val + n then f (t.val + n - 63) else 0), hN, window_psum f t.val t.isLt]

end Cert.RMix
end
end
-- ==== Proof.Mix.RefVec.lean ====
module

public import proofs.«01_k».proof.Proof.Mix.Model
public import proofs.«01_k».proof.Proof.Mix.RefOps

/-! The reference's chunk step: its attention output, its new state and its rows of the result. -/

@[expose] public section

set_option maxRecDepth 16384

noncomputable section

namespace Cert.RMix

open Cert.Mix Cert.Reference2Ideal Cert.Reference2Ideal.Gen Cert.Reference2Ideal.Value Idealize.ShloMosaic Idealize.ShloMosaic.TcCoe Idealize.SL.Sem

/-- The chunk's attention output. -/
def oVec (q k c : FVec Ideal S2x4x64x64 .f32) (v : FVec Ideal S2x4x64x128 .f32) (st : FVec Ideal S2x4x64x128 .f32) (mask : IVec S1x1x64x64x1 1) : FVec Ideal S2x4x64x128 .f32 :=
  addf (Host.dotGeneral dot_S2x4x64x64_S2x4x64x128_S2x4x64x128_3_2_2_3_01_01 none (mulf q (Host.exp c)) st) (Host.dotGeneral dot_S2x4x64x64_S2x4x64x128_S2x4x64x128_3_2_2_3_01_01 none (Host.reduceAdd (mulf (mulf (broadcastInDim S2x4x64x64x64 ![0, 1, 2, 3, 4] bcast_S2x4x64x1x64_S2x4x64x64x64_0_1_2_3_4 (broadcastInDim S2x4x64x1x64 ![0, 1, 2, 4] bcast_S2x4x64x64_S2x4x64x1x64_0_1_2_4 q)) (broadcastInDim S2x4x64x64x64 ![0, 1, 2, 3, 4] bcast_S2x4x1x64x64_S2x4x64x64x64_0_1_2_3_4 (broadcastInDim S2x4x1x64x64 ![0, 1, 3, 4] bcast_S2x4x64x64_S2x4x1x64x64_0_1_3_4 k))) (Host.exp (select (broadcastInDim S2x4x64x64x64 ![0, 1, 2, 3, 4] bcast_S1x1x64x64x1_S2x4x64x64x64_0_1_2_3_4 mask) (subf (broadcastInDim S2x4x64x64x64 ![0, 1, 2, 3, 4] bcast_S2x4x64x1x64_S2x4x64x64x64_0_1_2_3_4 (broadcastInDim S2x4x64x1x64 ![0, 1, 2, 4] bcast_S2x4x64x64_S2x4x64x1x64_0_1_2_4 c)) (broadcastInDim S2x4x64x64x64 ![0, 1, 2, 3, 4] bcast_S2x4x1x64x64_S2x4x64x64x64_0_1_2_3_4 (broadcastInDim S2x4x1x64x64 ![0, 1, 3, 4] bcast_S2x4x64x64_S2x4x1x64x64_0_1_3_4 c))) (broadcastInDim S2x4x64x64x64 ![] bcast_S_S2x4x64x64x64 (id (constant S_ .f32 0xFF800000#32)))))) (constant S_ .f32 0x00000000#32) reducesTo_S2x4x64x64x64_S2x4x64x64_d4 h_S_) v)

/-- The state after the chunk. -/
def sVec (k c : FVec Ideal S2x4x64x64 .f32) (l : FVec Ideal S2x4x1x64 .f32) (v : FVec Ideal S2x4x64x128 .f32) (st : FVec Ideal S2x4x64x128 .f32) : FVec Ideal S2x4x64x128 .f32 :=
  (addf (mulf (broadcastInDim S2x4x64x128 ![0, 1, 2, 3] bcast_S2x4x64x1_S2x4x64x128_0_1_2_3 (broadcastInDim S2x4x64x1 ![0, 1, 2] bcast_S2x4x64_S2x4x64x1_0_1_2 (Host.exp (shapeCast S2x4x64 l shapeCasts_S2x4x1x64_S2x4x64)))) st) (Host.dotGeneral dot_S2x4x64x64_S2x4x64x128_S2x4x64x128_2_2_3_3_01_01 none (mulf k (Host.exp (subf (broadcastInDim S2x4x64x64 ![0, 1, 2, 3] bcast_S2x4x1x64_S2x4x64x64_0_1_2_3 l) c))) v))

/-- The chunk's rows of the result. -/
def uVec (o : FVec Ideal S2x4x64x128 .f32) (w : FVec Ideal S128 .f32) (g y : FVec Ideal S2x64x512 .f32) (x : FVec Ideal S2x64x1024 .f32) (wo : FVec Ideal S1024x1024 .f32) : FVec Ideal S2x64x1024 .f32 :=
  addf x (Host.dotGeneral dot_S2x64x1024_S1024x1024_S2x64x1024_2_0_01_1_n_n none (concatenate S2x64x1024 2 [⟨S2x64x512, (mulf (shapeCast S2x64x512 (transpose S2x64x4x128 [0, 2, 1, 3] (mulf (mulf o (broadcastInDim S2x4x64x128 ![0, 1, 2, 3] bcast_S2x4x64x1_S2x4x64x128_0_1_2_3 (Host.rsqrt (addf (Host.divf (broadcastInDim S2x4x64x1 ![0, 1, 2] bcast_S2x4x64_S2x4x64x1_0_1_2 (Host.reduceAdd (mulf o o) (constant S_ .f32 0x00000000#32) reducesTo_S2x4x64x128_S2x4x64_d3 h_S_)) (broadcastInDim S2x4x64x1 ![] bcast_S_S2x4x64x1 (constant S_ .f32 0x43000000#32))) (broadcastInDim S2x4x64x1 ![] bcast_S_S2x4x64x1 (constant S_ .f32 0x358637BD#32)))))) (broadcastInDim S2x4x64x128 ![0, 1, 2, 3] bcast_S1x1x1x128_S2x4x64x128_0_1_2_3 (broadcastInDim S1x1x1x128 ![3] bcast_S128_S1x1x1x128_3 w))) transposes_S2x4x64x128_S2x64x4x128_0_2_1_3) shapeCasts_S2x64x4x128_S2x64x512) (mulf g (Host.divf (broadcastInDim S2x64x512 ![] bcast_S_S2x64x512 (constant S_ .f32 0x3F800000#32)) (addf (broadcastInDim S2x64x512 ![] bcast_S_S2x64x512 (constant S_ .f32 0x3F800000#32)) (Host.exp (Host.negf g))))))⟩, ⟨S2x64x512, y⟩] concatenates_S2x64x512_S2x64x512_S2x64x1024_d2) wo)

theorem oVec_apply (q k c : FVec Ideal S2x4x64x64 .f32) (v : FVec Ideal S2x4x64x128 .f32) (st : FVec Ideal S2x4x64x128 .f32) (mask : IVec S1x1x64x64x1 1)
    (b : Fin 2) (h : Fin 4) (t : Fin 64) (e : Fin 128) : oVec q k c v st mask (ix4 b h t e)
    = (∑ d : Fin 64, q (ix4 b h t d) * Ideal.exp (c (ix4 b h t d)) * st (ix4 b h d e))
      + ∑ s : Fin 64, (∑ d : Fin 64, q (ix4 b h t d) * k (ix4 b h s d)
        * Ideal.exp (Scalar.select (mask (ix5 0 0 t s 0)) (c (ix4 b h t d) - c (ix4 b h s d)) (Ideal.ofBits .f32 0xFF800000#32))) * v (ix4 b h s e) := by
  unfold oVec
  pointwise
  rfl

theorem sVec_apply (k c : FVec Ideal S2x4x64x64 .f32) (l : FVec Ideal S2x4x1x64 .f32) (v : FVec Ideal S2x4x64x128 .f32) (st : FVec Ideal S2x4x64x128 .f32)
    (b : Fin 2) (h : Fin 4) (d : Fin 64) (e : Fin 128) : sVec k c l v st (ix4 b h d e)
    = Ideal.exp (l (ix4 b h 0 d)) * st (ix4 b h d e) + ∑ s : Fin 64, k (ix4 b h s d) * Ideal.exp (l (ix4 b h 0 d) - c (ix4 b h s d)) * v (ix4 b h s e) := by
  unfold sVec
  pointwise

theorem uVec_apply (o : FVec Ideal S2x4x64x128 .f32) (w : FVec Ideal S128 .f32) (g y : FVec Ideal S2x64x512 .f32) (x : FVec Ideal S2x64x1024 .f32) (wo : FVec Ideal S1024x1024 .f32)
    (b : Fin 2) (t : Fin 64) (j : Fin 1024) : uVec o w g y x wo (ix3 b t j)
    = x (ix3 b t j) + ∑ z : Fin 1024, (if h : z.val < 512 then gated (fun e => o (ix4 b ⟨z.val / 128, by omega⟩ t e)) (fun e => w (ix1 e))
        (fun e => g (ix3 b t ⟨128 * (z.val / 128) + e.val, by omega⟩)) ⟨z.val % 128, by omega⟩ else y (ix3 b t ⟨z.val - 512, by omega⟩)) * wo (ix2 z j) := by
  unfold uVec
  pointwise
  refine congrArg₂ (· + ·) rfl ?_
  refine congrArg₂ (fun a b : EReal => a + b) (Finset.sum_congr rfl fun z _ => congrArg₂ (· * ·) ?_ rfl) rfl
  have e : (⟨128 * (z.val / 128) + z.val % 128, by omega⟩ : Fin 512) = z := Fin.ext (Nat.div_add_mod _ _)
  refine Eq.trans (b := _ * _) (congrArg₂ (· * ·) rfl ?_) rfl
  exact (congrArg (fun q => g (ix3 b t q) * Ideal.logistic (g (ix3 b t q))) e).symm

theorem o_eq (V : Valuation τ sig (Elt Ideal)) : res_main_while0b_v124 V = oVec (res_main_while0b_v86 V) (res_main_while0b_v87 V) (res_main_while0b_v93 V) (res_main_while0b_v88 V)
    (V (Proc.devRef .tc main_v83_11)) (V (Proc.devRef .tc main_v83_7)) := rfl
theorem s_eq (V : Valuation τ sig (Elt Ideal)) : step_main_v83_11 V = sVec (res_main_while0b_v87 V) (res_main_while0b_v93 V) (res_main_while0b_v112 V) (res_main_while0b_v88 V)
    (V (Proc.devRef .tc main_v83_11)) := rfl
theorem l_apply (c : FVec Ideal S2x4x64x64 .f32) (b : Fin 2) (h : Fin 4) (d : Fin 64) : extractStridedSlice S2x4x1x64 ![0, 0, 63, 0] c slices_S2x4x64x64_S2x4x1x64_0_0_63_0 (ix4 b h 0 d) = c (ix4 b h 63 d) := by
  pointwise
theorem out_apply (c : FVec Ideal S128x2x64x1024 .f32) (b : Fin 2) (t : Fin 8192) (d : Fin 1024) :
    (shapeCast S2x8192x1024 (transpose S2x128x64x1024 [1, 0, 2, 3] c transposes_S128x2x64x1024_S2x128x64x1024_1_0_2_3) shapeCasts_S2x128x64x1024_S2x8192x1024 : FVec Ideal S2x8192x1024 .f32) (ix3 b t d)
      = c (ix4 ⟨t.val / 64, by omega⟩ b ⟨t.val % 64, by omega⟩ d) := by
  pointwise

end Cert.RMix
end
end
-- ==== Proof.Mix.RefStep.lean ====
module

public import proofs.«01_k».proof.Proof.Mix.RefVec
public import proofs.«01_k».proof.Proof.Mix.RefOps

/-! One trip of the reference's loop, and its invariant. -/

@[expose] public section

set_option maxRecDepth 16384

noncomputable section

namespace Cert.RMix

open Cert.Mix Cert.Reference2Ideal Cert.Reference2Ideal.Gen Cert.Reference2Ideal.Value Idealize.ShloMosaic Idealize.ShloMosaic.TcCoe Idealize.SL.Sem

/-! The carried arrays, typed. -/

abbrev Val := Valuation τ sig (Elt Ideal)

def c0 (V : Val) : FVec Ideal S128x2x4x64x64 .f32 := V (Proc.devRef .tc main_v83_0)
def c1 (V : Val) : FVec Ideal S128x2x4x64x64 .f32 := V (Proc.devRef .tc main_v83_1)
def c2 (V : Val) : FVec Ideal S128x2x4x64x128 .f32 := V (Proc.devRef .tc main_v83_2)
def c3 (V : Val) : FVec Ideal S128x2x4x64x64 .f32 := V (Proc.devRef .tc main_v83_3)
def c4 (V : Val) : FVec Ideal S128x2x64x512 .f32 := V (Proc.devRef .tc main_v83_4)
def c5 (V : Val) : FVec Ideal S128x2x64x512 .f32 := V (Proc.devRef .tc main_v83_5)
def c6 (V : Val) : FVec Ideal S128x2x64x1024 .f32 := V (Proc.devRef .tc main_v83_6)
def c7 (V : Val) : IVec S1x1x64x64x1 1 := V (Proc.devRef .tc main_v83_7)
def c8 (V : Val) : FVec Ideal S128 .f32 := V (Proc.devRef .tc main_v83_8)
def c9 (V : Val) : FVec Ideal S1024x1024 .f32 := V (Proc.devRef .tc main_v83_9)
def c11 (V : Val) : FVec Ideal S2x4x64x128 .f32 := V (Proc.devRef .tc main_v83_11)
def c12 (V : Val) : FVec Ideal S128x2x64x1024 .f32 := V (Proc.devRef .tc main_v83_12)
def ctr (V : Val) : IVec S_ 32 := V (Proc.devRef .tc main_v83_10)

/-- The chunk's tokens. -/
def xC (V : Val) : FVec Ideal S2x64x1024 .f32 := shapeCast S2x64x1024 (Host.dynamicSlice S1x2x64x1024 (c6 V) (fun k => (((![ctr V, constantI S_ 32 0#32, constantI S_ 32 0#32, constantI S_ 32 0#32] : Fin 4 → IVec S_ 32)) k (Shape.Idx.first h_S_)).toInt) sliceFits_S128x2x64x1024_S1x2x64x1024) shapeCasts_S1x2x64x1024_S2x64x1024

/-- The chunk's convolution. -/
def yC (V : Val) : FVec Ideal S2x64x512 .f32 := shapeCast S2x64x512 (Host.dynamicSlice S1x2x64x512 (c5 V) (fun k => (((![ctr V, constantI S_ 32 0#32, constantI S_ 32 0#32, constantI S_ 32 0#32] : Fin 4 → IVec S_ 32)) k (Shape.Idx.first h_S_)).toInt) sliceFits_S128x2x64x512_S1x2x64x512) shapeCasts_S1x2x64x512_S2x64x512

theorem botBits : Ideal.ofBits .f32 0xFF800000#32 = (⊥ : EReal) := by
  simp [Ideal.ofBits, Ideal.ieee]

section Chunk

variable (q k c : FVec Ideal S2x4x64x64 .f32) (l : FVec Ideal S2x4x1x64 .f32) (v st : FVec Ideal S2x4x64x128 .f32) (mask : IVec S1x1x64x64x1 1)
  (b : Fin 2) (h : Fin 4) (e : Fin 128) (Q K A : Fin 64 → ℕ → ℝ) (W : ℕ → ℝ) (S : Fin 64 → ℝ)

theorem oVec_real (hq : ∀ t d, q (ix4 b h t d) = ((Q d t.val : ℝ) : EReal)) (hk : ∀ t d, k (ix4 b h t d) = ((K d t.val : ℝ) : EReal))
    (hc : ∀ t d, c (ix4 b h t d) = ((psum (A d) (t.val + 1) : ℝ) : EReal)) (hv : ∀ t, v (ix4 b h t e) = ((W t.val : ℝ) : EReal))
    (hs : ∀ d, st (ix4 b h d e) = ((S d : ℝ) : EReal)) (hm : ∀ t s : Fin 64, mask (ix5 0 0 t s 0) = if s.val ≤ t.val then 1 else 0) (t : Fin 64) :
    oVec q k c v st mask (ix4 b h t e) = (((∑ d, Q d t.val * Real.exp (psum (A d) (t.val + 1)) * S d)
      + ∑ s : Fin 64, (if s.val ≤ t.val then score Q K A t.val s.val else 0) * W s.val : ℝ) : EReal) := by
  rw [oVec_apply, EReal.coe_add]
  refine congrArg₂ (· + ·) ?_ ?_
  · rw [← coe_sum]
    refine Finset.sum_congr rfl fun d _ => ?_
    rw [hq, hc, hs, Ideal.exp_coe, EReal.coe_mul, EReal.coe_mul]
  · rw [← coe_sum]
    refine Finset.sum_congr rfl fun s _ => ?_
    rw [EReal.coe_mul, hv]
    refine congrArg₂ (· * ·) ?_ rfl
    by_cases hst : s.val ≤ t.val
    · rw [if_pos hst]
      unfold score
      rw [← coe_sum]
      refine Finset.sum_congr rfl fun d _ => ?_
      rw [hm, if_pos hst, hq, hk, hc, hc]
      unfold Scalar.select
      rw [if_pos rfl, ← EReal.coe_sub, Ideal.exp_coe, EReal.coe_mul, EReal.coe_mul]
    · rw [if_neg hst]
      refine Finset.sum_eq_zero fun d _ => ?_
      rw [hm, if_neg hst, botBits]
      unfold Scalar.select
      rw [if_neg (by decide), Ideal.exp_bot, mul_zero]

theorem sVec_real (hk : ∀ t d, k (ix4 b h t d) = ((K d t.val : ℝ) : EReal)) (hc : ∀ t d, c (ix4 b h t d) = ((psum (A d) (t.val + 1) : ℝ) : EReal))
    (hl : ∀ d, l (ix4 b h 0 d) = ((psum (A d) 64 : ℝ) : EReal)) (hv : ∀ t, v (ix4 b h t e) = ((W t.val : ℝ) : EReal))
    (hs : ∀ d, st (ix4 b h d e) = ((S d : ℝ) : EReal)) (d : Fin 64) :
    sVec k c l v st (ix4 b h d e) = ((Real.exp (psum (A d) 64) * S d
      + ∑ s : Fin 64, K d s.val * Real.exp (psum (A d) 64 - psum (A d) (s.val + 1)) * W s.val : ℝ) : EReal) := by
  rw [sVec_apply, EReal.coe_add]
  refine congrArg₂ (· + ·) ?_ ?_
  · rw [hl, hs, Ideal.exp_coe, EReal.coe_mul]
  · rw [← coe_sum]
    refine Finset.sum_congr rfl fun s _ => ?_
    rw [hk, hl, hc, hv, ← EReal.coe_sub, Ideal.exp_coe, EReal.coe_mul, EReal.coe_mul]

end Chunk

section Heads

variable (P : Fin 2 → Par) (b : Fin 2) (h : Fin 4)

/-! One head's queries, keys, log-decays and values. -/

def qH (d : Fin 64) : ℕ → ℝ := qr (P b) ⟨64 * h.val + d.val, by omega⟩
def kH (d : Fin 64) : ℕ → ℝ := kr (P b) ⟨64 * h.val + d.val, by omega⟩
def aH (d : Fin 64) : ℕ → ℝ := ar (P b) ⟨64 * h.val + d.val, by omega⟩
def wH (e : Fin 128) : ℕ → ℝ := vr (P b) ⟨128 * h.val + e.val, by omega⟩

end Heads

/-- What the carried arrays hold before trip `k`. -/
structure Inv (P : Fin 2 → Par) (k : ℕ) (V : Val) : Prop where
  h0 : ∀ n b h t d, c0 V (ix5 n b h t d) = qv (P b) ⟨64 * h.val + d.val, by omega⟩ (64 * n.val + t.val)
  h1 : ∀ n b h t d, c1 V (ix5 n b h t d) = kv (P b) ⟨64 * h.val + d.val, by omega⟩ (64 * n.val + t.val)
  h2 : ∀ n b h t e, c2 V (ix5 n b h t e) = vv (P b) ⟨128 * h.val + e.val, by omega⟩ (64 * n.val + t.val)
  h3 : ∀ n b h t d, c3 V (ix5 n b h t d) = av (P b) ⟨64 * h.val + d.val, by omega⟩ (64 * n.val + t.val)
  h4 : ∀ n b t y, c4 V (ix4 n b t y) = proj (P b) (64 * n.val + t.val) ⟨1024 + y.val, by omega⟩
  h5 : ∀ n b t y, c5 V (ix4 n b t y) = conv (P b) (64 * n.val + t.val) y
  h6 : ∀ n b t j, c6 V (ix4 n b t j) = (P b).X (64 * n.val + t.val) j
  h7 : ∀ t s : Fin 64, c7 V (ix5 0 0 t s 0) = if s.val ≤ t.val then 1 else 0
  h8 : ∀ b e, c8 V (ix1 e) = (P b).go e
  h9 : ∀ b x j, c9 V (ix2 x j) = (P b).wo x j
  h10 : ctr V = fun _ => BitVec.ofNat 32 k
  h11 : ∀ b h d e, c11 V (ix4 b h d e) = ((stateAt (kH P b h) (aH P b h) (wH P b h e) (64 * k) d : ℝ) : EReal)
  h12 : ∀ (n : Fin 128) b t j, n.val < k → c12 V (ix4 n b t j) = x1 (P b) (64 * n.val + t.val) j

section Trip

variable {P : Fin 2 → Par} {V : Val} {n : Fin 128}

theorem q_chunk (R : ∀ b, (P b).Real) (I : Inv P n.val V) (b : Fin 2) (h : Fin 4) (t d : Fin 64) :
    (res_main_while0b_v86 V : FVec Ideal S2x4x64x64 .f32) (ix4 b h t d) = ((from' (64 * n.val) (qH P b h d) t.val : ℝ) : EReal) :=
  (chunkA (c0 V) (ctr V) n I.h10 b h t d).trans ((I.h0 n b h t d).trans (qv_eq (P b) (R b) _ _))
theorem k_chunk (R : ∀ b, (P b).Real) (I : Inv P n.val V) (b : Fin 2) (h : Fin 4) (t d : Fin 64) :
    (res_main_while0b_v87 V : FVec Ideal S2x4x64x64 .f32) (ix4 b h t d) = ((from' (64 * n.val) (kH P b h d) t.val : ℝ) : EReal) :=
  (chunkA (c1 V) (ctr V) n I.h10 b h t d).trans ((I.h1 n b h t d).trans (kv_eq (P b) (R b) _ _))
theorem v_chunk (R : ∀ b, (P b).Real) (I : Inv P n.val V) (b : Fin 2) (h : Fin 4) (t : Fin 64) (e : Fin 128) :
    (res_main_while0b_v88 V : FVec Ideal S2x4x64x128 .f32) (ix4 b h t e) = ((from' (64 * n.val) (wH P b h e) t.val : ℝ) : EReal) :=
  (chunkV (c2 V) (ctr V) n I.h10 b h t e).trans ((I.h2 n b h t e).trans (vv_eq (P b) (R b) _ _))
theorem c_chunk (R : ∀ b, (P b).Real) (I : Inv P n.val V) (b : Fin 2) (h : Fin 4) (t d : Fin 64) :
    (res_main_while0b_v93 V : FVec Ideal S2x4x64x64 .f32) (ix4 b h t d) = ((psum (from' (64 * n.val) (aH P b h d)) (t.val + 1) : ℝ) : EReal) :=
  cum_apply _ b h d _ (fun t => (chunkA (c3 V) (ctr V) n I.h10 b h t d).trans ((I.h3 n b h t d).trans (av_eq (P b) (R b) _ _))) t
theorem l_chunk (R : ∀ b, (P b).Real) (I : Inv P n.val V) (b : Fin 2) (h : Fin 4) (d : Fin 64) :
    (res_main_while0b_v112 V : FVec Ideal S2x4x1x64 .f32) (ix4 b h 0 d) = ((psum (from' (64 * n.val) (aH P b h d)) 64 : ℝ) : EReal) :=
  (l_apply _ b h d).trans (c_chunk R I b h 63 d)

/-- The chunk's attention output is the recurrence's. -/
theorem o_chunk (R : ∀ b, (P b).Real) (I : Inv P n.val V) (b : Fin 2) (h : Fin 4) (t : Fin 64) (e : Fin 128) :
    (res_main_while0b_v124 V : FVec Ideal S2x4x64x128 .f32) (ix4 b h t e) = ((oR (P b) h e (64 * n.val + t.val) : ℝ) : EReal) := by
  rw [o_eq, oR_head]
  refine (oVec_real _ _ _ _ _ _ b h e (fun d => from' (64 * n.val) (qH P b h d)) (fun d => from' (64 * n.val) (kH P b h d)) (fun d => from' (64 * n.val) (aH P b h d))
    (from' (64 * n.val) (wH P b h e)) _ (q_chunk R I b h) (k_chunk R I b h) (c_chunk R I b h) (fun t => v_chunk R I b h t e)
    (fun d => I.h11 b h d e) I.h7 t).trans (congrArg _ ?_)
  exact (outAt_block (qH P b h) (kH P b h) (aH P b h) (wH P b h e) (64 * n.val) 64 t).symm

/-- The state after the chunk is the recurrence's. -/
theorem s_chunk (R : ∀ b, (P b).Real) (I : Inv P n.val V) (b : Fin 2) (h : Fin 4) (d : Fin 64) (e : Fin 128) :
    c11 (STEP V) (ix4 b h d e) = ((stateAt (kH P b h) (aH P b h) (wH P b h e) (64 * (n.val + 1)) d : ℝ) : EReal) := by
  have E : c11 (STEP V) = _ := (STEP_main_v83_11 V).trans (s_eq V)
  rw [E]
  refine (sVec_real _ _ _ _ _ b h e (fun d => from' (64 * n.val) (kH P b h d)) (fun d => from' (64 * n.val) (aH P b h d))
    (from' (64 * n.val) (wH P b h e)) _ (k_chunk R I b h) (c_chunk R I b h) (l_chunk R I b h) (fun t => v_chunk R I b h t e)
    (fun d => I.h11 b h d e) d).trans (congrArg _ ?_)
  exact (stateAt_block (kH P b h) (aH P b h) (wH P b h e) (64 * n.val) 64 d).symm

theorem x_put (I : ctr V = fun _ => BitVec.ofNat 32 n.val) (k : Fin 128) (b : Fin 2) (t : Fin 64) (j : Fin 1024) :
    c12 (STEP V) (ix4 k b t j) = if k = n then uVec (res_main_while0b_v124 V) (c8 V) (res_main_while0b_v90 V) (yC V) (xC V) (c9 V) (ix3 b t j) else c12 V (ix4 k b t j) := by
  have E : c12 (STEP V) = _ := STEP_main_v83_12 V
  rw [E]
  exact putX (c12 V) _ (ctr V) n I k b t j

/-- The chunk's rows of the result. -/
theorem u_chunk (R : ∀ b, (P b).Real) (I : Inv P n.val V) (b : Fin 2) (t : Fin 64) (j : Fin 1024) :
    uVec (res_main_while0b_v124 V) (c8 V) (res_main_while0b_v90 V) (yC V) (xC V) (c9 V) (ix3 b t j) = x1 (P b) (64 * n.val + t.val) j := by
  rw [uVec_apply]
  unfold x1
  refine congrArg₂ (· + ·) ((chunkX (c6 V) (ctr V) n I.h10 b t j).trans (I.h6 n b t j)) (Finset.sum_congr rfl fun z _ => congrArg₂ (· * ·) ?_ (I.h9 b z j))
  unfold mix
  by_cases hz : z.val < 512
  · rw [dif_pos hz, dif_pos hz]
    have e1 : (fun e => (res_main_while0b_v124 V : FVec Ideal S2x4x64x128 .f32) (ix4 b ⟨z.val / 128, by omega⟩ t e))
        = fun e => ((oR (P b) ⟨z.val / 128, by omega⟩ e (64 * n.val + t.val) : ℝ) : EReal) := funext fun e => o_chunk R I b _ t e
    have e2 : (fun e => c8 V (ix1 e)) = (P b).go := funext fun e => I.h8 b e
    have e3 : (fun e : Fin 128 => (res_main_while0b_v90 V : FVec Ideal S2x64x512 .f32) (ix3 b t ⟨128 * (z.val / 128) + e.val, by omega⟩))
        = fun e => proj (P b) (64 * n.val + t.val) ⟨1024 + (128 * (z.val / 128) + e.val), by omega⟩ :=
      funext fun e => (chunkG (c4 V) (ctr V) n I.h10 b t _).trans (I.h4 n b t _)
    rw [e1, e2, e3]
  · rw [dif_neg hz, dif_neg hz]
    exact (chunkG (c5 V) (ctr V) n I.h10 b t _).trans (I.h5 n b t _)

/-- One trip keeps the invariant. -/
theorem Inv.step (R : ∀ b, (P b).Real) (I : Inv P n.val V) : Inv P (n.val + 1) (STEP V) where
  h0 := by
    have E : c0 (STEP V) = c0 V := STEP_main_v83_0 V
    rw [E]
    exact I.h0
  h1 := by
    have E : c1 (STEP V) = c1 V := STEP_main_v83_1 V
    rw [E]
    exact I.h1
  h2 := by
    have E : c2 (STEP V) = c2 V := STEP_main_v83_2 V
    rw [E]
    exact I.h2
  h3 := by
    have E : c3 (STEP V) = c3 V := STEP_main_v83_3 V
    rw [E]
    exact I.h3
  h4 := by
    have E : c4 (STEP V) = c4 V := STEP_main_v83_4 V
    rw [E]
    exact I.h4
  h5 := by
    have E : c5 (STEP V) = c5 V := STEP_main_v83_5 V
    rw [E]
    exact I.h5
  h6 := by
    have E : c6 (STEP V) = c6 V := STEP_main_v83_6 V
    rw [E]
    exact I.h6
  h7 := by
    have E : c7 (STEP V) = c7 V := STEP_main_v83_7 V
    rw [E]
    exact I.h7
  h8 := by
    have E : c8 (STEP V) = c8 V := STEP_main_v83_8 V
    rw [E]
    exact I.h8
  h9 := by
    have E : c9 (STEP V) = c9 V := STEP_main_v83_9 V
    rw [E]
    exact I.h9
  h10 := by
    have E : ctr (STEP V) = addi (ctr V) (constantI S_ 32 1#32) := STEP_main_v83_10 V
    rw [E, I.h10]
    funext i
    exact (BitVec.ofNat_add n.val 1).symm
  h11 := s_chunk R I
  h12 := by
    intro k b t j hk
    rw [x_put I.h10 k b t j]
    by_cases e : k = n
    · rw [if_pos e, e]
      exact u_chunk R I b t j
    · rw [if_neg e]
      refine I.h12 k b t j ?_
      have : k.val ≠ n.val := fun h => e (Fin.ext h)
      omega

end Trip

/-- The invariant after `k` trips. -/
theorem Inv.trips {P : Fin 2 → Par} {V : Val} (R : ∀ b, (P b).Real) (I : Inv P 0 V) : ∀ k ≤ 128, Inv P k (STEP^[k] V)
  | 0, _ => I
  | k + 1, hk => by
    rw [Function.iterate_succ_apply']
    exact Inv.step (n := ⟨k, hk⟩) R (Inv.trips R I k (by omega))

end Cert.RMix
end
end
-- ==== Proof.Mix.RefDefs.lean ====
module

public import proofs.«01_k».proof.Proof.Gen.Reference2Ideal.Run
public import Idealize.ShloMosaic.Lib.Pointwise

/-! What the reference's loop starts from, as functions of the arguments: the projections, the decays, the gates and the convolution, chunk by chunk. -/

@[expose] public section

set_option maxRecDepth 16384

noncomputable section

namespace Cert.RMix

open Cert.Reference2Ideal Cert.Reference2Ideal.Gen Cert.Reference2Ideal.Value Idealize.ShloMosaic Idealize.ShloMosaic.TcCoe Idealize.ShloMosaic.StableHlo Idealize.ShloMosaic.Tactic Idealize.SL.Sem

/-- The normalised tokens. -/
def rH (x : FVec Ideal S2x8192x1024 .f32) (g : FVec Ideal S1024 .f32) : FVec Ideal S2x8192x1024 .f32 :=
  (mulf (mulf x (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf x x) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 g)))

/-- Their projection. -/
def rP (h : FVec Ideal S2x8192x1024 .f32) (w : FVec Ideal S1024x3088 .f32) : FVec Ideal S2x8192x3088 .f32 :=
  (Host.dotGeneral dot_S2x8192x1024_S1024x3088_S2x8192x3088_2_0_01_1_n_n none h w)

/-- The queries, scaled, chunk by chunk and head by head. -/
def qB (p : FVec Ideal S2x8192x3088 .f32) : FVec Ideal S128x2x4x64x64 .f32 :=
  (transpose S128x2x4x64x64 [2, 0, 1, 3, 4] (shapeCast S2x4x128x64x64 (mulf (transpose S2x4x8192x64 [0, 2, 1, 3] (shapeCast S2x8192x4x64 (extractStridedSlice S2x8192x256 ![0, 0, 0] p slices_S2x8192x3088_S2x8192x256_0_0_0) shapeCasts_S2x8192x256_S2x8192x4x64) transposes_S2x8192x4x64_S2x4x8192x64_0_2_1_3) (broadcastInDim S2x4x8192x64 ![] bcast_S_S2x4x8192x64 (constant S_ .f32 0x3E000000#32))) shapeCasts_S2x4x8192x64_S2x4x128x64x64) transposes_S2x4x128x64x64_S128x2x4x64x64_2_0_1_3_4)

/-- The keys. -/
def kB (p : FVec Ideal S2x8192x3088 .f32) : FVec Ideal S128x2x4x64x64 .f32 :=
  (transpose S128x2x4x64x64 [2, 0, 1, 3, 4] (shapeCast S2x4x128x64x64 (transpose S2x4x8192x64 [0, 2, 1, 3] (shapeCast S2x8192x4x64 (extractStridedSlice S2x8192x256 ![0, 0, 256] p slices_S2x8192x3088_S2x8192x256_0_0_256) shapeCasts_S2x8192x256_S2x8192x4x64) transposes_S2x8192x4x64_S2x4x8192x64_0_2_1_3) shapeCasts_S2x4x8192x64_S2x4x128x64x64) transposes_S2x4x128x64x64_S128x2x4x64x64_2_0_1_3_4)

/-- The values. -/
def vB (p : FVec Ideal S2x8192x3088 .f32) : FVec Ideal S128x2x4x64x128 .f32 :=
  (transpose S128x2x4x64x128 [2, 0, 1, 3, 4] (shapeCast S2x4x128x64x128 (transpose S2x4x8192x128 [0, 2, 1, 3] (shapeCast S2x8192x4x128 (extractStridedSlice S2x8192x512 ![0, 0, 512] p slices_S2x8192x3088_S2x8192x512_0_0_512) shapeCasts_S2x8192x512_S2x8192x4x128) transposes_S2x8192x4x128_S2x4x8192x128_0_2_1_3) shapeCasts_S2x4x8192x128_S2x4x128x64x128) transposes_S2x4x128x64x128_S128x2x4x64x128_2_0_1_3_4)

/-- The decay's argument. -/
def zB (p : FVec Ideal S2x8192x3088 .f32) (wg : FVec Ideal S16x256 .f32) (bg : FVec Ideal S256 .f32) : FVec Ideal S2x8192x256 .f32 :=
  (addf (Host.dotGeneral dot_S2x8192x16_S16x256_S2x8192x256_2_0_01_1_n_n none (extractStridedSlice S2x8192x16 ![0, 0, 1536] p slices_S2x8192x3088_S2x8192x16_0_0_1536) wg) (broadcastInDim S2x8192x256 ![0, 1, 2] bcast_S1x1x256_S2x8192x256_0_1_2 (broadcastInDim S1x1x256 ![2] bcast_S256_S1x1x256_2 bg)))

/-- The log-decay. -/
def lB (z : FVec Ideal S2x8192x256 .f32) : FVec Ideal S2x8192x256 .f32 :=
  (Host.divf (Host.negf (select ((cmpf .une) (subf (Host.negf z) ((broadcastInDim S2x8192x256 ![] bcast_S_S2x8192x256) (constant S_ .f32 0x00000000#32))) (subf (Host.negf z) ((broadcastInDim S2x8192x256 ![] bcast_S_S2x8192x256) (constant S_ .f32 0x00000000#32)))) (addf (Host.negf z) ((broadcastInDim S2x8192x256 ![] bcast_S_S2x8192x256) (constant S_ .f32 0x00000000#32))) (addf (maximumf (Host.negf z) ((broadcastInDim S2x8192x256 ![] bcast_S_S2x8192x256) (constant S_ .f32 0x00000000#32))) (Host.log1p (Host.exp (Host.negf (Host.absf (subf (Host.negf z) ((broadcastInDim S2x8192x256 ![] bcast_S_S2x8192x256) (constant S_ .f32 0x00000000#32)))))))))) (broadcastInDim S2x8192x256 ![] bcast_S_S2x8192x256 (constant S_ .f32 0x41800000#32)))

/-- The log-decay, chunk by chunk and head by head. -/
def aB (l : FVec Ideal S2x8192x256 .f32) : FVec Ideal S128x2x4x64x64 .f32 :=
  (transpose S128x2x4x64x64 [2, 0, 1, 3, 4] (shapeCast S2x4x128x64x64 (transpose S2x4x8192x64 [0, 2, 1, 3] (shapeCast S2x8192x4x64 l shapeCasts_S2x8192x256_S2x8192x4x64) transposes_S2x8192x4x64_S2x4x8192x64_0_2_1_3) shapeCasts_S2x4x8192x64_S2x4x128x64x64) transposes_S2x4x128x64x64_S128x2x4x64x64_2_0_1_3_4)

/-- The gates. -/
def gB (p : FVec Ideal S2x8192x3088 .f32) : FVec Ideal S128x2x64x512 .f32 :=
  (transpose S128x2x64x512 [1, 0, 2, 3] (shapeCast S2x128x64x512 (extractStridedSlice S2x8192x512 ![0, 0, 1024] p slices_S2x8192x3088_S2x8192x512_0_0_1024) shapeCasts_S2x8192x512_S2x128x64x512) transposes_S2x128x64x512_S128x2x64x512_1_0_2_3)

/-- The convolution's input. -/
def uB (p : FVec Ideal S2x8192x3088 .f32) : FVec Ideal S2x8192x512 .f32 :=
  (mulf (extractStridedSlice S2x8192x512 ![0, 0, 2064] p slices_S2x8192x3088_S2x8192x512_0_0_2064) (extractStridedSlice S2x8192x512 ![0, 0, 2576] p slices_S2x8192x3088_S2x8192x512_0_0_2576))

/-- The convolution's input with two zero rows before it. -/
def dB (u : FVec Ideal S2x8192x512 .f32) : FVec Ideal S2x8194x512 .f32 :=
  (pad S2x8194x512 ![0, 2, 0] ![0, 0, 0] ![0, 0, 0] u ((sitofp .f32) (constantI S_ 32 0#32)) pads_S2x8192x512_S2x8194x512_000_200_000 h_S_)

/-- The convolution branch. -/
def yB (p : FVec Ideal S2x8192x3088 .f32) (pd : FVec Ideal S2x8194x512 .f32) (wc : FVec Ideal S3x512 .f32) : FVec Ideal S128x2x64x512 .f32 :=
  (transpose S128x2x64x512 [1, 0, 2, 3] (shapeCast S2x128x64x512 (mulf (extractStridedSlice S2x8192x512 ![0, 0, 1552] p slices_S2x8192x3088_S2x8192x512_0_0_1552) (addf (addf (addf (broadcastInDim S2x8192x512 ![] bcast_S_S2x8192x512 (constant S_ .f32 0x00000000#32)) (mulf (broadcastInDim S2x8192x512 ![0, 1, 2] bcast_S1x1x512_S2x8192x512_0_1_2 (broadcastInDim S1x1x512 ![2] bcast_S512_S1x1x512_2 (shapeCast S512 (extractStridedSlice S1x512 ![0, 0] wc slices_S3x512_S1x512_0_0) shapeCasts_S1x512_S512))) (extractStridedSlice S2x8192x512 ![0, 0, 0] pd slices_S2x8194x512_S2x8192x512_0_0_0))) (mulf (broadcastInDim S2x8192x512 ![0, 1, 2] bcast_S1x1x512_S2x8192x512_0_1_2 (broadcastInDim S1x1x512 ![2] bcast_S512_S1x1x512_2 (shapeCast S512 (extractStridedSlice S1x512 ![1, 0] wc slices_S3x512_S1x512_1_0) shapeCasts_S1x512_S512))) (extractStridedSlice S2x8192x512 ![0, 1, 0] pd slices_S2x8194x512_S2x8192x512_0_1_0))) (mulf (broadcastInDim S2x8192x512 ![0, 1, 2] bcast_S1x1x512_S2x8192x512_0_1_2 (broadcastInDim S1x1x512 ![2] bcast_S512_S1x1x512_2 (shapeCast S512 (extractStridedSlice S1x512 ![2, 0] wc slices_S3x512_S1x512_2_0) shapeCasts_S1x512_S512))) (extractStridedSlice S2x8192x512 ![0, 2, 0] pd slices_S2x8194x512_S2x8192x512_0_2_0)))) shapeCasts_S2x8192x512_S2x128x64x512) transposes_S2x128x64x512_S128x2x64x512_1_0_2_3)

/-- The tokens, chunk by chunk. -/
def xB (x : FVec Ideal S2x8192x1024 .f32) : FVec Ideal S128x2x64x1024 .f32 :=
  (transpose S128x2x64x1024 [1, 0, 2, 3] (shapeCast S2x128x64x1024 x shapeCasts_S2x8192x1024_S2x128x64x1024) transposes_S2x128x64x1024_S128x2x64x1024_1_0_2_3)

/-- The first state. -/
def tB  : FVec Ideal S2x4x64x128 .f32 :=
  (broadcastInDim S2x4x64x128 ![] bcast_S_S2x4x64x128 (constant S_ .f32 0x00000000#32))

/-- The causal mask. -/
def mB  : IVec S1x1x64x64x1 1 :=
  (broadcastInDim S1x1x64x64x1 ![2, 3] bcast_S64x64_S1x1x64x64x1_2_3 (select ((cmpi .sge) (addi (iotaInDim S64x64 32 0) ((broadcastInDim S64x64 ![] bcast_S_S64x64) (constantI S_ 32 0#32))) (iotaInDim S64x64 32 1)) (broadcastInDim S64x64 ![] bcast_S_S64x64 (constantI S_ 1 1#1)) ((broadcastInDim S64x64 ![] bcast_S_S64x64) (constantI S_ 1 0#1))))

end Cert.RMix
end
end
-- ==== Proof.Mix.RefEl.lean ====
module

public import proofs.«01_k».proof.Proof.Mix.RefDefs
public import proofs.«01_k».proof.Proof.Mix.Model

/-! The loop's inputs, element by element. -/

@[expose] public section

set_option maxRecDepth 16384

noncomputable section

namespace Cert.RMix

open Cert.Mix Cert.Reference2Ideal Cert.Reference2Ideal.Gen Cert.Reference2Ideal.Value Idealize.ShloMosaic Idealize.ShloMosaic.TcCoe Idealize.SL.Sem

variable (b : Fin 2) (n : Fin 128) (h : Fin 4) (t : Fin 64)

/-- Row `t` of chunk `n`. -/
def at' (n : Fin 128) (t : Fin 64) : Fin 8192 := ⟨n.val * 64 + t.val, by omega⟩

theorem rH_apply (x : FVec Ideal S2x8192x1024 .f32) (g : FVec Ideal S1024 .f32) (T : Fin 8192) (j : Fin 1024) :
    rH x g (ix3 b T j) = nrm (fun j => x (ix3 b T j)) (fun j => g (ix1 j)) j := by
  unfold rH
  pointwise
  rfl
theorem rP_apply (h : FVec Ideal S2x8192x1024 .f32) (w : FVec Ideal S1024x3088 .f32) (T : Fin 8192) (x : Fin 3088) :
    rP h w (ix3 b T x) = ∑ j, h (ix3 b T j) * w (ix2 j x) := by
  unfold rP
  pointwise
theorem qB_apply (p : FVec Ideal S2x8192x3088 .f32) (d : Fin 64) : qB p (ix5 n b h t d) = p (ix3 b (at' n t) ⟨h.val * 64 + d.val, by omega⟩) * Ideal.ofBits .f32 0x3E000000#32 := by
  unfold qB
  pointwise
  rfl
theorem kB_apply (p : FVec Ideal S2x8192x3088 .f32) (d : Fin 64) : kB p (ix5 n b h t d) = p (ix3 b (at' n t) ⟨256 + (h.val * 64 + d.val), by omega⟩) := by
  unfold kB
  pointwise
  rfl
theorem vB_apply (p : FVec Ideal S2x8192x3088 .f32) (d : Fin 128) : vB p (ix5 n b h t d) = p (ix3 b (at' n t) ⟨512 + (h.val * 128 + d.val), by omega⟩) := by
  unfold vB
  pointwise
  rfl
theorem zB_apply (p : FVec Ideal S2x8192x3088 .f32) (wg : FVec Ideal S16x256 .f32) (bg : FVec Ideal S256 .f32) (T : Fin 8192) (x : Fin 256) :
    zB p wg bg (ix3 b T x) = (∑ r : Fin 16, p (ix3 b T ⟨1536 + r.val, by omega⟩) * wg (ix2 r x)) + bg (ix1 x) := by
  unfold zB
  pointwise
theorem ofBits_16 : Ideal.ofBits .f32 0x41800000#32 = ((16 : ℝ) : EReal) := by
  simp [Ideal.ofBits, Ideal.ieee]
  rw [← EReal.coe_mul]
  norm_num
theorem lB_apply (z : FVec Ideal S2x8192x256 .f32) (T : Fin 8192) (x : Fin 256) (r : ℝ) (hy : z (ix3 b T x) = (r : EReal)) :
    lB z (ix3 b T x) = lsg (r : EReal) := by
  unfold lB
  pointwise
  rw [hy, if_neg (fun h => h rfl), ofBits_16]
  exact lsg_neg r
theorem aB_apply (l : FVec Ideal S2x8192x256 .f32) (d : Fin 64) : aB l (ix5 n b h t d) = l (ix3 b (at' n t) ⟨h.val * 64 + d.val, by omega⟩) := by
  unfold aB
  pointwise
  rfl
theorem gB_apply (p : FVec Ideal S2x8192x3088 .f32) (y : Fin 512) : gB p (ix4 n b t y) = p (ix3 b (at' n t) ⟨1024 + y.val, by omega⟩) := by
  unfold gB
  pointwise
  rfl
theorem uB_apply (p : FVec Ideal S2x8192x3088 .f32) (T : Fin 8192) (y : Fin 512) :
    uB p (ix3 b T y) = p (ix3 b T ⟨2064 + y.val, by omega⟩) * p (ix3 b T ⟨2576 + y.val, by omega⟩) := by
  unfold uB
  pointwise
theorem dB_apply (u : FVec Ideal S2x8192x512 .f32) (T : Fin 8194) (y : Fin 512) :
    dB u (ix3 b T y) = if h : 2 ≤ T.val then u (ix3 b ⟨T.val - 2, by omega⟩ y) else 0 := by
  unfold dB
  pointwise
  have z : (FloatOps.sitofp .f32 (0#32 : BitVec 32) : Ideal .f32) = (0 : EReal) := by
    show (((0#32 : BitVec 32).toInt : ℝ) : EReal) = 0
    simp
  by_cases hT : 2 ≤ T.val
  · rw [dif_pos ⟨hT, by omega⟩, dif_pos hT]
  · rw [dif_neg (fun h => hT h.1), dif_neg hT]
    exact z
theorem tB_apply (i : S2x4x64x128.Idx) : tB i = 0 := Ideal.ofBits_zero_f32
theorem yB_apply (p : FVec Ideal S2x8192x3088 .f32) (pd : FVec Ideal S2x8194x512 .f32) (wc : FVec Ideal S3x512 .f32) (y : Fin 512) :
    yB p pd wc (ix4 n b t y) = p (ix3 b (at' n t) ⟨1552 + y.val, by omega⟩)
      * (wc (ix2 0 y) * pd (ix3 b ⟨(at' n t).val, by omega⟩ y) + wc (ix2 1 y) * pd (ix3 b ⟨1 + (at' n t).val, by omega⟩ y)
        + wc (ix2 2 y) * pd (ix3 b ⟨2 + (at' n t).val, by omega⟩ y)) := by
  unfold yB
  pointwise
  rfl
theorem xB_apply (x : FVec Ideal S2x8192x1024 .f32) (j : Fin 1024) : xB x (ix4 n b t j) = x (ix3 b (at' n t) j) := by
  unfold xB
  pointwise
  rfl
theorem mB_apply (t s : Fin 64) : mB (ix5 0 0 t s 0) = if s.val ≤ t.val then 1 else 0 := by
  unfold mB
  pointwise
  revert t s
  decide +kernel

end Cert.RMix
end
end
-- ==== Proof.Mix.RefEntry.lean ====
module

public import proofs.«01_k».proof.Proof.Mix.RefDefs

/-! What the reference's loop starts from. -/

@[expose] public section

set_option maxRecDepth 16384

noncomputable section

namespace Cert.RMix

open Cert.Reference2Ideal Cert.Reference2Ideal.Gen Cert.Reference2Ideal.Value Idealize.ShloMosaic Idealize.ShloMosaic.TcCoe Idealize.ShloMosaic.StableHlo Idealize.ShloMosaic.Tactic Idealize.SL.Sem

variable (m : (ℓ : Loc nD τ sig) → Buf (Elt Ideal) ℓ) (c : Dev nD)

/-- The run's projection. -/
def pM : FVec Ideal S2x8192x3088 .f32 := rP (rH (m ((c.tc : Thread nD τ).loc main_arg0)) (m ((c.tc : Thread nD τ).loc main_arg1))) (m ((c.tc : Thread nD τ).loc main_arg2))

theorem entry0 : entryContents preI m c (Proc.devRef .tc main_v83_0) = qB (pM m c) := by
  simp only [entryContents, afterL_cons, afterL_nil]
  after_reads_simp
  rfl

theorem entry1 : entryContents preI m c (Proc.devRef .tc main_v83_1) = kB (pM m c) := by
  simp only [entryContents, afterL_cons, afterL_nil]
  after_reads_simp
  rfl

theorem entry2 : entryContents preI m c (Proc.devRef .tc main_v83_2) = vB (pM m c) := by
  simp only [entryContents, afterL_cons, afterL_nil]
  after_reads_simp
  rfl

theorem entry3 : entryContents preI m c (Proc.devRef .tc main_v83_3) = aB (lB (zB (pM m c) (m ((c.tc : Thread nD τ).loc main_arg3)) (m ((c.tc : Thread nD τ).loc main_arg4)))) := by
  simp only [entryContents, afterL_cons, afterL_nil]
  after_reads_simp
  rfl

theorem entry4 : entryContents preI m c (Proc.devRef .tc main_v83_4) = gB (pM m c) := by
  simp only [entryContents, afterL_cons, afterL_nil]
  after_reads_simp
  rfl

theorem entry5 : entryContents preI m c (Proc.devRef .tc main_v83_5) = yB (pM m c) (dB (uB (pM m c))) (m ((c.tc : Thread nD τ).loc main_arg6)) := by
  simp only [entryContents, afterL_cons, afterL_nil]
  after_reads_simp
  rfl

theorem entry6 : entryContents preI m c (Proc.devRef .tc main_v83_6) = xB (m ((c.tc : Thread nD τ).loc main_arg0)) := by
  simp only [entryContents, afterL_cons, afterL_nil]
  after_reads_simp
  rfl

theorem entry7 : entryContents preI m c (Proc.devRef .tc main_v83_7) = mB := by
  simp only [entryContents, afterL_cons, afterL_nil]
  after_reads_simp
  rfl

theorem entry8 : entryContents preI m c (Proc.devRef .tc main_v83_8) = (m ((c.tc : Thread nD τ).loc main_arg5)) := by
  simp only [entryContents, afterL_cons, afterL_nil]
  after_reads_simp
  rfl

theorem entry9 : entryContents preI m c (Proc.devRef .tc main_v83_9) = (m ((c.tc : Thread nD τ).loc main_arg7)) := by
  simp only [entryContents, afterL_cons, afterL_nil]
  after_reads_simp
  rfl

theorem entry11 : entryContents preI m c (Proc.devRef .tc main_v83_11) = tB := by
  simp only [entryContents, afterL_cons, afterL_nil]
  after_reads_simp
  rfl

end Cert.RMix
end
end
-- ==== Proof.Mix.RefResult.lean ====
module

public import proofs.«01_k».proof.Proof.Mix.RefStep
public import proofs.«01_k».proof.Proof.Mix.RefEl
public import proofs.«01_k».proof.Proof.Mix.RefEntry

/-! The reference's result is the model's first residual. -/

@[expose] public section

set_option maxRecDepth 16384

noncomputable section

namespace Cert.RMix

open Cert.Mix Cert.Reference2Ideal Cert.Reference2Ideal.Gen Cert.Reference2Ideal.Value Idealize.ShloMosaic Idealize.ShloMosaic.TcCoe Idealize.ShloMosaic.StableHlo Idealize.SL.Sem

variable (m : (ℓ : Loc nD τ sig) → Buf (Elt Ideal) ℓ) (c : Dev nD)

/-- The arguments of one batch row. -/
def parR (b : Fin 2) : Par :=
  parOf (fun b T j => m ((c.tc : Thread nD τ).loc main_arg0) (ix3 b T j)) (fun j => m ((c.tc : Thread nD τ).loc main_arg1) (ix1 j))
    (fun j x => m ((c.tc : Thread nD τ).loc main_arg2) (ix2 j x)) (fun r x => m ((c.tc : Thread nD τ).loc main_arg3) (ix2 r x))
    (fun x => m ((c.tc : Thread nD τ).loc main_arg4) (ix1 x)) (fun x => m ((c.tc : Thread nD τ).loc main_arg5) (ix1 x))
    (fun d y => m ((c.tc : Thread nD τ).loc main_arg6) (ix2 d y)) (fun x j => m ((c.tc : Thread nD τ).loc main_arg7) (ix2 x j)) b

/-- The tokens' rows. -/
theorem X_row (b : Fin 2) (T : Fin 8192) : (fun j => (m ((c.tc : Thread nD τ).loc main_arg0) : FVec Ideal S2x8192x1024 .f32) (ix3 b T j)) = (parR m c b).X T.val := by
  funext j
  unfold parR
  rw [parOf_X T.isLt]

/-- The run's projection is the model's. -/
theorem pM_apply (b : Fin 2) (T : Fin 8192) (x : Fin 3088) : pM m c (ix3 b T x) = proj (parR m c b) T.val x := by
  unfold pM
  rw [rP_apply]
  refine Finset.sum_congr rfl fun j _ => ?_
  rw [rH_apply, X_row]
  rfl

theorem at_val (n : Fin 128) (t : Fin 64) : (at' n t).val = 64 * n.val + t.val := by
  unfold at'
  simp only
  omega

/-- The projection at a row of a chunk. -/
theorem pM_chunk (b : Fin 2) (n : Fin 128) (t : Fin 64) (x : Fin 3088) : pM m c (ix3 b (at' n t) x) = proj (parR m c b) (64 * n.val + t.val) x := by
  rw [pM_apply, at_val]

/-- The decay's argument is the model's. -/
theorem zM_apply (b : Fin 2) (T : Fin 8192) (x : Fin 256) : zB (pM m c) (m ((c.tc : Thread nD τ).loc main_arg3)) (m ((c.tc : Thread nD τ).loc main_arg4)) (ix3 b T x) = zv (parR m c b) T.val x := by
  rw [zB_apply]
  refine congrArg₂ (· + ·) (Finset.sum_congr rfl fun r _ => ?_) rfl
  rw [pM_apply]
  rfl

theorem uM_apply (b : Fin 2) (T : Fin 8192) (y : Fin 512) : uB (pM m c) (ix3 b T y) = cuv (parR m c b) T.val y := by
  rw [uB_apply, pM_apply, pM_apply]
  rfl

/-- The convolution's input `d` positions back. -/
theorem dM_apply (b : Fin 2) (T : Fin 8192) (y : Fin 512) (k d : ℕ) (hd : k + d = 2) (hk : k + T.val < 8194) : dB (uB (pM m c)) (ix3 b ⟨k + T.val, hk⟩ y) = cm (parR m c b) d T.val y := by
  rw [dB_apply]
  unfold cm
  by_cases h : d ≤ T.val
  · rw [dif_pos (show 2 ≤ k + T.val by omega), if_pos h, uM_apply]
    exact congrArg (fun z => cuv _ z y) (show k + T.val - 2 = T.val - d by omega)
  · rw [dif_neg (show ¬ 2 ≤ k + T.val by omega), if_neg h]

theorem yM_apply (b : Fin 2) (n : Fin 128) (t : Fin 64) (y : Fin 512) : yB (pM m c) (dB (uB (pM m c))) (m ((c.tc : Thread nD τ).loc main_arg6)) (ix4 n b t y) = conv (parR m c b) (64 * n.val + t.val) y := by
  rw [yB_apply, pM_chunk]
  unfold conv
  rw [← at_val]
  refine congrArg₂ (· * ·) rfl (congrArg₂ (· + ·) (congrArg₂ (· + ·) (congrArg₂ (· * ·) rfl ?_) (congrArg₂ (· * ·) rfl ?_)) (congrArg₂ (· * ·) rfl ?_))
  · refine Eq.trans ?_ (dM_apply m c b (at' n t) y 0 2 rfl (by omega))
    exact congrArg (fun z => dB _ (ix3 b z y)) (Fin.ext (Nat.zero_add _).symm)
  · exact dM_apply m c b (at' n t) y 1 1 rfl (by omega)
  · refine (dM_apply m c b (at' n t) y 2 0 rfl (by omega)).trans ?_
    unfold cm
    rw [if_pos (Nat.zero_le _), Nat.sub_zero]

variable {m c}

/-- The loop starts in the model's state. -/
theorem inv0 (R : ∀ b, (parR m c b).Real) : Inv (parR m c) 0 (entryContents preI m c) where
  h0 := by
    intro n b h t d
    have E : c0 (entryContents preI m c) = _ := entry0 m c
    rw [E, qB_apply, pM_chunk]
    simp only [Nat.mul_comm h.val 64]
    rfl
  h1 := by
    intro n b h t d
    have E : c1 (entryContents preI m c) = _ := entry1 m c
    rw [E, kB_apply, pM_chunk]
    simp only [Nat.mul_comm h.val 64]
    rfl
  h2 := by
    intro n b h t d
    have E : c2 (entryContents preI m c) = _ := entry2 m c
    rw [E, vB_apply, pM_chunk]
    simp only [Nat.mul_comm h.val 128]
    rfl
  h3 := by
    intro n b h t d
    have E : c3 (entryContents preI m c) = _ := entry3 m c
    rw [E, aB_apply]
    simp only [Nat.mul_comm h.val 64]
    obtain ⟨r, hr⟩ := zv_real _ (R b) (64 * n.val + t.val) ⟨64 * h.val + d.val, by omega⟩
    rw [lB_apply b _ (at' n t) _ r (by rw [zM_apply, at_val]; exact hr)]
    unfold av
    rw [hr]
  h4 := by
    intro n b t y
    have E : c4 (entryContents preI m c) = _ := entry4 m c
    rw [E, gB_apply, pM_chunk]
  h5 := by
    intro n b t y
    have E : c5 (entryContents preI m c) = _ := entry5 m c
    rw [E, yM_apply]
  h6 := by
    intro n b t j
    have E : c6 (entryContents preI m c) = _ := entry6 m c
    rw [E, xB_apply, ← at_val, ← X_row]
  h7 := by
    intro t s
    have E : c7 (entryContents preI m c) = _ := entry7 m c
    rw [E, mB_apply]
  h8 := by
    intro b e
    have E : c8 (entryContents preI m c) = _ := entry8 m c
    rw [E]
    rfl
  h9 := by
    intro b x j
    have E : c9 (entryContents preI m c) = _ := entry9 m c
    rw [E]
    rfl
  h10 := ctr_entry m c
  h11 := by
    intro b h d e
    have E : c11 (entryContents preI m c) = _ := entry11 m c
    rw [E, tB_apply]
    rw [Nat.mul_zero, stateAt_zero]
    exact EReal.coe_zero.symm
  h12 n b t j hn := absurd hn (Nat.not_lt_zero _)

/-- The result array of the loop's last state. -/
theorem result_of {P : Fin 2 → Par} {V : Val} (I : Inv P 128 V) :
    (out_main_v85 V : FVec Ideal S2x8192x1024 .f32) = fun i : S2x8192x1024.Idx => x1 (P (i 0)) (i 1).val (i 2) := by
  refine funext fun (i : S2x8192x1024.Idx) => ?_
  obtain ⟨b, t, d, rfl⟩ : ∃ (b : Fin 2) (t : Fin 8192) (d : Fin 1024), i = ix3 b t d := ⟨i 0, i 1, i 2, eq_ix3 i⟩
  refine (out_apply (c12 V) b t d).trans ?_
  refine (I.h12 ⟨t.val / 64, by omega⟩ b ⟨t.val % 64, by omega⟩ d (by show t.val / 64 < 128; omega)).trans ?_
  exact congrArg (fun z => x1 (P b) z d) (Nat.div_add_mod _ _)

/-- The reference's result array. -/
theorem result (R : ∀ b, (parR m c b).Real) :
    (out_main_v85 (STEP^[128] (entryContents preI m c)) : FVec Ideal S2x8192x1024 .f32) = fun i : S2x8192x1024.Idx => x1 (parR m c (i 0)) (i 1).val (i 2) :=
  result_of (Inv.trips R (inv0 R) 128 le_rfl)

end Cert.RMix
end
end
-- ==== Proof.Mix.Pre.lean ====
module

public import proofs.«01_k».proof.Pre_all_finite
public import proofs.«01_k».proof.Proof.Mix.Model

/-! What the precondition says: the arguments the recurrence reads are real numbers. -/

@[expose] public section

set_option maxRecDepth 16384

noncomputable section

namespace Cert.Mix

open Idealize.ShloMosaic

/-- The side conditions the precondition's text states. -/
theorem preFacts : Cert.Pre_all_finite.Facts := by
  constructor <;> decide +kernel

theorem and1 {x y : BitVec 1} (h : IntOp.andi x y = 1#1) : x = 1#1 ∧ y = 1#1 := by
  revert x y
  decide

theorem fold_and {ι : Type} (f : ι → BitVec 1) : ∀ (l : List ι) (r : BitVec 1), l.foldl (fun r n => IntOp.andi r (f n)) r = 1#1 → r = 1#1 ∧ ∀ n ∈ l, f n = 1#1
  | [], r, h => ⟨h, fun _ hn => absurd hn (List.not_mem_nil)⟩
  | a :: l, r, h => by
    obtain ⟨h1, h2⟩ := fold_and f l _ h
    have h3 := and1 h1
    exact ⟨h3.1, fun n hn => (List.mem_cons.1 hn).elim (fun e => e ▸ h3.2) (h2 n)⟩

/-- A conjunction over a whole array holds at every element. -/
theorem reduce_and {s u : Shape} {axes : List (Fin s.rank)} {t : Shape} (ht : t.rank = 0) (x : s.Idx → BitVec 1) (v : u.Idx → BitVec 1) (h : s.ReducesTo axes t) (hu : 0 < u.numel)
    (j : t.Idx) (e : Host.reduce IntOp.andi x v h hu j = 1#1) (i : s.Idx) : x i = 1#1 := by
  unfold Host.reduce at e
  have := (fold_and _ _ _ e).2 (s.rowMajor i) (by
    rw [List.mem_filter]
    refine ⟨List.mem_finRange _, decide_eq_true ?_⟩
    funext k
    exact absurd k.isLt (by omega))
  rwa [Equiv.symm_apply_apply] at this

theorem infBits : Ideal.ofBits .f32 0x7F800000#32 = (⊤ : EReal) := by
  simp [Ideal.ofBits, Ideal.ieee]

/-- A value whose absolute value is below infinity is a real number. -/
theorem isR_of (x : EReal) (h : BitVec.ofBool (decide (max x (-x) < ⊤)) = 1#1) : IsR x := by
  have h' : max x (-x) < ⊤ := by
    by_contra hc
    rw [decide_eq_false hc] at h
    exact absurd h (by decide)
  induction x using EReal.rec with
  | bot => exact absurd h' (by simp)
  | top => exact absurd h' (by simp)
  | coe r => exact ⟨r, rfl⟩

theorem finite_of {s u t : Shape} {axes : List (Fin s.rank)} (ht : t.rank = 0) (a : FVec Ideal s .f32) (b : FVec Ideal s .f32) (hb : ∀ i, b i = (⊤ : EReal)) (v : u.Idx → BitVec 1)
    (h : s.ReducesTo axes t) (hu : 0 < u.numel) (j : t.Idx) (e : Host.reduce IntOp.andi (cmpf .olt (Host.absf a) b) v h hu j = 1#1) (i : s.Idx) : IsR (a i) := by
  have := reduce_and ht _ v h hu j e i
  refine isR_of _ (Eq.trans ?_ this)
  show _ = FloatOps.cmpf .olt (max (a i) (-(a i))) (b i)
  rw [hb i]
  rfl

/-- What the precondition says. -/
theorem pre_real [Cert.Pre_all_finite.Facts] (a0 : FVec Ideal Cert.Pre_all_finite.S2x8192x1024 .f32) (a1 : FVec Ideal Cert.Pre_all_finite.S1024 .f32) (a2 : FVec Ideal Cert.Pre_all_finite.S1024x3088 .f32)
    (a3 : FVec Ideal Cert.Pre_all_finite.S16x256 .f32) (a4 : FVec Ideal Cert.Pre_all_finite.S256 .f32) (a5 a6 a7 a8 a9 a10 a11 a12)
    (H : Cert.Pre_all_finite.fn (F := Ideal) a0 a1 a2 a3 a4 a5 a6 a7 a8 a9 a10 a11 a12 = fun _ => 1#1) :
    (∀ i, IsR (a0 i)) ∧ (∀ i, IsR (a1 i)) ∧ (∀ i, IsR (a2 i)) ∧ (∀ i, IsR (a3 i)) ∧ (∀ i, IsR (a4 i)) := by
  have H' := congrFun H (Shape.Idx.first (by decide +kernel))
  unfold Cert.Pre_all_finite.fn Cert.Pre_all_finite.fn_part1 at H'
  obtain ⟨H3, e4⟩ := and1 H'
  obtain ⟨H2, e3⟩ := and1 H3
  obtain ⟨H1, e2⟩ := and1 H2
  obtain ⟨e0, e1⟩ := and1 H1
  exact ⟨finite_of rfl _ _ (fun _ => infBits) _ _ _ _ e0, finite_of rfl _ _ (fun _ => infBits) _ _ _ _ e1, finite_of rfl _ _ (fun _ => infBits) _ _ _ _ e2,
    finite_of rfl _ _ (fun _ => infBits) _ _ _ _ e3, finite_of rfl _ _ (fun _ => infBits) _ _ _ _ e4⟩

end Cert.Mix
end
end
-- ==== Proof.Mix.Claims.lean ====
module

public import proofs.«01_k».proof.Defs
public import proofs.«01_k».proof.Proof.Mix.KBlocks
public import proofs.«01_k».proof.Proof.Mix.RefResult
public import proofs.«01_k».proof.Proof.Mix.Pre
public import Idealize.ShloMosaic.Lib.Quiescent

/-! The mixer's two runs side by side: the kernel's result array is the reference's. -/

@[expose] public section

set_option maxRecDepth 16384

noncomputable section

namespace Cert.MixClaims

open Idealize.ShloMosaic Idealize.ShloMosaic.TcCoe Idealize.SL.Sem

variable (m : (ℓ : Loc Kernel2Ideal.nD Kernel2Ideal.τ Kernel2Ideal.sig) → Buf (Elt Ideal) ℓ)
  (m' : (ℓ : Loc Reference2Ideal.nD Reference2Ideal.τ Reference2Ideal.sig) → Buf (Elt Ideal) ℓ)

/-- Equal arguments give one model. -/
theorem par_agree (c : Dev Kernel2Ideal.nD)
    (h0 : m' ((c.tc : Thread Reference2Ideal.nD Reference2Ideal.τ).loc Reference2Ideal.main_arg0) = m ((c.tc : Thread Kernel2Ideal.nD Kernel2Ideal.τ).loc Kernel2Ideal.main_arg0))
    (h1 : m' ((c.tc : Thread Reference2Ideal.nD Reference2Ideal.τ).loc Reference2Ideal.main_arg1) = m ((c.tc : Thread Kernel2Ideal.nD Kernel2Ideal.τ).loc Kernel2Ideal.main_arg1))
    (h2 : m' ((c.tc : Thread Reference2Ideal.nD Reference2Ideal.τ).loc Reference2Ideal.main_arg2) = m ((c.tc : Thread Kernel2Ideal.nD Kernel2Ideal.τ).loc Kernel2Ideal.main_arg2))
    (h3 : m' ((c.tc : Thread Reference2Ideal.nD Reference2Ideal.τ).loc Reference2Ideal.main_arg3) = m ((c.tc : Thread Kernel2Ideal.nD Kernel2Ideal.τ).loc Kernel2Ideal.main_arg3))
    (h4 : m' ((c.tc : Thread Reference2Ideal.nD Reference2Ideal.τ).loc Reference2Ideal.main_arg4) = m ((c.tc : Thread Kernel2Ideal.nD Kernel2Ideal.τ).loc Kernel2Ideal.main_arg4))
    (h5 : m' ((c.tc : Thread Reference2Ideal.nD Reference2Ideal.τ).loc Reference2Ideal.main_arg5) = m ((c.tc : Thread Kernel2Ideal.nD Kernel2Ideal.τ).loc Kernel2Ideal.main_arg5))
    (h6 : m' ((c.tc : Thread Reference2Ideal.nD Reference2Ideal.τ).loc Reference2Ideal.main_arg6) = m ((c.tc : Thread Kernel2Ideal.nD Kernel2Ideal.τ).loc Kernel2Ideal.main_arg6))
    (h7 : m' ((c.tc : Thread Reference2Ideal.nD Reference2Ideal.τ).loc Reference2Ideal.main_arg7) = m ((c.tc : Thread Kernel2Ideal.nD Kernel2Ideal.τ).loc Kernel2Ideal.main_arg7)) (b : Fin 2) :
    RMix.parR m' c b = Mix.parK m c b := by
  unfold RMix.parR Mix.parK
  rw [h0, h1, h2, h3, h4, h5, h6, h7]

/-- The precondition makes the arguments the recurrence reads real. -/
theorem par_real [Cert.Pre_all_finite.Facts] (H : Cert.Pre_Kernel2Ideal_all_finite m) (c : Dev Kernel2Ideal.nD) (b : Fin 2) : (Mix.parK m c b).Real := by
  obtain ⟨r0, r1, r2, r3, r4⟩ := Mix.pre_real _ _ _ _ _ _ _ _ _ _ _ _ _ (H c)
  exact Mix.parOf_real _ _ _ _ _ _ _ _ b (fun b T j => r0 _) (fun j => r1 _) (fun j x => r2 _) (fun r x => r3 _) (fun x => r4 _)

/-- The mixer's kernel and its reference end with one result. -/
theorem algebraic [Cert.Pre_all_finite.Facts] : Cert.algebraic_Kernel2Ideal_Reference2Ideal_pre_all_finite := by
  intro m g m' g' H hagree
  refine ⟨fun c => (fun i : Kernel2Ideal.S2x8192x1024.Idx => Mix.x1 (Mix.parK m c (i 0)) (i 1).val (i 2)), ?_, ?_⟩
  · refine (θ_run _ _ _).mono (fun r h c => ⟨?_, ?_⟩) (Kernel2Ideal.Value.run m g)
    · rw [(h c).1, ← Kernel2Ideal.Value.final13]
      exact Mix.result (par_real m H c)
    · exact (h c).2.2
  · refine (θ_run _ _ _).mono (fun r h c => ⟨?_, ?_⟩) (Reference2Ideal.Value.run m' g')
    · obtain ⟨h0, h1, h2, h3, h4, h5, h6, h7, h8, h9, h10, h11, h12⟩ := hagree c
      have E : RMix.parR m' c = Mix.parK m c := funext fun b => par_agree m m' c h0 h1 h2 h3 h4 h5 h6 h7 b
      have R : ∀ b, (RMix.parR m' c b).Real := fun b => by
        rw [E]
        exact par_real m H c b
      rw [(h c).1]
      refine (RMix.result R).trans ?_
      rw [E]
    · exact (h c).2

/-- The mixer's reference runs, keeps its arguments and leaves no semaphore counter. -/
theorem quiescent : Cert.quiescent_Reference2Ideal := by
  intro m g _
  refine (θ_run _ _ _).mono (fun r h => ⟨fun c => (h c).2, ?_⟩) (Reference2Ideal.Value.run m g)
  exact sem_eq_zero_of_no_sems (by decide) _

end Cert.MixClaims
end
end
-- ==== Proof.lean ====
/- The claims, each by its proof: the frames as generated, the references' frames and the value claims from Proof/Moe/ and Proof/Mix/. -/
module

public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Defs
public import proofs.«01_k».proof.Proof.Gen.Kernel.Frame
public import proofs.«01_k».proof.Proof.Moe.Claims
public import proofs.«01_k».proof.Proof.Mix.Claims

@[expose] public section

theorem Cert.Proof.claim : Cert.Claim :=
  haveI := Cert.Mix.preFacts
  ⟨Cert.Kernel.Gen.facts, Cert.KernelIdeal.Gen.facts, Cert.ReferenceIdeal.Gen.facts,
    Cert.Kernel2.Gen.facts, Cert.Kernel2Ideal.Gen.facts, Cert.Reference2Ideal.Gen.facts, Cert.Mix.preFacts,
    fun m g _ => Cert.Kernel.Gen.frame m g, fun m g _ => Cert.KernelIdeal.Gen.frame m g, Cert.Moe.quiescent,
    fun m g _ => Cert.Kernel2.Gen.frame m g, fun m g _ => Cert.Kernel2Ideal.Gen.frame m g, fun m g _ => Cert.Kernel2Ideal.Gen.frame m g,
    Cert.MixClaims.quiescent, fun m g _ => Cert.MixClaims.quiescent m g trivial,
    trivial, Cert.Moe.algebraic, trivial, Cert.MixClaims.algebraic⟩

end
